-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1024x16x1 : Shape := ⟨3, ![1024, 16, 1]⟩
abbrev S512x512 : Shape := ⟨2, ![512, 512]⟩
abbrev S512 : Shape := ⟨1, ![512]⟩
abbrev S512x128 : Shape := ⟨2, ![512, 128]⟩
abbrev S128 : Shape := ⟨1, ![128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S1024x16 : Shape := ⟨2, ![1024, 16]⟩
abbrev S16x1024 : Shape := ⟨2, ![16, 1024]⟩
abbrev S_ : Shape := ⟨0, ![]⟩
abbrev S2 : Shape := ⟨1, ![2]⟩
abbrev S32768 : Shape := ⟨1, ![32768]⟩
abbrev S32768x1 : Shape := ⟨2, ![32768, 1]⟩
abbrev S32768x2 : Shape := ⟨2, ![32768, 2]⟩
abbrev S16 : Shape := ⟨1, ![16]⟩
abbrev S1x2 : Shape := ⟨2, ![1, 2]⟩
abbrev S32768x2x1 : Shape := ⟨3, ![32768, 2, 1]⟩
abbrev S32768x2x2 : Shape := ⟨3, ![32768, 2, 2]⟩
abbrev S32768x1x2 : Shape := ⟨3, ![32768, 1, 2]⟩
abbrev S1x16 : Shape := ⟨2, ![1, 16]⟩
abbrev S32768x16 : Shape := ⟨2, ![32768, 16]⟩
abbrev S1024x32x16 : Shape := ⟨3, ![1024, 32, 16]⟩
abbrev S1024x32x16x1 : Shape := ⟨4, ![1024, 32, 16, 1]⟩
abbrev S1x1x1x16 : Shape := ⟨4, ![1, 1, 1, 16]⟩
abbrev S1024x32x16x16 : Shape := ⟨4, ![1024, 32, 16, 16]⟩
abbrev S1024x16x16 : Shape := ⟨3, ![1024, 16, 16]⟩
abbrev S1x16x1 : Shape := ⟨3, ![1, 16, 1]⟩
abbrev S1024x256 : Shape := ⟨2, ![1024, 256]⟩
abbrev S1x512 : Shape := ⟨2, ![1, 512]⟩
abbrev S1x128 : Shape := ⟨2, ![1, 128]⟩
abbrev S64x512 : Shape := ⟨2, ![64, 512]⟩
abbrev S1x64 : Shape := ⟨2, ![1, 64]⟩
abbrev S1x1 : Shape := ⟨2, ![1, 1]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S256x16 : Shape := ⟨2, ![256, 16]⟩

abbrev nBuf : Space → Nat
  | .hbm => 799
  | .vmem => 18
  | .smem => 0
  | _ => 0

abbrev hbmTy0_0 (i : Nat) : BufTy := match i % 128 with
  | 0 => ⟨S1024x512, .f32⟩
  | 1 => ⟨S1024x16x1, .f32⟩
  | 2 => ⟨S512x512, .f32⟩
  | 3 => ⟨S512, .f32⟩
  | 4 => ⟨S512x128, .f32⟩
  | 5 => ⟨S128, .f32⟩
  | 6 => ⟨S512x64, .f32⟩
  | 7 => ⟨S64, .f32⟩
  | 8 => ⟨S512x512, .f32⟩
  | 9 => ⟨S512, .f32⟩
  | 10 => ⟨S512x64, .f32⟩
  | 11 => ⟨S64, .f32⟩
  | 12 => ⟨S512x64, .f32⟩
  | 13 => ⟨S64, .f32⟩
  | 14 => ⟨S64x1, .f32⟩
  | 15 => ⟨S1, .f32⟩
  | 16 => ⟨S1024x16, .f32⟩
  | 17 => ⟨S16x1024, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S1, .i32⟩
  | 29 => ⟨S_, .i32⟩
  | 30 => ⟨S1, .i32⟩
  | 31 => ⟨S_, .i32⟩
  | 32 => ⟨S32768, .i64⟩
  | 33 => ⟨S_, .i64⟩
  | 34 => ⟨S32768, .i64⟩
  | 35 => ⟨S32768, .i64⟩
  | 36 => ⟨S_, .i64⟩
  | 37 => ⟨S32768, .i64⟩
  | 38 => ⟨S32768, .i64⟩
  | 39 => ⟨S32768, .i32⟩
  | 40 => ⟨S32768, .i32⟩
  | 41 => ⟨S_, .i32⟩
  | 42 => ⟨S_, .i32⟩
  | 43 => ⟨S_, .i32⟩
  | 44 => ⟨S32768, .i32⟩
  | 45 => ⟨S32768, .i32⟩
  | 46 => ⟨S32768, .i32⟩
  | 47 => ⟨S32768, .i32⟩
  | 48 => ⟨S32768, .i32⟩
  | 49 => ⟨S_, .i32⟩
  | 50 => ⟨S32768, .i32⟩
  | 51 => ⟨S32768, .i32⟩
  | 52 => ⟨S_, .i32⟩
  | 53 => ⟨S32768, .i32⟩
  | 54 => ⟨S32768, .i32⟩
  | 55 => ⟨S32768, .i32⟩
  | 56 => ⟨S32768, .i32⟩
  | 57 => ⟨S32768, .i32⟩
  | 58 => ⟨S_, .i32⟩
  | 59 => ⟨S32768, .i32⟩
  | 60 => ⟨S32768, .i32⟩
  | 61 => ⟨S_, .i32⟩
  | 62 => ⟨S32768, .i32⟩
  | 63 => ⟨S32768, .i32⟩
  | 64 => ⟨S32768, .i32⟩
  | 65 => ⟨S32768, .i32⟩
  | 66 => ⟨S32768, .i32⟩
  | 67 => ⟨S_, .i32⟩
  | 68 => ⟨S32768, .i32⟩
  | 69 => ⟨S32768, .i32⟩
  | 70 => ⟨S_, .i32⟩
  | 71 => ⟨S32768, .i32⟩
  | 72 => ⟨S32768, .i32⟩
  | 73 => ⟨S32768, .i32⟩
  | 74 => ⟨S32768, .i32⟩
  | 75 => ⟨S32768, .i32⟩
  | 76 => ⟨S_, .i32⟩
  | 77 => ⟨S32768, .i32⟩
  | 78 => ⟨S32768, .i32⟩
  | 79 => ⟨S_, .i32⟩
  | 80 => ⟨S32768, .i32⟩
  | 81 => ⟨S32768, .i32⟩
  | 82 => ⟨S32768, .i32⟩
  | 83 => ⟨S32768, .i32⟩
  | 84 => ⟨S32768, .i32⟩
  | 85 => ⟨S32768, .i32⟩
  | 86 => ⟨S32768, .i32⟩
  | 87 => ⟨S32768, .i32⟩
  | 88 => ⟨S_, .i32⟩
  | 89 => ⟨S32768, .i32⟩
  | 90 => ⟨S32768, .i32⟩
  | 91 => ⟨S32768, .i32⟩
  | 92 => ⟨S_, .i32⟩
  | 93 => ⟨S32768, .i32⟩
  | 94 => ⟨S32768, .i32⟩
  | 95 => ⟨S_, .i32⟩
  | 96 => ⟨S32768, .i32⟩
  | 97 => ⟨S32768, .i32⟩
  | 98 => ⟨S32768, .i32⟩
  | 99 => ⟨S32768, .i32⟩
  | 100 => ⟨S32768, .i32⟩
  | 101 => ⟨S_, .i32⟩
  | 102 => ⟨S32768, .i32⟩
  | 103 => ⟨S32768, .i32⟩
  | 104 => ⟨S_, .i32⟩
  | 105 => ⟨S32768, .i32⟩
  | 106 => ⟨S32768, .i32⟩
  | 107 => ⟨S32768, .i32⟩
  | 108 => ⟨S32768, .i32⟩
  | 109 => ⟨S32768, .i32⟩
  | 110 => ⟨S_, .i32⟩
  | 111 => ⟨S32768, .i32⟩
  | 112 => ⟨S32768, .i32⟩
  | 113 => ⟨S_, .i32⟩
  | 114 => ⟨S32768, .i32⟩
  | 115 => ⟨S32768, .i32⟩
  | 116 => ⟨S32768, .i32⟩
  | 117 => ⟨S32768, .i32⟩
  | 118 => ⟨S32768, .i32⟩
  | 119 => ⟨S_, .i32⟩
  | 120 => ⟨S32768, .i32⟩
  | 121 => ⟨S32768, .i32⟩
  | 122 => ⟨S_, .i32⟩
  | 123 => ⟨S32768, .i32⟩
  | 124 => ⟨S32768, .i32⟩
  | 125 => ⟨S32768, .i32⟩
  | 126 => ⟨S32768, .i32⟩
  | 127 => ⟨S32768, .i32⟩
  | _ => ⟨S1024x512, .f32⟩

abbrev hbmTy0_1 (i : Nat) : BufTy := match i % 128 with
  | 0 => ⟨S32768, .i32⟩
  | 1 => ⟨S32768, .i32⟩
  | 2 => ⟨S32768, .i32⟩
  | 3 => ⟨S_, .i32⟩
  | 4 => ⟨S32768, .i32⟩
  | 5 => ⟨S32768, .i32⟩
  | 6 => ⟨S32768, .i32⟩
  | 7 => ⟨S_, .i32⟩
  | 8 => ⟨S32768, .i32⟩
  | 9 => ⟨S32768, .i32⟩
  | 10 => ⟨S_, .i32⟩
  | 11 => ⟨S32768, .i32⟩
  | 12 => ⟨S32768, .i32⟩
  | 13 => ⟨S32768, .i32⟩
  | 14 => ⟨S32768, .i32⟩
  | 15 => ⟨S32768, .i32⟩
  | 16 => ⟨S_, .i32⟩
  | 17 => ⟨S32768, .i32⟩
  | 18 => ⟨S32768, .i32⟩
  | 19 => ⟨S_, .i32⟩
  | 20 => ⟨S32768, .i32⟩
  | 21 => ⟨S32768, .i32⟩
  | 22 => ⟨S32768, .i32⟩
  | 23 => ⟨S32768, .i32⟩
  | 24 => ⟨S32768, .i32⟩
  | 25 => ⟨S_, .i32⟩
  | 26 => ⟨S32768, .i32⟩
  | 27 => ⟨S32768, .i32⟩
  | 28 => ⟨S_, .i32⟩
  | 29 => ⟨S32768, .i32⟩
  | 30 => ⟨S32768, .i32⟩
  | 31 => ⟨S32768, .i32⟩
  | 32 => ⟨S32768, .i32⟩
  | 33 => ⟨S32768, .i32⟩
  | 34 => ⟨S_, .i32⟩
  | 35 => ⟨S32768, .i32⟩
  | 36 => ⟨S32768, .i32⟩
  | 37 => ⟨S_, .i32⟩
  | 38 => ⟨S32768, .i32⟩
  | 39 => ⟨S32768, .i32⟩
  | 40 => ⟨S32768, .i32⟩
  | 41 => ⟨S32768, .i32⟩
  | 42 => ⟨S32768, .i32⟩
  | 43 => ⟨S32768, .i32⟩
  | 44 => ⟨S32768, .i32⟩
  | 45 => ⟨S32768, .i32⟩
  | 46 => ⟨S_, .i32⟩
  | 47 => ⟨S32768, .i32⟩
  | 48 => ⟨S32768, .i32⟩
  | 49 => ⟨S32768, .i32⟩
  | 50 => ⟨S_, .i32⟩
  | 51 => ⟨S32768, .i32⟩
  | 52 => ⟨S32768, .i32⟩
  | 53 => ⟨S_, .i32⟩
  | 54 => ⟨S32768, .i32⟩
  | 55 => ⟨S32768, .i32⟩
  | 56 => ⟨S32768, .i32⟩
  | 57 => ⟨S32768, .i32⟩
  | 58 => ⟨S32768, .i32⟩
  | 59 => ⟨S_, .i32⟩
  | 60 => ⟨S32768, .i32⟩
  | 61 => ⟨S32768, .i32⟩
  | 62 => ⟨S_, .i32⟩
  | 63 => ⟨S32768, .i32⟩
  | 64 => ⟨S32768, .i32⟩
  | 65 => ⟨S32768, .i32⟩
  | 66 => ⟨S32768, .i32⟩
  | 67 => ⟨S32768, .i32⟩
  | 68 => ⟨S_, .i32⟩
  | 69 => ⟨S32768, .i32⟩
  | 70 => ⟨S32768, .i32⟩
  | 71 => ⟨S_, .i32⟩
  | 72 => ⟨S32768, .i32⟩
  | 73 => ⟨S32768, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i32⟩
  | 80 => ⟨S_, .i32⟩
  | 81 => ⟨S32768, .i32⟩
  | 82 => ⟨S32768, .i32⟩
  | 83 => ⟨S32768, .i32⟩
  | 84 => ⟨S32768, .i32⟩
  | 85 => ⟨S32768, .i32⟩
  | 86 => ⟨S32768, .i32⟩
  | 87 => ⟨S32768, .i32⟩
  | 88 => ⟨S32768, .i32⟩
  | 89 => ⟨S_, .i32⟩
  | 90 => ⟨S32768, .i32⟩
  | 91 => ⟨S32768, .i32⟩
  | 92 => ⟨S32768, .i32⟩
  | 93 => ⟨S_, .i32⟩
  | 94 => ⟨S32768, .i32⟩
  | 95 => ⟨S32768, .i32⟩
  | 96 => ⟨S_, .i32⟩
  | 97 => ⟨S32768, .i32⟩
  | 98 => ⟨S32768, .i32⟩
  | 99 => ⟨S32768, .i32⟩
  | 100 => ⟨S32768, .i32⟩
  | 101 => ⟨S32768, .i32⟩
  | 102 => ⟨S_, .i32⟩
  | 103 => ⟨S32768, .i32⟩
  | 104 => ⟨S32768, .i32⟩
  | 105 => ⟨S_, .i32⟩
  | 106 => ⟨S32768, .i32⟩
  | 107 => ⟨S32768, .i32⟩
  | 108 => ⟨S32768, .i32⟩
  | 109 => ⟨S32768, .i32⟩
  | 110 => ⟨S32768, .i32⟩
  | 111 => ⟨S_, .i32⟩
  | 112 => ⟨S32768, .i32⟩
  | 113 => ⟨S32768, .i32⟩
  | 114 => ⟨S_, .i32⟩
  | 115 => ⟨S32768, .i32⟩
  | 116 => ⟨S32768, .i32⟩
  | 117 => ⟨S32768, .i32⟩
  | 118 => ⟨S32768, .i32⟩
  | 119 => ⟨S32768, .i32⟩
  | 120 => ⟨S_, .i32⟩
  | 121 => ⟨S32768, .i32⟩
  | 122 => ⟨S32768, .i32⟩
  | 123 => ⟨S_, .i32⟩
  | 124 => ⟨S32768, .i32⟩
  | 125 => ⟨S32768, .i32⟩
  | 126 => ⟨S32768, .i32⟩
  | 127 => ⟨S32768, .i32⟩
  | _ => ⟨S1024x512, .f32⟩

abbrev hbmTy0_2 (i : Nat) : BufTy := match i % 128 with
  | 0 => ⟨S32768, .i32⟩
  | 1 => ⟨S32768, .i32⟩
  | 2 => ⟨S32768, .i32⟩
  | 3 => ⟨S32768, .i32⟩
  | 4 => ⟨S_, .i32⟩
  | 5 => ⟨S32768, .i32⟩
  | 6 => ⟨S32768, .i32⟩
  | 7 => ⟨S32768x1, .i32⟩
  | 8 => ⟨S32768x1, .i32⟩
  | 9 => ⟨S32768x2, .i32⟩
  | 10 => ⟨S16, .i32⟩
  | 11 => ⟨S32768x1, .i32⟩
  | 12 => ⟨S32768, .i32⟩
  | 13 => ⟨S32768x1, .i32⟩
  | 14 => ⟨S32768, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S1x2, .i32⟩
  | 25 => ⟨S1x2, .i32⟩
  | 26 => ⟨S32768x1, .i32⟩
  | 27 => ⟨S32768x1, .i32⟩
  | 28 => ⟨S32768x1, .i32⟩
  | 29 => ⟨S_, .i32⟩
  | 30 => ⟨S32768x1, .i32⟩
  | 31 => ⟨S32768x1, .i32⟩
  | 32 => ⟨S32768x2, .i32⟩
  | 33 => ⟨S32768x2, .i32⟩
  | 34 => ⟨S32768x2, .i32⟩
  | 35 => ⟨S32768x2, .i32⟩
  | 36 => ⟨S32768x2, .i32⟩
  | 37 => ⟨S32768x2, .i32⟩
  | 38 => ⟨S32768x2, .i32⟩
  | 39 => ⟨S_, .i32⟩
  | 40 => ⟨S32768x2, .i32⟩
  | 41 => ⟨S32768x2, .i32⟩
  | 42 => ⟨S_, .i32⟩
  | 43 => ⟨S32768x2, .i32⟩
  | 44 => ⟨S32768x2, .i32⟩
  | 45 => ⟨S32768x2, .i32⟩
  | 46 => ⟨S32768x2, .i32⟩
  | 47 => ⟨S32768x2, .i32⟩
  | 48 => ⟨S_, .i32⟩
  | 49 => ⟨S32768x2, .i32⟩
  | 50 => ⟨S32768x2, .i32⟩
  | 51 => ⟨S_, .i32⟩
  | 52 => ⟨S32768x2, .i32⟩
  | 53 => ⟨S32768x2, .i32⟩
  | 54 => ⟨S32768x2, .i32⟩
  | 55 => ⟨S32768x2, .i32⟩
  | 56 => ⟨S32768x2, .i32⟩
  | 57 => ⟨S_, .i32⟩
  | 58 => ⟨S32768x2, .i32⟩
  | 59 => ⟨S32768x2, .i32⟩
  | 60 => ⟨S_, .i32⟩
  | 61 => ⟨S32768x2, .i32⟩
  | 62 => ⟨S32768x2, .i32⟩
  | 63 => ⟨S32768x2, .i32⟩
  | 64 => ⟨S32768x2, .i32⟩
  | 65 => ⟨S32768x2, .i32⟩
  | 66 => ⟨S_, .i32⟩
  | 67 => ⟨S32768x2, .i32⟩
  | 68 => ⟨S32768x2, .i32⟩
  | 69 => ⟨S_, .i32⟩
  | 70 => ⟨S32768x2, .i32⟩
  | 71 => ⟨S32768x2, .i32⟩
  | 72 => ⟨S32768x2, .i32⟩
  | 73 => ⟨S32768x2, .i32⟩
  | 74 => ⟨S32768x2, .i32⟩
  | 75 => ⟨S32768x2, .i32⟩
  | 76 => ⟨S32768x2, .i32⟩
  | 77 => ⟨S32768x2, .i32⟩
  | 78 => ⟨S_, .i32⟩
  | 79 => ⟨S32768x2, .i32⟩
  | 80 => ⟨S32768x2, .i32⟩
  | 81 => ⟨S32768x2, .i32⟩
  | 82 => ⟨S_, .i32⟩
  | 83 => ⟨S32768x2, .i32⟩
  | 84 => ⟨S32768x2, .i32⟩
  | 85 => ⟨S_, .i32⟩
  | 86 => ⟨S32768x2, .i32⟩
  | 87 => ⟨S32768x2, .i32⟩
  | 88 => ⟨S32768x2, .i32⟩
  | 89 => ⟨S32768x2, .i32⟩
  | 90 => ⟨S32768x2, .i32⟩
  | 91 => ⟨S_, .i32⟩
  | 92 => ⟨S32768x2, .i32⟩
  | 93 => ⟨S32768x2, .i32⟩
  | 94 => ⟨S_, .i32⟩
  | 95 => ⟨S32768x2, .i32⟩
  | 96 => ⟨S32768x2, .i32⟩
  | 97 => ⟨S32768x2, .i32⟩
  | 98 => ⟨S32768x2, .i32⟩
  | 99 => ⟨S32768x2, .i32⟩
  | 100 => ⟨S_, .i32⟩
  | 101 => ⟨S32768x2, .i32⟩
  | 102 => ⟨S32768x2, .i32⟩
  | 103 => ⟨S_, .i32⟩
  | 104 => ⟨S32768x2, .i32⟩
  | 105 => ⟨S32768x2, .i32⟩
  | 106 => ⟨S32768x2, .i32⟩
  | 107 => ⟨S32768x2, .i32⟩
  | 108 => ⟨S32768x2, .i32⟩
  | 109 => ⟨S_, .i32⟩
  | 110 => ⟨S32768x2, .i32⟩
  | 111 => ⟨S32768x2, .i32⟩
  | 112 => ⟨S_, .i32⟩
  | 113 => ⟨S32768x2, .i32⟩
  | 114 => ⟨S32768x2, .i32⟩
  | 115 => ⟨S32768x2, .i32⟩
  | 116 => ⟨S32768x2, .i32⟩
  | 117 => ⟨S32768x2, .i32⟩
  | 118 => ⟨S32768x2, .i32⟩
  | 119 => ⟨S32768x2, .i32⟩
  | 120 => ⟨S32768x2, .i32⟩
  | 121 => ⟨S_, .i32⟩
  | 122 => ⟨S32768x2, .i32⟩
  | 123 => ⟨S32768x2, .i32⟩
  | 124 => ⟨S32768x2, .i32⟩
  | 125 => ⟨S_, .i32⟩
  | 126 => ⟨S32768x2, .i32⟩
  | 127 => ⟨S32768x2, .i32⟩
  | _ => ⟨S1024x512, .f32⟩

abbrev hbmTy0_3 (i : Nat) : BufTy := match i % 128 with
  | 0 => ⟨S_, .i32⟩
  | 1 => ⟨S32768x2, .i32⟩
  | 2 => ⟨S32768x2, .i32⟩
  | 3 => ⟨S32768x2, .i32⟩
  | 4 => ⟨S32768x2, .i32⟩
  | 5 => ⟨S32768x2, .i32⟩
  | 6 => ⟨S_, .i32⟩
  | 7 => ⟨S32768x2, .i32⟩
  | 8 => ⟨S32768x2, .i32⟩
  | 9 => ⟨S_, .i32⟩
  | 10 => ⟨S32768x2, .i32⟩
  | 11 => ⟨S32768x2, .i32⟩
  | 12 => ⟨S32768x2, .i32⟩
  | 13 => ⟨S32768x2, .i32⟩
  | 14 => ⟨S32768x2, .i32⟩
  | 15 => ⟨S_, .i32⟩
  | 16 => ⟨S32768x2, .i32⟩
  | 17 => ⟨S32768x2, .i32⟩
  | 18 => ⟨S_, .i32⟩
  | 19 => ⟨S32768x2, .i32⟩
  | 20 => ⟨S32768x2, .i32⟩
  | 21 => ⟨S32768x2, .i32⟩
  | 22 => ⟨S32768x2, .i32⟩
  | 23 => ⟨S32768x2, .i32⟩
  | 24 => ⟨S_, .i32⟩
  | 25 => ⟨S32768x2, .i32⟩
  | 26 => ⟨S32768x2, .i32⟩
  | 27 => ⟨S_, .i32⟩
  | 28 => ⟨S32768x2, .i32⟩
  | 29 => ⟨S32768x2, .i32⟩
  | 30 => ⟨S32768x2, .i32⟩
  | 31 => ⟨S32768x2, .i32⟩
  | 32 => ⟨S32768x2, .i32⟩
  | 33 => ⟨S32768x2, .i32⟩
  | 34 => ⟨S32768x2, .i32⟩
  | 35 => ⟨S32768x2, .i32⟩
  | 36 => ⟨S_, .i32⟩
  | 37 => ⟨S32768x2, .i32⟩
  | 38 => ⟨S32768x2, .i32⟩
  | 39 => ⟨S32768x2, .i32⟩
  | 40 => ⟨S_, .i32⟩
  | 41 => ⟨S32768x2, .i32⟩
  | 42 => ⟨S32768x2, .i32⟩
  | 43 => ⟨S_, .i32⟩
  | 44 => ⟨S32768x2, .i32⟩
  | 45 => ⟨S32768x2, .i32⟩
  | 46 => ⟨S32768x2, .i32⟩
  | 47 => ⟨S32768x2, .i32⟩
  | 48 => ⟨S32768x2, .i32⟩
  | 49 => ⟨S_, .i32⟩
  | 50 => ⟨S32768x2, .i32⟩
  | 51 => ⟨S32768x2, .i32⟩
  | 52 => ⟨S_, .i32⟩
  | 53 => ⟨S32768x2, .i32⟩
  | 54 => ⟨S32768x2, .i32⟩
  | 55 => ⟨S32768x2, .i32⟩
  | 56 => ⟨S32768x2, .i32⟩
  | 57 => ⟨S32768x2, .i32⟩
  | 58 => ⟨S_, .i32⟩
  | 59 => ⟨S32768x2, .i32⟩
  | 60 => ⟨S32768x2, .i32⟩
  | 61 => ⟨S_, .i32⟩
  | 62 => ⟨S32768x2, .i32⟩
  | 63 => ⟨S32768x2, .i32⟩
  | 64 => ⟨S32768x2, .i32⟩
  | 65 => ⟨S32768x2, .i32⟩
  | 66 => ⟨S32768x2, .i32⟩
  | 67 => ⟨S_, .i32⟩
  | 68 => ⟨S32768x2, .i32⟩
  | 69 => ⟨S32768x2, .i32⟩
  | 70 => ⟨S_, .i32⟩
  | 71 => ⟨S32768x2, .i32⟩
  | 72 => ⟨S32768x2, .i32⟩
  | 73 => ⟨S32768x2, .i32⟩
  | 74 => ⟨S32768x2, .i32⟩
  | 75 => ⟨S32768x2, .i32⟩
  | 76 => ⟨S32768x2, .i32⟩
  | 77 => ⟨S32768x2, .i32⟩
  | 78 => ⟨S32768x2, .i32⟩
  | 79 => ⟨S_, .i32⟩
  | 80 => ⟨S32768x2, .i32⟩
  | 81 => ⟨S32768x2, .i32⟩
  | 82 => ⟨S32768x2, .i32⟩
  | 83 => ⟨S_, .i32⟩
  | 84 => ⟨S32768x2, .i32⟩
  | 85 => ⟨S32768x2, .i32⟩
  | 86 => ⟨S_, .i32⟩
  | 87 => ⟨S32768x2, .i32⟩
  | 88 => ⟨S32768x2, .i32⟩
  | 89 => ⟨S32768x2, .i32⟩
  | 90 => ⟨S32768x2, .i32⟩
  | 91 => ⟨S32768x2, .i32⟩
  | 92 => ⟨S_, .i32⟩
  | 93 => ⟨S32768x2, .i32⟩
  | 94 => ⟨S32768x2, .i32⟩
  | 95 => ⟨S_, .i32⟩
  | 96 => ⟨S32768x2, .i32⟩
  | 97 => ⟨S32768x2, .i32⟩
  | 98 => ⟨S32768x2, .i32⟩
  | 99 => ⟨S32768x2, .i32⟩
  | 100 => ⟨S32768x2, .i32⟩
  | 101 => ⟨S_, .i32⟩
  | 102 => ⟨S32768x2, .i32⟩
  | 103 => ⟨S32768x2, .i32⟩
  | 104 => ⟨S_, .i32⟩
  | 105 => ⟨S32768x2, .i32⟩
  | 106 => ⟨S32768x2, .i32⟩
  | 107 => ⟨S32768x2, .i32⟩
  | 108 => ⟨S32768x2, .i32⟩
  | 109 => ⟨S32768x2, .i32⟩
  | 110 => ⟨S_, .i32⟩
  | 111 => ⟨S32768x2, .i32⟩
  | 112 => ⟨S32768x2, .i32⟩
  | 113 => ⟨S_, .i32⟩
  | 114 => ⟨S32768x2, .i32⟩
  | 115 => ⟨S32768x2, .i32⟩
  | 116 => ⟨S32768x2, .i32⟩
  | 117 => ⟨S32768x2, .i32⟩
  | 118 => ⟨S32768x2, .i32⟩
  | 119 => ⟨S32768x2, .i32⟩
  | 120 => ⟨S32768x2, .i32⟩
  | 121 => ⟨S32768x2, .i32⟩
  | 122 => ⟨S_, .i32⟩
  | 123 => ⟨S32768x2, .i32⟩
  | 124 => ⟨S32768x2, .i32⟩
  | 125 => ⟨S32768x2x1, .i32⟩
  | 126 => ⟨S32768x2x1, .i32⟩
  | 127 => ⟨S32768x2x2, .i32⟩
  | _ => ⟨S1024x512, .f32⟩

abbrev hbmTy0_4 (i : Nat) : BufTy := match i % 128 with
  | 0 => ⟨S32768x1x2, .i32⟩
  | 1 => ⟨S32768x2, .i32⟩
  | 2 => ⟨S32768x1x2, .i32⟩
  | 3 => ⟨S32768x2, .i32⟩
  | 4 => ⟨S32768x1, .i32⟩
  | 5 => ⟨S32768, .i32⟩
  | 6 => ⟨S32768x1, .i32⟩
  | 7 => ⟨S32768, .i32⟩
  | 8 => ⟨S16, .i64⟩
  | 9 => ⟨S_, .i64⟩
  | 10 => ⟨S16, .i64⟩
  | 11 => ⟨S16, .i64⟩
  | 12 => ⟨S_, .i64⟩
  | 13 => ⟨S16, .i64⟩
  | 14 => ⟨S16, .i64⟩
  | 15 => ⟨S16, .i32⟩
  | 16 => ⟨S16, .i32⟩
  | 17 => ⟨S1x16, .i32⟩
  | 18 => ⟨S1x16, .i32⟩
  | 19 => ⟨S32768x1, .i32⟩
  | 20 => ⟨S32768x1, .i32⟩
  | 21 => ⟨S32768x1, .i32⟩
  | 22 => ⟨S_, .i32⟩
  | 23 => ⟨S32768x1, .i32⟩
  | 24 => ⟨S32768x1, .i32⟩
  | 25 => ⟨S32768x16, .i32⟩
  | 26 => ⟨S32768x16, .i32⟩
  | 27 => ⟨S32768x16, .i32⟩
  | 28 => ⟨S32768x16, .i32⟩
  | 29 => ⟨S32768x16, .i32⟩
  | 30 => ⟨S32768x16, .i32⟩
  | 31 => ⟨S32768x16, .i32⟩
  | 32 => ⟨S_, .i32⟩
  | 33 => ⟨S32768x16, .i32⟩
  | 34 => ⟨S32768x16, .i32⟩
  | 35 => ⟨S_, .i32⟩
  | 36 => ⟨S32768x16, .i32⟩
  | 37 => ⟨S32768x16, .i32⟩
  | 38 => ⟨S32768x16, .i32⟩
  | 39 => ⟨S32768x16, .i32⟩
  | 40 => ⟨S32768x16, .i32⟩
  | 41 => ⟨S_, .i32⟩
  | 42 => ⟨S32768x16, .i32⟩
  | 43 => ⟨S32768x16, .i32⟩
  | 44 => ⟨S_, .i32⟩
  | 45 => ⟨S32768x16, .i32⟩
  | 46 => ⟨S32768x16, .i32⟩
  | 47 => ⟨S32768x16, .i32⟩
  | 48 => ⟨S32768x16, .i32⟩
  | 49 => ⟨S32768x16, .i32⟩
  | 50 => ⟨S_, .i32⟩
  | 51 => ⟨S32768x16, .i32⟩
  | 52 => ⟨S32768x16, .i32⟩
  | 53 => ⟨S_, .i32⟩
  | 54 => ⟨S32768x16, .i32⟩
  | 55 => ⟨S32768x16, .i32⟩
  | 56 => ⟨S32768x16, .i32⟩
  | 57 => ⟨S32768x16, .i32⟩
  | 58 => ⟨S32768x16, .i32⟩
  | 59 => ⟨S_, .i32⟩
  | 60 => ⟨S32768x16, .i32⟩
  | 61 => ⟨S32768x16, .i32⟩
  | 62 => ⟨S_, .i32⟩
  | 63 => ⟨S32768x16, .i32⟩
  | 64 => ⟨S32768x16, .i32⟩
  | 65 => ⟨S32768x16, .i32⟩
  | 66 => ⟨S32768x16, .i32⟩
  | 67 => ⟨S32768x16, .i32⟩
  | 68 => ⟨S32768x16, .i32⟩
  | 69 => ⟨S32768x16, .i32⟩
  | 70 => ⟨S32768x16, .i32⟩
  | 71 => ⟨S_, .i32⟩
  | 72 => ⟨S32768x16, .i32⟩
  | 73 => ⟨S32768x16, .i32⟩
  | 74 => ⟨S32768x16, .i32⟩
  | 75 => ⟨S_, .i32⟩
  | 76 => ⟨S32768x16, .i32⟩
  | 77 => ⟨S32768x16, .i32⟩
  | 78 => ⟨S_, .i32⟩
  | 79 => ⟨S32768x16, .i32⟩
  | 80 => ⟨S32768x16, .i32⟩
  | 81 => ⟨S32768x16, .i32⟩
  | 82 => ⟨S32768x16, .i32⟩
  | 83 => ⟨S32768x16, .i32⟩
  | 84 => ⟨S_, .i32⟩
  | 85 => ⟨S32768x16, .i32⟩
  | 86 => ⟨S32768x16, .i32⟩
  | 87 => ⟨S_, .i32⟩
  | 88 => ⟨S32768x16, .i32⟩
  | 89 => ⟨S32768x16, .i32⟩
  | 90 => ⟨S32768x16, .i32⟩
  | 91 => ⟨S32768x16, .i32⟩
  | 92 => ⟨S32768x16, .i32⟩
  | 93 => ⟨S_, .i32⟩
  | 94 => ⟨S32768x16, .i32⟩
  | 95 => ⟨S32768x16, .i32⟩
  | 96 => ⟨S_, .i32⟩
  | 97 => ⟨S32768x16, .i32⟩
  | 98 => ⟨S32768x16, .i32⟩
  | 99 => ⟨S32768x16, .i32⟩
  | 100 => ⟨S32768x16, .i32⟩
  | 101 => ⟨S32768x16, .i32⟩
  | 102 => ⟨S_, .i32⟩
  | 103 => ⟨S32768x16, .i32⟩
  | 104 => ⟨S32768x16, .i32⟩
  | 105 => ⟨S_, .i32⟩
  | 106 => ⟨S32768x16, .i32⟩
  | 107 => ⟨S32768x16, .i32⟩
  | 108 => ⟨S32768x16, .i32⟩
  | 109 => ⟨S32768x16, .i32⟩
  | 110 => ⟨S32768x16, .i32⟩
  | 111 => ⟨S32768x16, .i32⟩
  | 112 => ⟨S32768x16, .i32⟩
  | 113 => ⟨S32768x16, .i32⟩
  | 114 => ⟨S_, .i32⟩
  | 115 => ⟨S32768x16, .i32⟩
  | 116 => ⟨S32768x16, .i32⟩
  | 117 => ⟨S32768x16, .i32⟩
  | 118 => ⟨S_, .i32⟩
  | 119 => ⟨S32768x16, .i32⟩
  | 120 => ⟨S32768x16, .i32⟩
  | 121 => ⟨S_, .i32⟩
  | 122 => ⟨S32768x16, .i32⟩
  | 123 => ⟨S32768x16, .i32⟩
  | 124 => ⟨S32768x16, .i32⟩
  | 125 => ⟨S32768x16, .i32⟩
  | 126 => ⟨S32768x16, .i32⟩
  | 127 => ⟨S_, .i32⟩
  | _ => ⟨S1024x512, .f32⟩

abbrev hbmTy0_5 (i : Nat) : BufTy := match i % 128 with
  | 0 => ⟨S32768x16, .i32⟩
  | 1 => ⟨S32768x16, .i32⟩
  | 2 => ⟨S_, .i32⟩
  | 3 => ⟨S32768x16, .i32⟩
  | 4 => ⟨S32768x16, .i32⟩
  | 5 => ⟨S32768x16, .i32⟩
  | 6 => ⟨S32768x16, .i32⟩
  | 7 => ⟨S32768x16, .i32⟩
  | 8 => ⟨S_, .i32⟩
  | 9 => ⟨S32768x16, .i32⟩
  | 10 => ⟨S32768x16, .i32⟩
  | 11 => ⟨S_, .i32⟩
  | 12 => ⟨S32768x16, .i32⟩
  | 13 => ⟨S32768x16, .i32⟩
  | 14 => ⟨S32768x16, .i32⟩
  | 15 => ⟨S32768x16, .i32⟩
  | 16 => ⟨S32768x16, .i32⟩
  | 17 => ⟨S_, .i32⟩
  | 18 => ⟨S32768x16, .i32⟩
  | 19 => ⟨S32768x16, .i32⟩
  | 20 => ⟨S_, .i32⟩
  | 21 => ⟨S32768x16, .i32⟩
  | 22 => ⟨S32768x16, .i32⟩
  | 23 => ⟨S32768x16, .i32⟩
  | 24 => ⟨S32768x16, .i32⟩
  | 25 => ⟨S32768x16, .i32⟩
  | 26 => ⟨S32768x16, .i32⟩
  | 27 => ⟨S32768x16, .i32⟩
  | 28 => ⟨S32768x16, .i32⟩
  | 29 => ⟨S_, .i32⟩
  | 30 => ⟨S32768x16, .i32⟩
  | 31 => ⟨S32768x16, .i32⟩
  | 32 => ⟨S32768x16, .i32⟩
  | 33 => ⟨S_, .i32⟩
  | 34 => ⟨S32768x16, .i32⟩
  | 35 => ⟨S32768x16, .i32⟩
  | 36 => ⟨S_, .i32⟩
  | 37 => ⟨S32768x16, .i32⟩
  | 38 => ⟨S32768x16, .i32⟩
  | 39 => ⟨S32768x16, .i32⟩
  | 40 => ⟨S32768x16, .i32⟩
  | 41 => ⟨S32768x16, .i32⟩
  | 42 => ⟨S_, .i32⟩
  | 43 => ⟨S32768x16, .i32⟩
  | 44 => ⟨S32768x16, .i32⟩
  | 45 => ⟨S_, .i32⟩
  | 46 => ⟨S32768x16, .i32⟩
  | 47 => ⟨S32768x16, .i32⟩
  | 48 => ⟨S32768x16, .i32⟩
  | 49 => ⟨S32768x16, .i32⟩
  | 50 => ⟨S32768x16, .i32⟩
  | 51 => ⟨S_, .i32⟩
  | 52 => ⟨S32768x16, .i32⟩
  | 53 => ⟨S32768x16, .i32⟩
  | 54 => ⟨S_, .i32⟩
  | 55 => ⟨S32768x16, .i32⟩
  | 56 => ⟨S32768x16, .i32⟩
  | 57 => ⟨S32768x16, .i32⟩
  | 58 => ⟨S32768x16, .i32⟩
  | 59 => ⟨S32768x16, .i32⟩
  | 60 => ⟨S_, .i32⟩
  | 61 => ⟨S32768x16, .i32⟩
  | 62 => ⟨S32768x16, .i32⟩
  | 63 => ⟨S_, .i32⟩
  | 64 => ⟨S32768x16, .i32⟩
  | 65 => ⟨S32768x16, .i32⟩
  | 66 => ⟨S32768x16, .i32⟩
  | 67 => ⟨S32768x16, .i32⟩
  | 68 => ⟨S32768x16, .i32⟩
  | 69 => ⟨S32768x16, .i32⟩
  | 70 => ⟨S32768x16, .i32⟩
  | 71 => ⟨S32768x16, .i32⟩
  | 72 => ⟨S_, .i32⟩
  | 73 => ⟨S32768x16, .i32⟩
  | 74 => ⟨S32768x16, .i32⟩
  | 75 => ⟨S32768x16, .i32⟩
  | 76 => ⟨S_, .i32⟩
  | 77 => ⟨S32768x16, .i32⟩
  | 78 => ⟨S32768x16, .i32⟩
  | 79 => ⟨S_, .i32⟩
  | 80 => ⟨S32768x16, .i32⟩
  | 81 => ⟨S32768x16, .i32⟩
  | 82 => ⟨S32768x16, .i32⟩
  | 83 => ⟨S32768x16, .i32⟩
  | 84 => ⟨S32768x16, .i32⟩
  | 85 => ⟨S_, .i32⟩
  | 86 => ⟨S32768x16, .i32⟩
  | 87 => ⟨S32768x16, .i32⟩
  | 88 => ⟨S_, .i32⟩
  | 89 => ⟨S32768x16, .i32⟩
  | 90 => ⟨S32768x16, .i32⟩
  | 91 => ⟨S32768x16, .i32⟩
  | 92 => ⟨S32768x16, .i32⟩
  | 93 => ⟨S32768x16, .i32⟩
  | 94 => ⟨S_, .i32⟩
  | 95 => ⟨S32768x16, .i32⟩
  | 96 => ⟨S32768x16, .i32⟩
  | 97 => ⟨S_, .i32⟩
  | 98 => ⟨S32768x16, .i32⟩
  | 99 => ⟨S32768x16, .i32⟩
  | 100 => ⟨S32768x16, .i32⟩
  | 101 => ⟨S32768x16, .i32⟩
  | 102 => ⟨S32768x16, .i32⟩
  | 103 => ⟨S_, .i32⟩
  | 104 => ⟨S32768x16, .i32⟩
  | 105 => ⟨S32768x16, .i32⟩
  | 106 => ⟨S_, .i32⟩
  | 107 => ⟨S32768x16, .i32⟩
  | 108 => ⟨S32768x16, .i32⟩
  | 109 => ⟨S32768x16, .i32⟩
  | 110 => ⟨S32768x16, .i32⟩
  | 111 => ⟨S32768x16, .i32⟩
  | 112 => ⟨S32768x16, .i32⟩
  | 113 => ⟨S32768x16, .i32⟩
  | 114 => ⟨S32768x16, .i32⟩
  | 115 => ⟨S_, .i32⟩
  | 116 => ⟨S32768x16, .i32⟩
  | 117 => ⟨S32768x16, .i32⟩
  | 118 => ⟨S32768x16, .i32⟩
  | 119 => ⟨S32768x16, .i32⟩
  | 120 => ⟨S32768x16, .i32⟩
  | 121 => ⟨S32768x16, .i32⟩
  | 122 => ⟨S32768x16, .i32⟩
  | 123 => ⟨S32768x16, .i32⟩
  | 124 => ⟨S32768x16, .i32⟩
  | 125 => ⟨S1024x32x16, .i32⟩
  | 126 => ⟨S1024x32x16x1, .i32⟩
  | 127 => ⟨S1x1x1x16, .i32⟩
  | _ => ⟨S1024x512, .f32⟩

abbrev hbmTy0_6 (i : Nat) : BufTy := match i % 128 with
  | 0 => ⟨S1024x32x16x16, .i32⟩
  | 1 => ⟨S1024x32x16x16, .i32⟩
  | 2 => ⟨S1024x32x16x16, .i1⟩
  | 3 => ⟨S1024x32x16x16, .f32⟩
  | 4 => ⟨S_, .f32⟩
  | 5 => ⟨S1024x16x16, .f32⟩
  | 6 => ⟨S_, .f32⟩
  | 7 => ⟨S1024x16x16, .f32⟩
  | 8 => ⟨S1024x16x16, .f32⟩
  | 9 => ⟨S16, .i32⟩
  | 10 => ⟨S_, .i32⟩
  | 11 => ⟨S16, .i32⟩
  | 12 => ⟨S16, .i1⟩
  | 13 => ⟨S16, .f32⟩
  | 14 => ⟨S1x16x1, .f32⟩
  | 15 => ⟨S1024x16x16, .f32⟩
  | 16 => ⟨S1024x16x16, .f32⟩
  | 17 => ⟨S1024x256, .f32⟩
  | 18 => ⟨S1x512, .f32⟩
  | 19 => ⟨S1x128, .f32⟩
  | 20 => ⟨S64x512, .f32⟩
  | 21 => ⟨S1x64, .f32⟩
  | 22 => ⟨S1x512, .f32⟩
  | 23 => ⟨S64x512, .f32⟩
  | 24 => ⟨S1x64, .f32⟩
  | 25 => ⟨S64x512, .f32⟩
  | 26 => ⟨S1x64, .f32⟩
  | 27 => ⟨S1x64, .f32⟩
  | 28 => ⟨S1x1, .f32⟩
  | 29 => ⟨S16x1024, .f32⟩
  | 30 => ⟨S1024x16, .f32⟩
  | _ => ⟨S1024x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S16x1024, .f32⟩
  | .local _ .vmem, ⟨2, _⟩ => ⟨S1024x256, .f32⟩
  | .local _ .vmem, ⟨3, _⟩ => ⟨S512x512, .f32⟩
  | .local _ .vmem, ⟨4, _⟩ => ⟨S1x512, .f32⟩
  | .local _ .vmem, ⟨5, _⟩ => ⟨S512x128, .f32⟩
  | .local _ .vmem, ⟨6, _⟩ => ⟨S1x128, .f32⟩
  | .local _ .vmem, ⟨7, _⟩ => ⟨S64x512, .f32⟩
  | .local _ .vmem, ⟨8, _⟩ => ⟨S1x64, .f32⟩
  | .local _ .vmem, ⟨9, _⟩ => ⟨S512x512, .f32⟩
  | .local _ .vmem, ⟨10, _⟩ => ⟨S1x512, .f32⟩
  | .local _ .vmem, ⟨11, _⟩ => ⟨S64x512, .f32⟩
  | .local _ .vmem, ⟨12, _⟩ => ⟨S1x64, .f32⟩
  | .local _ .vmem, ⟨13, _⟩ => ⟨S64x512, .f32⟩
  | .local _ .vmem, ⟨14, _⟩ => ⟨S1x64, .f32⟩
  | .local _ .vmem, ⟨15, _⟩ => ⟨S1x64, .f32⟩
  | .local _ .vmem, ⟨16, _⟩ => ⟨S1x1, .f32⟩
  | .local _ .vmem, ⟨17, _⟩ => ⟨S16x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c : Ref sig .tc := ⟨.hbm, 33, rfl⟩
abbrev main_call0_v5 : Ref sig .tc := ⟨.hbm, 34, rfl⟩
abbrev main_call0_v6 : Ref sig .tc := ⟨.hbm, 35, rfl⟩
abbrev main_call0_c_0 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v11_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v11_1 : Ref sig .tc := ⟨.hbm, 262, rfl⟩
abbrev main_call0_v12 : Ref sig .tc := ⟨.hbm, 263, rfl⟩
abbrev main_call0_v13 : Ref sig .tc := ⟨.hbm, 264, rfl⟩
abbrev main_v9 : Ref sig .tc := ⟨.hbm, 265, rfl⟩
abbrev main_v10 : Ref sig .tc := ⟨.hbm, 266, rfl⟩
abbrev main_call1_call0_v0 : Ref sig .tc := ⟨.hbm, 267, rfl⟩
abbrev main_call1_call0_v1 : Ref sig .tc := ⟨.hbm, 268, rfl⟩
abbrev main_call1_call0_v2 : Ref sig .tc := ⟨.hbm, 269, rfl⟩
abbrev main_call1_call0_v3 : Ref sig .tc := ⟨.hbm, 270, rfl⟩
abbrev main_call1_call0_v4 : Ref sig .tc := ⟨.hbm, 271, rfl⟩
abbrev main_call1_call0_c : Ref sig .tc := ⟨.hbm, 272, rfl⟩
abbrev main_call1_call0_v5 : Ref sig .tc := ⟨.hbm, 273, rfl⟩
abbrev main_call1_call0_v6 : Ref sig .tc := ⟨.hbm, 274, rfl⟩
abbrev main_call1_call0_c_0 : Ref sig .tc := ⟨.hbm, 275, rfl⟩
abbrev main_call1_call0_v7 : Ref sig .tc := ⟨.hbm, 276, rfl⟩
abbrev main_call1_call0_v8 : Ref sig .tc := ⟨.hbm, 277, rfl⟩
abbrev main_call1_call0_v9 : Ref sig .tc := ⟨.hbm, 278, rfl⟩
abbrev main_call1_call0_v10 : Ref sig .tc := ⟨.hbm, 279, rfl⟩
abbrev main_call1_call0_v11 : Ref sig .tc := ⟨.hbm, 280, rfl⟩
abbrev main_call1_call0_v12 : Ref sig .tc := ⟨.hbm, 281, rfl⟩
abbrev main_call1_call0_v13 : Ref sig .tc := ⟨.hbm, 282, rfl⟩
abbrev main_call1_call0_v14 : Ref sig .tc := ⟨.hbm, 283, rfl⟩
abbrev main_call1_call0_call0_v0 : Ref sig .tc := ⟨.hbm, 284, rfl⟩
abbrev main_call1_call0_call0_c : Ref sig .tc := ⟨.hbm, 285, rfl⟩
abbrev main_call1_call0_call0_v1 : Ref sig .tc := ⟨.hbm, 286, rfl⟩
abbrev main_call1_call0_call0_v2 : Ref sig .tc := ⟨.hbm, 287, rfl⟩
abbrev main_call1_call0_call0_v3 : Ref sig .tc := ⟨.hbm, 288, rfl⟩
abbrev main_call1_call0_call0_v4 : Ref sig .tc := ⟨.hbm, 289, rfl⟩
abbrev main_call1_call0_call0_v5 : Ref sig .tc := ⟨.hbm, 290, rfl⟩
abbrev main_call1_call0_call0_v6 : Ref sig .tc := ⟨.hbm, 291, rfl⟩
abbrev main_call1_call0_call0_v7 : Ref sig .tc := ⟨.hbm, 292, rfl⟩
abbrev main_call1_call0_call0_v8 : Ref sig .tc := ⟨.hbm, 293, rfl⟩
abbrev main_call1_call0_call0_v9 : Ref sig .tc := ⟨.hbm, 294, rfl⟩
abbrev main_call1_call0_call0_c_0 : Ref sig .tc := ⟨.hbm, 295, rfl⟩
abbrev main_call1_call0_call0_v10 : Ref sig .tc := ⟨.hbm, 296, rfl⟩
abbrev main_call1_call0_call0_v11 : Ref sig .tc := ⟨.hbm, 297, rfl⟩
abbrev main_call1_call0_call0_c_1 : Ref sig .tc := ⟨.hbm, 298, rfl⟩
abbrev main_call1_call0_call0_v12 : Ref sig .tc := ⟨.hbm, 299, rfl⟩
abbrev main_call1_call0_call0_v13 : Ref sig .tc := ⟨.hbm, 300, rfl⟩
abbrev main_call1_call0_call0_v14 : Ref sig .tc := ⟨.hbm, 301, rfl⟩
abbrev main_call1_call0_call0_v15 : Ref sig .tc := ⟨.hbm, 302, rfl⟩
abbrev main_call1_call0_call0_v16 : Ref sig .tc := ⟨.hbm, 303, rfl⟩
abbrev main_call1_call0_call0_c_2 : Ref sig .tc := ⟨.hbm, 304, rfl⟩
abbrev main_call1_call0_call0_v17 : Ref sig .tc := ⟨.hbm, 305, rfl⟩
abbrev main_call1_call0_call0_v18 : Ref sig .tc := ⟨.hbm, 306, rfl⟩
abbrev main_call1_call0_call0_c_3 : Ref sig .tc := ⟨.hbm, 307, rfl⟩
abbrev main_call1_call0_call0_v19 : Ref sig .tc := ⟨.hbm, 308, rfl⟩
abbrev main_call1_call0_call0_v20 : Ref sig .tc := ⟨.hbm, 309, rfl⟩
abbrev main_call1_call0_call0_v21 : Ref sig .tc := ⟨.hbm, 310, rfl⟩
abbrev main_call1_call0_call0_v22 : Ref sig .tc := ⟨.hbm, 311, rfl⟩
abbrev main_call1_call0_call0_v23 : Ref sig .tc := ⟨.hbm, 312, rfl⟩
abbrev main_call1_call0_call0_c_4 : Ref sig .tc := ⟨.hbm, 313, rfl⟩
abbrev main_call1_call0_call0_v24 : Ref sig .tc := ⟨.hbm, 314, rfl⟩
abbrev main_call1_call0_call0_v25 : Ref sig .tc := ⟨.hbm, 315, rfl⟩
abbrev main_call1_call0_call0_c_5 : Ref sig .tc := ⟨.hbm, 316, rfl⟩
abbrev main_call1_call0_call0_v26 : Ref sig .tc := ⟨.hbm, 317, rfl⟩
abbrev main_call1_call0_call0_v27 : Ref sig .tc := ⟨.hbm, 318, rfl⟩
abbrev main_call1_call0_call0_v28 : Ref sig .tc := ⟨.hbm, 319, rfl⟩
abbrev main_call1_call0_call0_v29 : Ref sig .tc := ⟨.hbm, 320, rfl⟩
abbrev main_call1_call0_call0_v30 : Ref sig .tc := ⟨.hbm, 321, rfl⟩
abbrev main_call1_call0_call0_c_6 : Ref sig .tc := ⟨.hbm, 322, rfl⟩
abbrev main_call1_call0_call0_v31 : Ref sig .tc := ⟨.hbm, 323, rfl⟩
abbrev main_call1_call0_call0_v32 : Ref sig .tc := ⟨.hbm, 324, rfl⟩
abbrev main_call1_call0_call0_c_7 : Ref sig .tc := ⟨.hbm, 325, rfl⟩
abbrev main_call1_call0_call0_v33 : Ref sig .tc := ⟨.hbm, 326, rfl⟩
abbrev main_call1_call0_call0_v34 : Ref sig .tc := ⟨.hbm, 327, rfl⟩
abbrev main_call1_call0_call0_v35 : Ref sig .tc := ⟨.hbm, 328, rfl⟩
abbrev main_call1_call0_call0_v36 : Ref sig .tc := ⟨.hbm, 329, rfl⟩
abbrev main_call1_call0_call0_v37 : Ref sig .tc := ⟨.hbm, 330, rfl⟩
abbrev main_call1_call0_call0_v38 : Ref sig .tc := ⟨.hbm, 331, rfl⟩
abbrev main_call1_call0_call0_v39 : Ref sig .tc := ⟨.hbm, 332, rfl⟩
abbrev main_call1_call0_call0_v40 : Ref sig .tc := ⟨.hbm, 333, rfl⟩
abbrev main_call1_call0_call0_c_8 : Ref sig .tc := ⟨.hbm, 334, rfl⟩
abbrev main_call1_call0_call0_v41 : Ref sig .tc := ⟨.hbm, 335, rfl⟩
abbrev main_call1_call0_call0_v42 : Ref sig .tc := ⟨.hbm, 336, rfl⟩
abbrev main_call1_call0_call0_v43 : Ref sig .tc := ⟨.hbm, 337, rfl⟩
abbrev main_call1_call0_call0_c_9 : Ref sig .tc := ⟨.hbm, 338, rfl⟩
abbrev main_call1_call0_call0_v44 : Ref sig .tc := ⟨.hbm, 339, rfl⟩
abbrev main_call1_call0_call0_v45 : Ref sig .tc := ⟨.hbm, 340, rfl⟩
abbrev main_call1_call0_call0_c_10 : Ref sig .tc := ⟨.hbm, 341, rfl⟩
abbrev main_call1_call0_call0_v46 : Ref sig .tc := ⟨.hbm, 342, rfl⟩
abbrev main_call1_call0_call0_v47 : Ref sig .tc := ⟨.hbm, 343, rfl⟩
abbrev main_call1_call0_call0_v48 : Ref sig .tc := ⟨.hbm, 344, rfl⟩
abbrev main_call1_call0_call0_v49 : Ref sig .tc := ⟨.hbm, 345, rfl⟩
abbrev main_call1_call0_call0_v50 : Ref sig .tc := ⟨.hbm, 346, rfl⟩
abbrev main_call1_call0_call0_c_11 : Ref sig .tc := ⟨.hbm, 347, rfl⟩
abbrev main_call1_call0_call0_v51 : Ref sig .tc := ⟨.hbm, 348, rfl⟩
abbrev main_call1_call0_call0_v52 : Ref sig .tc := ⟨.hbm, 349, rfl⟩
abbrev main_call1_call0_call0_c_12 : Ref sig .tc := ⟨.hbm, 350, rfl⟩
abbrev main_call1_call0_call0_v53 : Ref sig .tc := ⟨.hbm, 351, rfl⟩
abbrev main_call1_call0_call0_v54 : Ref sig .tc := ⟨.hbm, 352, rfl⟩
abbrev main_call1_call0_call0_v55 : Ref sig .tc := ⟨.hbm, 353, rfl⟩
abbrev main_call1_call0_call0_v56 : Ref sig .tc := ⟨.hbm, 354, rfl⟩
abbrev main_call1_call0_call0_v57 : Ref sig .tc := ⟨.hbm, 355, rfl⟩
abbrev main_call1_call0_call0_c_13 : Ref sig .tc := ⟨.hbm, 356, rfl⟩
abbrev main_call1_call0_call0_v58 : Ref sig .tc := ⟨.hbm, 357, rfl⟩
abbrev main_call1_call0_call0_v59 : Ref sig .tc := ⟨.hbm, 358, rfl⟩
abbrev main_call1_call0_call0_c_14 : Ref sig .tc := ⟨.hbm, 359, rfl⟩
abbrev main_call1_call0_call0_v60 : Ref sig .tc := ⟨.hbm, 360, rfl⟩
abbrev main_call1_call0_call0_v61 : Ref sig .tc := ⟨.hbm, 361, rfl⟩
abbrev main_call1_call0_call0_v62 : Ref sig .tc := ⟨.hbm, 362, rfl⟩
abbrev main_call1_call0_call0_v63 : Ref sig .tc := ⟨.hbm, 363, rfl⟩
abbrev main_call1_call0_call0_v64 : Ref sig .tc := ⟨.hbm, 364, rfl⟩
abbrev main_call1_call0_call0_c_15 : Ref sig .tc := ⟨.hbm, 365, rfl⟩
abbrev main_call1_call0_call0_v65 : Ref sig .tc := ⟨.hbm, 366, rfl⟩
abbrev main_call1_call0_call0_v66 : Ref sig .tc := ⟨.hbm, 367, rfl⟩
abbrev main_call1_call0_call0_c_16 : Ref sig .tc := ⟨.hbm, 368, rfl⟩
abbrev main_call1_call0_call0_v67 : Ref sig .tc := ⟨.hbm, 369, rfl⟩
abbrev main_call1_call0_call0_v68 : Ref sig .tc := ⟨.hbm, 370, rfl⟩
abbrev main_call1_call0_call0_v69 : Ref sig .tc := ⟨.hbm, 371, rfl⟩
abbrev main_call1_call0_call0_v70 : Ref sig .tc := ⟨.hbm, 372, rfl⟩
abbrev main_call1_call0_call0_v71 : Ref sig .tc := ⟨.hbm, 373, rfl⟩
abbrev main_call1_call0_call0_v72 : Ref sig .tc := ⟨.hbm, 374, rfl⟩
abbrev main_call1_call0_call0_v73 : Ref sig .tc := ⟨.hbm, 375, rfl⟩
abbrev main_call1_call0_call0_v74 : Ref sig .tc := ⟨.hbm, 376, rfl⟩
abbrev main_call1_call0_call0_c_17 : Ref sig .tc := ⟨.hbm, 377, rfl⟩
abbrev main_call1_call0_call0_v75 : Ref sig .tc := ⟨.hbm, 378, rfl⟩
abbrev main_call1_call0_call0_v76 : Ref sig .tc := ⟨.hbm, 379, rfl⟩
abbrev main_call1_call0_call0_v77 : Ref sig .tc := ⟨.hbm, 380, rfl⟩
abbrev main_call1_call0_call0_c_18 : Ref sig .tc := ⟨.hbm, 381, rfl⟩
abbrev main_call1_call0_call0_v78 : Ref sig .tc := ⟨.hbm, 382, rfl⟩
abbrev main_call1_call0_call0_v79 : Ref sig .tc := ⟨.hbm, 383, rfl⟩
abbrev main_call1_call0_call0_c_19 : Ref sig .tc := ⟨.hbm, 384, rfl⟩
abbrev main_call1_call0_call0_v80 : Ref sig .tc := ⟨.hbm, 385, rfl⟩
abbrev main_call1_call0_call0_v81 : Ref sig .tc := ⟨.hbm, 386, rfl⟩
abbrev main_call1_call0_call0_v82 : Ref sig .tc := ⟨.hbm, 387, rfl⟩
abbrev main_call1_call0_call0_v83 : Ref sig .tc := ⟨.hbm, 388, rfl⟩
abbrev main_call1_call0_call0_v84 : Ref sig .tc := ⟨.hbm, 389, rfl⟩
abbrev main_call1_call0_call0_c_20 : Ref sig .tc := ⟨.hbm, 390, rfl⟩
abbrev main_call1_call0_call0_v85 : Ref sig .tc := ⟨.hbm, 391, rfl⟩
abbrev main_call1_call0_call0_v86 : Ref sig .tc := ⟨.hbm, 392, rfl⟩
abbrev main_call1_call0_call0_c_21 : Ref sig .tc := ⟨.hbm, 393, rfl⟩
abbrev main_call1_call0_call0_v87 : Ref sig .tc := ⟨.hbm, 394, rfl⟩
abbrev main_call1_call0_call0_v88 : Ref sig .tc := ⟨.hbm, 395, rfl⟩
abbrev main_call1_call0_call0_v89 : Ref sig .tc := ⟨.hbm, 396, rfl⟩
abbrev main_call1_call0_call0_v90 : Ref sig .tc := ⟨.hbm, 397, rfl⟩
abbrev main_call1_call0_call0_v91 : Ref sig .tc := ⟨.hbm, 398, rfl⟩
abbrev main_call1_call0_call0_c_22 : Ref sig .tc := ⟨.hbm, 399, rfl⟩
abbrev main_call1_call0_call0_v92 : Ref sig .tc := ⟨.hbm, 400, rfl⟩
abbrev main_call1_call0_call0_v93 : Ref sig .tc := ⟨.hbm, 401, rfl⟩
abbrev main_call1_call0_call0_c_23 : Ref sig .tc := ⟨.hbm, 402, rfl⟩
abbrev main_call1_call0_call0_v94 : Ref sig .tc := ⟨.hbm, 403, rfl⟩
abbrev main_call1_call0_call0_v95 : Ref sig .tc := ⟨.hbm, 404, rfl⟩
abbrev main_call1_call0_call0_v96 : Ref sig .tc := ⟨.hbm, 405, rfl⟩
abbrev main_call1_call0_call0_v97 : Ref sig .tc := ⟨.hbm, 406, rfl⟩
abbrev main_call1_call0_call0_v98 : Ref sig .tc := ⟨.hbm, 407, rfl⟩
abbrev main_call1_call0_call0_c_24 : Ref sig .tc := ⟨.hbm, 408, rfl⟩
abbrev main_call1_call0_call0_v99 : Ref sig .tc := ⟨.hbm, 409, rfl⟩
abbrev main_call1_call0_call0_v100 : Ref sig .tc := ⟨.hbm, 410, rfl⟩
abbrev main_call1_call0_call0_c_25 : Ref sig .tc := ⟨.hbm, 411, rfl⟩
abbrev main_call1_call0_call0_v101 : Ref sig .tc := ⟨.hbm, 412, rfl⟩
abbrev main_call1_call0_call0_v102 : Ref sig .tc := ⟨.hbm, 413, rfl⟩
abbrev main_call1_call0_call0_v103 : Ref sig .tc := ⟨.hbm, 414, rfl⟩
abbrev main_call1_call0_call0_v104 : Ref sig .tc := ⟨.hbm, 415, rfl⟩
abbrev main_call1_call0_call0_v105 : Ref sig .tc := ⟨.hbm, 416, rfl⟩
abbrev main_call1_call0_call0_v106 : Ref sig .tc := ⟨.hbm, 417, rfl⟩
abbrev main_call1_call0_call0_v107 : Ref sig .tc := ⟨.hbm, 418, rfl⟩
abbrev main_call1_call0_call0_v108 : Ref sig .tc := ⟨.hbm, 419, rfl⟩
abbrev main_call1_call0_call0_c_26 : Ref sig .tc := ⟨.hbm, 420, rfl⟩
abbrev main_call1_call0_call0_v109 : Ref sig .tc := ⟨.hbm, 421, rfl⟩
abbrev main_call1_call0_call0_v110 : Ref sig .tc := ⟨.hbm, 422, rfl⟩
abbrev main_call1_call0_call0_v111 : Ref sig .tc := ⟨.hbm, 423, rfl⟩
abbrev main_call1_call0_call0_c_27 : Ref sig .tc := ⟨.hbm, 424, rfl⟩
abbrev main_call1_call0_call0_v112 : Ref sig .tc := ⟨.hbm, 425, rfl⟩
abbrev main_call1_call0_call0_v113 : Ref sig .tc := ⟨.hbm, 426, rfl⟩
abbrev main_call1_call0_call0_c_28 : Ref sig .tc := ⟨.hbm, 427, rfl⟩
abbrev main_call1_call0_call0_v114 : Ref sig .tc := ⟨.hbm, 428, rfl⟩
abbrev main_call1_call0_call0_v115 : Ref sig .tc := ⟨.hbm, 429, rfl⟩
abbrev main_call1_call0_call0_v116 : Ref sig .tc := ⟨.hbm, 430, rfl⟩
abbrev main_call1_call0_call0_v117 : Ref sig .tc := ⟨.hbm, 431, rfl⟩
abbrev main_call1_call0_call0_v118 : Ref sig .tc := ⟨.hbm, 432, rfl⟩
abbrev main_call1_call0_call0_c_29 : Ref sig .tc := ⟨.hbm, 433, rfl⟩
abbrev main_call1_call0_call0_v119 : Ref sig .tc := ⟨.hbm, 434, rfl⟩
abbrev main_call1_call0_call0_v120 : Ref sig .tc := ⟨.hbm, 435, rfl⟩
abbrev main_call1_call0_call0_c_30 : Ref sig .tc := ⟨.hbm, 436, rfl⟩
abbrev main_call1_call0_call0_v121 : Ref sig .tc := ⟨.hbm, 437, rfl⟩
abbrev main_call1_call0_call0_v122 : Ref sig .tc := ⟨.hbm, 438, rfl⟩
abbrev main_call1_call0_call0_v123 : Ref sig .tc := ⟨.hbm, 439, rfl⟩
abbrev main_call1_call0_call0_v124 : Ref sig .tc := ⟨.hbm, 440, rfl⟩
abbrev main_call1_call0_call0_v125 : Ref sig .tc := ⟨.hbm, 441, rfl⟩
abbrev main_call1_call0_call0_c_31 : Ref sig .tc := ⟨.hbm, 442, rfl⟩
abbrev main_call1_call0_call0_v126 : Ref sig .tc := ⟨.hbm, 443, rfl⟩
abbrev main_call1_call0_call0_v127 : Ref sig .tc := ⟨.hbm, 444, rfl⟩
abbrev main_call1_call0_call0_c_32 : Ref sig .tc := ⟨.hbm, 445, rfl⟩
abbrev main_call1_call0_call0_v128 : Ref sig .tc := ⟨.hbm, 446, rfl⟩
abbrev main_call1_call0_call0_v129 : Ref sig .tc := ⟨.hbm, 447, rfl⟩
abbrev main_call1_call0_call0_v130 : Ref sig .tc := ⟨.hbm, 448, rfl⟩
abbrev main_call1_call0_call0_v131 : Ref sig .tc := ⟨.hbm, 449, rfl⟩
abbrev main_call1_call0_call0_v132 : Ref sig .tc := ⟨.hbm, 450, rfl⟩
abbrev main_call1_call0_call0_c_33 : Ref sig .tc := ⟨.hbm, 451, rfl⟩
abbrev main_call1_call0_call0_v133 : Ref sig .tc := ⟨.hbm, 452, rfl⟩
abbrev main_call1_call0_call0_v134 : Ref sig .tc := ⟨.hbm, 453, rfl⟩
abbrev main_call1_call0_call0_c_34 : Ref sig .tc := ⟨.hbm, 454, rfl⟩
abbrev main_call1_call0_call0_v135 : Ref sig .tc := ⟨.hbm, 455, rfl⟩
abbrev main_call1_call0_call0_v136 : Ref sig .tc := ⟨.hbm, 456, rfl⟩
abbrev main_call1_call0_call0_v137 : Ref sig .tc := ⟨.hbm, 457, rfl⟩
abbrev main_call1_call0_call0_v138 : Ref sig .tc := ⟨.hbm, 458, rfl⟩
abbrev main_call1_call0_call0_v139 : Ref sig .tc := ⟨.hbm, 459, rfl⟩
abbrev main_call1_call0_call0_v140 : Ref sig .tc := ⟨.hbm, 460, rfl⟩
abbrev main_call1_call0_call0_v141 : Ref sig .tc := ⟨.hbm, 461, rfl⟩
abbrev main_call1_call0_call0_v142 : Ref sig .tc := ⟨.hbm, 462, rfl⟩
abbrev main_call1_call0_call0_c_35 : Ref sig .tc := ⟨.hbm, 463, rfl⟩
abbrev main_call1_call0_call0_v143 : Ref sig .tc := ⟨.hbm, 464, rfl⟩
abbrev main_call1_call0_call0_v144 : Ref sig .tc := ⟨.hbm, 465, rfl⟩
abbrev main_call1_call0_call0_v145 : Ref sig .tc := ⟨.hbm, 466, rfl⟩
abbrev main_call1_call0_call0_c_36 : Ref sig .tc := ⟨.hbm, 467, rfl⟩
abbrev main_call1_call0_call0_v146 : Ref sig .tc := ⟨.hbm, 468, rfl⟩
abbrev main_call1_call0_call0_v147 : Ref sig .tc := ⟨.hbm, 469, rfl⟩
abbrev main_call1_call0_call0_c_37 : Ref sig .tc := ⟨.hbm, 470, rfl⟩
abbrev main_call1_call0_call0_v148 : Ref sig .tc := ⟨.hbm, 471, rfl⟩
abbrev main_call1_call0_call0_v149 : Ref sig .tc := ⟨.hbm, 472, rfl⟩
abbrev main_call1_call0_call0_v150 : Ref sig .tc := ⟨.hbm, 473, rfl⟩
abbrev main_call1_call0_call0_v151 : Ref sig .tc := ⟨.hbm, 474, rfl⟩
abbrev main_call1_call0_call0_v152 : Ref sig .tc := ⟨.hbm, 475, rfl⟩
abbrev main_call1_call0_call0_c_38 : Ref sig .tc := ⟨.hbm, 476, rfl⟩
abbrev main_call1_call0_call0_v153 : Ref sig .tc := ⟨.hbm, 477, rfl⟩
abbrev main_call1_call0_call0_v154 : Ref sig .tc := ⟨.hbm, 478, rfl⟩
abbrev main_call1_call0_call0_c_39 : Ref sig .tc := ⟨.hbm, 479, rfl⟩
abbrev main_call1_call0_call0_v155 : Ref sig .tc := ⟨.hbm, 480, rfl⟩
abbrev main_call1_call0_call0_v156 : Ref sig .tc := ⟨.hbm, 481, rfl⟩
abbrev main_call1_call0_call0_v157 : Ref sig .tc := ⟨.hbm, 482, rfl⟩
abbrev main_call1_call0_call0_v158 : Ref sig .tc := ⟨.hbm, 483, rfl⟩
abbrev main_call1_call0_call0_v159 : Ref sig .tc := ⟨.hbm, 484, rfl⟩
abbrev main_call1_call0_call0_c_40 : Ref sig .tc := ⟨.hbm, 485, rfl⟩
abbrev main_call1_call0_call0_v160 : Ref sig .tc := ⟨.hbm, 486, rfl⟩
abbrev main_call1_call0_call0_v161 : Ref sig .tc := ⟨.hbm, 487, rfl⟩
abbrev main_call1_call0_call0_c_41 : Ref sig .tc := ⟨.hbm, 488, rfl⟩
abbrev main_call1_call0_call0_v162 : Ref sig .tc := ⟨.hbm, 489, rfl⟩
abbrev main_call1_call0_call0_v163 : Ref sig .tc := ⟨.hbm, 490, rfl⟩
abbrev main_call1_call0_call0_v164 : Ref sig .tc := ⟨.hbm, 491, rfl⟩
abbrev main_call1_call0_call0_v165 : Ref sig .tc := ⟨.hbm, 492, rfl⟩
abbrev main_call1_call0_call0_v166 : Ref sig .tc := ⟨.hbm, 493, rfl⟩
abbrev main_call1_call0_call0_c_42 : Ref sig .tc := ⟨.hbm, 494, rfl⟩
abbrev main_call1_call0_call0_v167 : Ref sig .tc := ⟨.hbm, 495, rfl⟩
abbrev main_call1_call0_call0_v168 : Ref sig .tc := ⟨.hbm, 496, rfl⟩
abbrev main_call1_call0_call0_c_43 : Ref sig .tc := ⟨.hbm, 497, rfl⟩
abbrev main_call1_call0_call0_v169 : Ref sig .tc := ⟨.hbm, 498, rfl⟩
abbrev main_call1_call0_call0_v170 : Ref sig .tc := ⟨.hbm, 499, rfl⟩
abbrev main_call1_call0_call0_v171 : Ref sig .tc := ⟨.hbm, 500, rfl⟩
abbrev main_call1_call0_call0_v172 : Ref sig .tc := ⟨.hbm, 501, rfl⟩
abbrev main_call1_call0_call0_v173 : Ref sig .tc := ⟨.hbm, 502, rfl⟩
abbrev main_call1_call0_v15_0 : Ref sig .tc := ⟨.hbm, 503, rfl⟩
abbrev main_call1_call0_call0_v175 : Ref sig .tc := ⟨.hbm, 504, rfl⟩
abbrev main_call1_call0_call0_v176 : Ref sig .tc := ⟨.hbm, 505, rfl⟩
abbrev main_call1_call0_call0_c_44 : Ref sig .tc := ⟨.hbm, 506, rfl⟩
abbrev main_call1_call0_call0_v177 : Ref sig .tc := ⟨.hbm, 507, rfl⟩
abbrev main_call1_call0_v15_1 : Ref sig .tc := ⟨.hbm, 508, rfl⟩
abbrev main_call1_call0_v16 : Ref sig .tc := ⟨.hbm, 509, rfl⟩
abbrev main_call1_call0_v17 : Ref sig .tc := ⟨.hbm, 510, rfl⟩
abbrev main_call1_v0 : Ref sig .tc := ⟨.hbm, 511, rfl⟩
abbrev main_call1_v1 : Ref sig .tc := ⟨.hbm, 512, rfl⟩
abbrev main_call1_v2 : Ref sig .tc := ⟨.hbm, 513, rfl⟩
abbrev main_call1_v3 : Ref sig .tc := ⟨.hbm, 514, rfl⟩
abbrev main_call1_v4 : Ref sig .tc := ⟨.hbm, 515, rfl⟩
abbrev main_call1_v5 : Ref sig .tc := ⟨.hbm, 516, rfl⟩
abbrev main_call1_v6 : Ref sig .tc := ⟨.hbm, 517, rfl⟩
abbrev main_call1_v7 : Ref sig .tc := ⟨.hbm, 518, rfl⟩
abbrev main_call1_v8 : Ref sig .tc := ⟨.hbm, 519, rfl⟩
abbrev main_call1_v9 : Ref sig .tc := ⟨.hbm, 520, rfl⟩
abbrev main_call1_c : Ref sig .tc := ⟨.hbm, 521, rfl⟩
abbrev main_call1_v10 : Ref sig .tc := ⟨.hbm, 522, rfl⟩
abbrev main_call1_v11 : Ref sig .tc := ⟨.hbm, 523, rfl⟩
abbrev main_call1_c_0 : Ref sig .tc := ⟨.hbm, 524, rfl⟩
abbrev main_call1_v12 : Ref sig .tc := ⟨.hbm, 525, rfl⟩
abbrev main_call1_v13 : Ref sig .tc := ⟨.hbm, 526, rfl⟩
abbrev main_call1_v14 : Ref sig .tc := ⟨.hbm, 527, rfl⟩
abbrev main_call1_v15 : Ref sig .tc := ⟨.hbm, 528, rfl⟩
abbrev main_call1_v16 : Ref sig .tc := ⟨.hbm, 529, rfl⟩
abbrev main_call1_v17 : Ref sig .tc := ⟨.hbm, 530, rfl⟩
abbrev main_call1_v18 : Ref sig .tc := ⟨.hbm, 531, rfl⟩
abbrev main_call1_v19 : Ref sig .tc := ⟨.hbm, 532, rfl⟩
abbrev main_call1_call1_v0 : Ref sig .tc := ⟨.hbm, 533, rfl⟩
abbrev main_call1_call1_c : Ref sig .tc := ⟨.hbm, 534, rfl⟩
abbrev main_call1_call1_v1 : Ref sig .tc := ⟨.hbm, 535, rfl⟩
abbrev main_call1_call1_v2 : Ref sig .tc := ⟨.hbm, 536, rfl⟩
abbrev main_call1_call1_v3 : Ref sig .tc := ⟨.hbm, 537, rfl⟩
abbrev main_call1_call1_v4 : Ref sig .tc := ⟨.hbm, 538, rfl⟩
abbrev main_call1_call1_v5 : Ref sig .tc := ⟨.hbm, 539, rfl⟩
abbrev main_call1_call1_v6 : Ref sig .tc := ⟨.hbm, 540, rfl⟩
abbrev main_call1_call1_v7 : Ref sig .tc := ⟨.hbm, 541, rfl⟩
abbrev main_call1_call1_v8 : Ref sig .tc := ⟨.hbm, 542, rfl⟩
abbrev main_call1_call1_v9 : Ref sig .tc := ⟨.hbm, 543, rfl⟩
abbrev main_call1_call1_c_0 : Ref sig .tc := ⟨.hbm, 544, rfl⟩
abbrev main_call1_call1_v10 : Ref sig .tc := ⟨.hbm, 545, rfl⟩
abbrev main_call1_call1_v11 : Ref sig .tc := ⟨.hbm, 546, rfl⟩
abbrev main_call1_call1_c_1 : Ref sig .tc := ⟨.hbm, 547, rfl⟩
abbrev main_call1_call1_v12 : Ref sig .tc := ⟨.hbm, 548, rfl⟩
abbrev main_call1_call1_v13 : Ref sig .tc := ⟨.hbm, 549, rfl⟩
abbrev main_call1_call1_v14 : Ref sig .tc := ⟨.hbm, 550, rfl⟩
abbrev main_call1_call1_v15 : Ref sig .tc := ⟨.hbm, 551, rfl⟩
abbrev main_call1_call1_v16 : Ref sig .tc := ⟨.hbm, 552, rfl⟩
abbrev main_call1_call1_c_2 : Ref sig .tc := ⟨.hbm, 553, rfl⟩
abbrev main_call1_call1_v17 : Ref sig .tc := ⟨.hbm, 554, rfl⟩
abbrev main_call1_call1_v18 : Ref sig .tc := ⟨.hbm, 555, rfl⟩
abbrev main_call1_call1_c_3 : Ref sig .tc := ⟨.hbm, 556, rfl⟩
abbrev main_call1_call1_v19 : Ref sig .tc := ⟨.hbm, 557, rfl⟩
abbrev main_call1_call1_v20 : Ref sig .tc := ⟨.hbm, 558, rfl⟩
abbrev main_call1_call1_v21 : Ref sig .tc := ⟨.hbm, 559, rfl⟩
abbrev main_call1_call1_v22 : Ref sig .tc := ⟨.hbm, 560, rfl⟩
abbrev main_call1_call1_v23 : Ref sig .tc := ⟨.hbm, 561, rfl⟩
abbrev main_call1_call1_c_4 : Ref sig .tc := ⟨.hbm, 562, rfl⟩
abbrev main_call1_call1_v24 : Ref sig .tc := ⟨.hbm, 563, rfl⟩
abbrev main_call1_call1_v25 : Ref sig .tc := ⟨.hbm, 564, rfl⟩
abbrev main_call1_call1_c_5 : Ref sig .tc := ⟨.hbm, 565, rfl⟩
abbrev main_call1_call1_v26 : Ref sig .tc := ⟨.hbm, 566, rfl⟩
abbrev main_call1_call1_v27 : Ref sig .tc := ⟨.hbm, 567, rfl⟩
abbrev main_call1_call1_v28 : Ref sig .tc := ⟨.hbm, 568, rfl⟩
abbrev main_call1_call1_v29 : Ref sig .tc := ⟨.hbm, 569, rfl⟩
abbrev main_call1_call1_v30 : Ref sig .tc := ⟨.hbm, 570, rfl⟩
abbrev main_call1_call1_c_6 : Ref sig .tc := ⟨.hbm, 571, rfl⟩
abbrev main_call1_call1_v31 : Ref sig .tc := ⟨.hbm, 572, rfl⟩
abbrev main_call1_call1_v32 : Ref sig .tc := ⟨.hbm, 573, rfl⟩
abbrev main_call1_call1_c_7 : Ref sig .tc := ⟨.hbm, 574, rfl⟩
abbrev main_call1_call1_v33 : Ref sig .tc := ⟨.hbm, 575, rfl⟩
abbrev main_call1_call1_v34 : Ref sig .tc := ⟨.hbm, 576, rfl⟩
abbrev main_call1_call1_v35 : Ref sig .tc := ⟨.hbm, 577, rfl⟩
abbrev main_call1_call1_v36 : Ref sig .tc := ⟨.hbm, 578, rfl⟩
abbrev main_call1_call1_v37 : Ref sig .tc := ⟨.hbm, 579, rfl⟩
abbrev main_call1_call1_v38 : Ref sig .tc := ⟨.hbm, 580, rfl⟩
abbrev main_call1_call1_v39 : Ref sig .tc := ⟨.hbm, 581, rfl⟩
abbrev main_call1_call1_v40 : Ref sig .tc := ⟨.hbm, 582, rfl⟩
abbrev main_call1_call1_c_8 : Ref sig .tc := ⟨.hbm, 583, rfl⟩
abbrev main_call1_call1_v41 : Ref sig .tc := ⟨.hbm, 584, rfl⟩
abbrev main_call1_call1_v42 : Ref sig .tc := ⟨.hbm, 585, rfl⟩
abbrev main_call1_call1_v43 : Ref sig .tc := ⟨.hbm, 586, rfl⟩
abbrev main_call1_call1_c_9 : Ref sig .tc := ⟨.hbm, 587, rfl⟩
abbrev main_call1_call1_v44 : Ref sig .tc := ⟨.hbm, 588, rfl⟩
abbrev main_call1_call1_v45 : Ref sig .tc := ⟨.hbm, 589, rfl⟩
abbrev main_call1_call1_c_10 : Ref sig .tc := ⟨.hbm, 590, rfl⟩
abbrev main_call1_call1_v46 : Ref sig .tc := ⟨.hbm, 591, rfl⟩
abbrev main_call1_call1_v47 : Ref sig .tc := ⟨.hbm, 592, rfl⟩
abbrev main_call1_call1_v48 : Ref sig .tc := ⟨.hbm, 593, rfl⟩
abbrev main_call1_call1_v49 : Ref sig .tc := ⟨.hbm, 594, rfl⟩
abbrev main_call1_call1_v50 : Ref sig .tc := ⟨.hbm, 595, rfl⟩
abbrev main_call1_call1_c_11 : Ref sig .tc := ⟨.hbm, 596, rfl⟩
abbrev main_call1_call1_v51 : Ref sig .tc := ⟨.hbm, 597, rfl⟩
abbrev main_call1_call1_v52 : Ref sig .tc := ⟨.hbm, 598, rfl⟩
abbrev main_call1_call1_c_12 : Ref sig .tc := ⟨.hbm, 599, rfl⟩
abbrev main_call1_call1_v53 : Ref sig .tc := ⟨.hbm, 600, rfl⟩
abbrev main_call1_call1_v54 : Ref sig .tc := ⟨.hbm, 601, rfl⟩
abbrev main_call1_call1_v55 : Ref sig .tc := ⟨.hbm, 602, rfl⟩
abbrev main_call1_call1_v56 : Ref sig .tc := ⟨.hbm, 603, rfl⟩
abbrev main_call1_call1_v57 : Ref sig .tc := ⟨.hbm, 604, rfl⟩
abbrev main_call1_call1_c_13 : Ref sig .tc := ⟨.hbm, 605, rfl⟩
abbrev main_call1_call1_v58 : Ref sig .tc := ⟨.hbm, 606, rfl⟩
abbrev main_call1_call1_v59 : Ref sig .tc := ⟨.hbm, 607, rfl⟩
abbrev main_call1_call1_c_14 : Ref sig .tc := ⟨.hbm, 608, rfl⟩
abbrev main_call1_call1_v60 : Ref sig .tc := ⟨.hbm, 609, rfl⟩
abbrev main_call1_call1_v61 : Ref sig .tc := ⟨.hbm, 610, rfl⟩
abbrev main_call1_call1_v62 : Ref sig .tc := ⟨.hbm, 611, rfl⟩
abbrev main_call1_call1_v63 : Ref sig .tc := ⟨.hbm, 612, rfl⟩
abbrev main_call1_call1_v64 : Ref sig .tc := ⟨.hbm, 613, rfl⟩
abbrev main_call1_call1_c_15 : Ref sig .tc := ⟨.hbm, 614, rfl⟩
abbrev main_call1_call1_v65 : Ref sig .tc := ⟨.hbm, 615, rfl⟩
abbrev main_call1_call1_v66 : Ref sig .tc := ⟨.hbm, 616, rfl⟩
abbrev main_call1_call1_c_16 : Ref sig .tc := ⟨.hbm, 617, rfl⟩
abbrev main_call1_call1_v67 : Ref sig .tc := ⟨.hbm, 618, rfl⟩
abbrev main_call1_call1_v68 : Ref sig .tc := ⟨.hbm, 619, rfl⟩
abbrev main_call1_call1_v69 : Ref sig .tc := ⟨.hbm, 620, rfl⟩
abbrev main_call1_call1_v70 : Ref sig .tc := ⟨.hbm, 621, rfl⟩
abbrev main_call1_call1_v71 : Ref sig .tc := ⟨.hbm, 622, rfl⟩
abbrev main_call1_call1_v72 : Ref sig .tc := ⟨.hbm, 623, rfl⟩
abbrev main_call1_call1_v73 : Ref sig .tc := ⟨.hbm, 624, rfl⟩
abbrev main_call1_call1_v74 : Ref sig .tc := ⟨.hbm, 625, rfl⟩
abbrev main_call1_call1_c_17 : Ref sig .tc := ⟨.hbm, 626, rfl⟩
abbrev main_call1_call1_v75 : Ref sig .tc := ⟨.hbm, 627, rfl⟩
abbrev main_call1_call1_v76 : Ref sig .tc := ⟨.hbm, 628, rfl⟩
abbrev main_call1_call1_v77 : Ref sig .tc := ⟨.hbm, 629, rfl⟩
abbrev main_call1_call1_c_18 : Ref sig .tc := ⟨.hbm, 630, rfl⟩
abbrev main_call1_call1_v78 : Ref sig .tc := ⟨.hbm, 631, rfl⟩
abbrev main_call1_call1_v79 : Ref sig .tc := ⟨.hbm, 632, rfl⟩
abbrev main_call1_call1_c_19 : Ref sig .tc := ⟨.hbm, 633, rfl⟩
abbrev main_call1_call1_v80 : Ref sig .tc := ⟨.hbm, 634, rfl⟩
abbrev main_call1_call1_v81 : Ref sig .tc := ⟨.hbm, 635, rfl⟩
abbrev main_call1_call1_v82 : Ref sig .tc := ⟨.hbm, 636, rfl⟩
abbrev main_call1_call1_v83 : Ref sig .tc := ⟨.hbm, 637, rfl⟩
abbrev main_call1_call1_v84 : Ref sig .tc := ⟨.hbm, 638, rfl⟩
abbrev main_call1_call1_c_20 : Ref sig .tc := ⟨.hbm, 639, rfl⟩
abbrev main_call1_call1_v85 : Ref sig .tc := ⟨.hbm, 640, rfl⟩
abbrev main_call1_call1_v86 : Ref sig .tc := ⟨.hbm, 641, rfl⟩
abbrev main_call1_call1_c_21 : Ref sig .tc := ⟨.hbm, 642, rfl⟩
abbrev main_call1_call1_v87 : Ref sig .tc := ⟨.hbm, 643, rfl⟩
abbrev main_call1_call1_v88 : Ref sig .tc := ⟨.hbm, 644, rfl⟩
abbrev main_call1_call1_v89 : Ref sig .tc := ⟨.hbm, 645, rfl⟩
abbrev main_call1_call1_v90 : Ref sig .tc := ⟨.hbm, 646, rfl⟩
abbrev main_call1_call1_v91 : Ref sig .tc := ⟨.hbm, 647, rfl⟩
abbrev main_call1_call1_c_22 : Ref sig .tc := ⟨.hbm, 648, rfl⟩
abbrev main_call1_call1_v92 : Ref sig .tc := ⟨.hbm, 649, rfl⟩
abbrev main_call1_call1_v93 : Ref sig .tc := ⟨.hbm, 650, rfl⟩
abbrev main_call1_call1_c_23 : Ref sig .tc := ⟨.hbm, 651, rfl⟩
abbrev main_call1_call1_v94 : Ref sig .tc := ⟨.hbm, 652, rfl⟩
abbrev main_call1_call1_v95 : Ref sig .tc := ⟨.hbm, 653, rfl⟩
abbrev main_call1_call1_v96 : Ref sig .tc := ⟨.hbm, 654, rfl⟩
abbrev main_call1_call1_v97 : Ref sig .tc := ⟨.hbm, 655, rfl⟩
abbrev main_call1_call1_v98 : Ref sig .tc := ⟨.hbm, 656, rfl⟩
abbrev main_call1_call1_c_24 : Ref sig .tc := ⟨.hbm, 657, rfl⟩
abbrev main_call1_call1_v99 : Ref sig .tc := ⟨.hbm, 658, rfl⟩
abbrev main_call1_call1_v100 : Ref sig .tc := ⟨.hbm, 659, rfl⟩
abbrev main_call1_call1_c_25 : Ref sig .tc := ⟨.hbm, 660, rfl⟩
abbrev main_call1_call1_v101 : Ref sig .tc := ⟨.hbm, 661, rfl⟩
abbrev main_call1_call1_v102 : Ref sig .tc := ⟨.hbm, 662, rfl⟩
abbrev main_call1_call1_v103 : Ref sig .tc := ⟨.hbm, 663, rfl⟩
abbrev main_call1_call1_v104 : Ref sig .tc := ⟨.hbm, 664, rfl⟩
abbrev main_call1_call1_v105 : Ref sig .tc := ⟨.hbm, 665, rfl⟩
abbrev main_call1_call1_v106 : Ref sig .tc := ⟨.hbm, 666, rfl⟩
abbrev main_call1_call1_v107 : Ref sig .tc := ⟨.hbm, 667, rfl⟩
abbrev main_call1_call1_v108 : Ref sig .tc := ⟨.hbm, 668, rfl⟩
abbrev main_call1_call1_c_26 : Ref sig .tc := ⟨.hbm, 669, rfl⟩
abbrev main_call1_call1_v109 : Ref sig .tc := ⟨.hbm, 670, rfl⟩
abbrev main_call1_call1_v110 : Ref sig .tc := ⟨.hbm, 671, rfl⟩
abbrev main_call1_call1_v111 : Ref sig .tc := ⟨.hbm, 672, rfl⟩
abbrev main_call1_call1_c_27 : Ref sig .tc := ⟨.hbm, 673, rfl⟩
abbrev main_call1_call1_v112 : Ref sig .tc := ⟨.hbm, 674, rfl⟩
abbrev main_call1_call1_v113 : Ref sig .tc := ⟨.hbm, 675, rfl⟩
abbrev main_call1_call1_c_28 : Ref sig .tc := ⟨.hbm, 676, rfl⟩
abbrev main_call1_call1_v114 : Ref sig .tc := ⟨.hbm, 677, rfl⟩
abbrev main_call1_call1_v115 : Ref sig .tc := ⟨.hbm, 678, rfl⟩
abbrev main_call1_call1_v116 : Ref sig .tc := ⟨.hbm, 679, rfl⟩
abbrev main_call1_call1_v117 : Ref sig .tc := ⟨.hbm, 680, rfl⟩
abbrev main_call1_call1_v118 : Ref sig .tc := ⟨.hbm, 681, rfl⟩
abbrev main_call1_call1_c_29 : Ref sig .tc := ⟨.hbm, 682, rfl⟩
abbrev main_call1_call1_v119 : Ref sig .tc := ⟨.hbm, 683, rfl⟩
abbrev main_call1_call1_v120 : Ref sig .tc := ⟨.hbm, 684, rfl⟩
abbrev main_call1_call1_c_30 : Ref sig .tc := ⟨.hbm, 685, rfl⟩
abbrev main_call1_call1_v121 : Ref sig .tc := ⟨.hbm, 686, rfl⟩
abbrev main_call1_call1_v122 : Ref sig .tc := ⟨.hbm, 687, rfl⟩
abbrev main_call1_call1_v123 : Ref sig .tc := ⟨.hbm, 688, rfl⟩
abbrev main_call1_call1_v124 : Ref sig .tc := ⟨.hbm, 689, rfl⟩
abbrev main_call1_call1_v125 : Ref sig .tc := ⟨.hbm, 690, rfl⟩
abbrev main_call1_call1_c_31 : Ref sig .tc := ⟨.hbm, 691, rfl⟩
abbrev main_call1_call1_v126 : Ref sig .tc := ⟨.hbm, 692, rfl⟩
abbrev main_call1_call1_v127 : Ref sig .tc := ⟨.hbm, 693, rfl⟩
abbrev main_call1_call1_c_32 : Ref sig .tc := ⟨.hbm, 694, rfl⟩
abbrev main_call1_call1_v128 : Ref sig .tc := ⟨.hbm, 695, rfl⟩
abbrev main_call1_call1_v129 : Ref sig .tc := ⟨.hbm, 696, rfl⟩
abbrev main_call1_call1_v130 : Ref sig .tc := ⟨.hbm, 697, rfl⟩
abbrev main_call1_call1_v131 : Ref sig .tc := ⟨.hbm, 698, rfl⟩
abbrev main_call1_call1_v132 : Ref sig .tc := ⟨.hbm, 699, rfl⟩
abbrev main_call1_call1_c_33 : Ref sig .tc := ⟨.hbm, 700, rfl⟩
abbrev main_call1_call1_v133 : Ref sig .tc := ⟨.hbm, 701, rfl⟩
abbrev main_call1_call1_v134 : Ref sig .tc := ⟨.hbm, 702, rfl⟩
abbrev main_call1_call1_c_34 : Ref sig .tc := ⟨.hbm, 703, rfl⟩
abbrev main_call1_call1_v135 : Ref sig .tc := ⟨.hbm, 704, rfl⟩
abbrev main_call1_call1_v136 : Ref sig .tc := ⟨.hbm, 705, rfl⟩
abbrev main_call1_call1_v137 : Ref sig .tc := ⟨.hbm, 706, rfl⟩
abbrev main_call1_call1_v138 : Ref sig .tc := ⟨.hbm, 707, rfl⟩
abbrev main_call1_call1_v139 : Ref sig .tc := ⟨.hbm, 708, rfl⟩
abbrev main_call1_call1_v140 : Ref sig .tc := ⟨.hbm, 709, rfl⟩
abbrev main_call1_call1_v141 : Ref sig .tc := ⟨.hbm, 710, rfl⟩
abbrev main_call1_call1_v142 : Ref sig .tc := ⟨.hbm, 711, rfl⟩
abbrev main_call1_call1_c_35 : Ref sig .tc := ⟨.hbm, 712, rfl⟩
abbrev main_call1_call1_v143 : Ref sig .tc := ⟨.hbm, 713, rfl⟩
abbrev main_call1_call1_v144 : Ref sig .tc := ⟨.hbm, 714, rfl⟩
abbrev main_call1_call1_v145 : Ref sig .tc := ⟨.hbm, 715, rfl⟩
abbrev main_call1_call1_c_36 : Ref sig .tc := ⟨.hbm, 716, rfl⟩
abbrev main_call1_call1_v146 : Ref sig .tc := ⟨.hbm, 717, rfl⟩
abbrev main_call1_call1_v147 : Ref sig .tc := ⟨.hbm, 718, rfl⟩
abbrev main_call1_call1_c_37 : Ref sig .tc := ⟨.hbm, 719, rfl⟩
abbrev main_call1_call1_v148 : Ref sig .tc := ⟨.hbm, 720, rfl⟩
abbrev main_call1_call1_v149 : Ref sig .tc := ⟨.hbm, 721, rfl⟩
abbrev main_call1_call1_v150 : Ref sig .tc := ⟨.hbm, 722, rfl⟩
abbrev main_call1_call1_v151 : Ref sig .tc := ⟨.hbm, 723, rfl⟩
abbrev main_call1_call1_v152 : Ref sig .tc := ⟨.hbm, 724, rfl⟩
abbrev main_call1_call1_c_38 : Ref sig .tc := ⟨.hbm, 725, rfl⟩
abbrev main_call1_call1_v153 : Ref sig .tc := ⟨.hbm, 726, rfl⟩
abbrev main_call1_call1_v154 : Ref sig .tc := ⟨.hbm, 727, rfl⟩
abbrev main_call1_call1_c_39 : Ref sig .tc := ⟨.hbm, 728, rfl⟩
abbrev main_call1_call1_v155 : Ref sig .tc := ⟨.hbm, 729, rfl⟩
abbrev main_call1_call1_v156 : Ref sig .tc := ⟨.hbm, 730, rfl⟩
abbrev main_call1_call1_v157 : Ref sig .tc := ⟨.hbm, 731, rfl⟩
abbrev main_call1_call1_v158 : Ref sig .tc := ⟨.hbm, 732, rfl⟩
abbrev main_call1_call1_v159 : Ref sig .tc := ⟨.hbm, 733, rfl⟩
abbrev main_call1_call1_c_40 : Ref sig .tc := ⟨.hbm, 734, rfl⟩
abbrev main_call1_call1_v160 : Ref sig .tc := ⟨.hbm, 735, rfl⟩
abbrev main_call1_call1_v161 : Ref sig .tc := ⟨.hbm, 736, rfl⟩
abbrev main_call1_call1_c_41 : Ref sig .tc := ⟨.hbm, 737, rfl⟩
abbrev main_call1_call1_v162 : Ref sig .tc := ⟨.hbm, 738, rfl⟩
abbrev main_call1_call1_v163 : Ref sig .tc := ⟨.hbm, 739, rfl⟩
abbrev main_call1_call1_v164 : Ref sig .tc := ⟨.hbm, 740, rfl⟩
abbrev main_call1_call1_v165 : Ref sig .tc := ⟨.hbm, 741, rfl⟩
abbrev main_call1_call1_v166 : Ref sig .tc := ⟨.hbm, 742, rfl⟩
abbrev main_call1_call1_c_42 : Ref sig .tc := ⟨.hbm, 743, rfl⟩
abbrev main_call1_call1_v167 : Ref sig .tc := ⟨.hbm, 744, rfl⟩
abbrev main_call1_call1_v168 : Ref sig .tc := ⟨.hbm, 745, rfl⟩
abbrev main_call1_call1_c_43 : Ref sig .tc := ⟨.hbm, 746, rfl⟩
abbrev main_call1_call1_v169 : Ref sig .tc := ⟨.hbm, 747, rfl⟩
abbrev main_call1_call1_v170 : Ref sig .tc := ⟨.hbm, 748, rfl⟩
abbrev main_call1_call1_v171 : Ref sig .tc := ⟨.hbm, 749, rfl⟩
abbrev main_call1_call1_v172 : Ref sig .tc := ⟨.hbm, 750, rfl⟩
abbrev main_call1_call1_v173 : Ref sig .tc := ⟨.hbm, 751, rfl⟩
abbrev main_call1_v20_0 : Ref sig .tc := ⟨.hbm, 752, rfl⟩
abbrev main_call1_call1_v175 : Ref sig .tc := ⟨.hbm, 753, rfl⟩
abbrev main_call1_call1_v176 : Ref sig .tc := ⟨.hbm, 754, rfl⟩
abbrev main_call1_call1_c_44 : Ref sig .tc := ⟨.hbm, 755, rfl⟩
abbrev main_call1_call1_v177 : Ref sig .tc := ⟨.hbm, 756, rfl⟩
abbrev main_call1_v20_1 : Ref sig .tc := ⟨.hbm, 757, rfl⟩
abbrev main_call1_v21 : Ref sig .tc := ⟨.hbm, 758, rfl⟩
abbrev main_call1_v22 : Ref sig .tc := ⟨.hbm, 759, rfl⟩
abbrev main_call1_v23_0 : Ref sig .tc := ⟨.hbm, 760, rfl⟩
abbrev main_v11 : Ref sig .tc := ⟨.hbm, 761, rfl⟩
abbrev main_call2_v0 : Ref sig .tc := ⟨.hbm, 762, rfl⟩
abbrev main_call2_v1_0 : Ref sig .tc := ⟨.hbm, 763, rfl⟩
abbrev main_v12 : Ref sig .tc := ⟨.hbm, 764, rfl⟩
abbrev main_v13 : Ref sig .tc := ⟨.hbm, 765, rfl⟩
abbrev main_call3_v0 : Ref sig .tc := ⟨.hbm, 766, rfl⟩
abbrev main_call3_v1 : Ref sig .tc := ⟨.hbm, 767, rfl⟩
abbrev main_call3_v2 : Ref sig .tc := ⟨.hbm, 768, rfl⟩
abbrev main_call3_v3 : Ref sig .tc := ⟨.hbm, 769, rfl⟩
abbrev main_call3_v4 : Ref sig .tc := ⟨.hbm, 770, rfl⟩
abbrev main_v14 : Ref sig .tc := ⟨.hbm, 771, rfl⟩
abbrev main_cst : Ref sig .tc := ⟨.hbm, 772, rfl⟩
abbrev main_v15 : Ref sig .tc := ⟨.hbm, 773, rfl⟩
abbrev main_cst_2 : Ref sig .tc := ⟨.hbm, 774, rfl⟩
abbrev main_v16 : Ref sig .tc := ⟨.hbm, 775, rfl⟩
abbrev main_v17 : Ref sig .tc := ⟨.hbm, 776, rfl⟩
abbrev main_v18 : Ref sig .tc := ⟨.hbm, 777, rfl⟩
abbrev main_c_3 : Ref sig .tc := ⟨.hbm, 778, rfl⟩
abbrev main_v19 : Ref sig .tc := ⟨.hbm, 779, rfl⟩
abbrev main_v20 : Ref sig .tc := ⟨.hbm, 780, rfl⟩
abbrev main_v21 : Ref sig .tc := ⟨.hbm, 781, rfl⟩
abbrev main_v22 : Ref sig .tc := ⟨.hbm, 782, rfl⟩
abbrev main_v23 : Ref sig .tc := ⟨.hbm, 783, rfl⟩
abbrev main_v24 : Ref sig .tc := ⟨.hbm, 784, rfl⟩
abbrev main_v25 : Ref sig .tc := ⟨.hbm, 785, rfl⟩
abbrev main_v26 : Ref sig .tc := ⟨.hbm, 786, rfl⟩
abbrev main_v27 : Ref sig .tc := ⟨.hbm, 787, rfl⟩
abbrev main_v28 : Ref sig .tc := ⟨.hbm, 788, rfl⟩
abbrev main_v29 : Ref sig .tc := ⟨.hbm, 789, rfl⟩
abbrev main_v30 : Ref sig .tc := ⟨.hbm, 790, rfl⟩
abbrev main_v31 : Ref sig .tc := ⟨.hbm, 791, rfl⟩
abbrev main_v32 : Ref sig .tc := ⟨.hbm, 792, rfl⟩
abbrev main_v33 : Ref sig .tc := ⟨.hbm, 793, rfl⟩
abbrev main_v34 : Ref sig .tc := ⟨.hbm, 794, rfl⟩
abbrev main_v35 : Ref sig .tc := ⟨.hbm, 795, rfl⟩
abbrev main_v36 : Ref sig .tc := ⟨.hbm, 796, rfl⟩
abbrev main_v37 : Ref sig .tc := ⟨.hbm, 797, rfl⟩
abbrev main_v38 : Ref sig .tc := ⟨.hbm, 798, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ReferenceIdeal.lean ====
abbrev S1024x512 : Shape := ⟨2, ![1024, 512]⟩
abbrev S1024x16x1 : Shape := ⟨3, ![1024, 16, 1]⟩
abbrev S512x512 : Shape := ⟨2, ![512, 512]⟩
abbrev S512 : Shape := ⟨1, ![512]⟩
abbrev S512x128 : Shape := ⟨2, ![512, 128]⟩
abbrev S128 : Shape := ⟨1, ![128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩
abbrev S2 : Shape := ⟨1, ![2]⟩
abbrev S32768 : Shape := ⟨1, ![32768]⟩
abbrev S32768x1 : Shape := ⟨2, ![32768, 1]⟩
abbrev S32768x2 : Shape := ⟨2, ![32768, 2]⟩
abbrev S16 : Shape := ⟨1, ![16]⟩
abbrev S1x2 : Shape := ⟨2, ![1, 2]⟩
abbrev S32768x2x1 : Shape := ⟨3, ![32768, 2, 1]⟩
abbrev S32768x2x2 : Shape := ⟨3, ![32768, 2, 2]⟩
abbrev S32768x1x2 : Shape := ⟨3, ![32768, 1, 2]⟩
abbrev S1x16 : Shape := ⟨2, ![1, 16]⟩
abbrev S32768x16 : Shape := ⟨2, ![32768, 16]⟩
abbrev S1024x32x16 : Shape := ⟨3, ![1024, 32, 16]⟩
abbrev S32768x16x1 : Shape := ⟨3, ![32768, 16, 1]⟩
abbrev S1x1x16 : Shape := ⟨3, ![1, 1, 16]⟩
abbrev S32768x16x16 : Shape := ⟨3, ![32768, 16, 16]⟩
abbrev S1024x32x16x16 : Shape := ⟨4, ![1024, 32, 16, 16]⟩
abbrev S16x16 : Shape := ⟨2, ![16, 16]⟩
abbrev S1024x16 : Shape := ⟨2, ![1024, 16]⟩
abbrev S1024x1x16 : Shape := ⟨3, ![1024, 1, 16]⟩
abbrev S1024x32x16x1 : Shape := ⟨4, ![1024, 32, 16, 1]⟩
abbrev S1x1x1x1 : Shape := ⟨4, ![1, 1, 1, 1]⟩
abbrev S1024x32x1x16 : Shape := ⟨4, ![1024, 32, 1, 16]⟩
abbrev S16384x1 : Shape := ⟨2, ![16384, 1]⟩
abbrev S1024x1x512 : Shape := ⟨3, ![1024, 1, 512]⟩
abbrev S1024x16x512 : Shape := ⟨3, ![1024, 16, 512]⟩
abbrev S16384x512 : Shape := ⟨2, ![16384, 512]⟩
abbrev S16384x2 : Shape := ⟨2, ![16384, 2]⟩
abbrev S16384x1x2 : Shape := ⟨3, ![16384, 1, 2]⟩
abbrev S1x512 : Shape := ⟨2, ![1, 512]⟩
abbrev S16384x128 : Shape := ⟨2, ![16384, 128]⟩
abbrev S1x128 : Shape := ⟨2, ![1, 128]⟩
abbrev S16384x2x64 : Shape := ⟨3, ![16384, 2, 64]⟩
abbrev S16384x64 : Shape := ⟨2, ![16384, 64]⟩
abbrev S1x64 : Shape := ⟨2, ![1, 64]⟩
abbrev S16384x1x64 : Shape := ⟨3, ![16384, 1, 64]⟩
abbrev S16384x64x1 : Shape := ⟨3, ![16384, 64, 1]⟩
abbrev S1x1 : Shape := ⟨2, ![1, 1]⟩
abbrev S16384x1x1 : Shape := ⟨3, ![16384, 1, 1]⟩

abbrev nBuf : Space → Nat
  | .hbm => 942
  | .vmem => 0
  | .smem => 0
  | _ => 0

abbrev hbmTy0_0 (i : Nat) : BufTy := match i % 128 with
  | 0 => ⟨S1024x512, .f32⟩
  | 1 => ⟨S1024x16x1, .f32⟩
  | 2 => ⟨S512x512, .f32⟩
  | 3 => ⟨S512, .f32⟩
  | 4 => ⟨S512x128, .f32⟩
  | 5 => ⟨S128, .f32⟩
  | 6 => ⟨S512x64, .f32⟩
  | 7 => ⟨S64, .f32⟩
  | 8 => ⟨S512x512, .f32⟩
  | 9 => ⟨S512, .f32⟩
  | 10 => ⟨S512x64, .f32⟩
  | 11 => ⟨S64, .f32⟩
  | 12 => ⟨S512x64, .f32⟩
  | 13 => ⟨S64, .f32⟩
  | 14 => ⟨S64x1, .f32⟩
  | 15 => ⟨S1, .f32⟩
  | 16 => ⟨S_, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S1, .i32⟩
  | 25 => ⟨S2, .i32⟩
  | 26 => ⟨S1, .i32⟩
  | 27 => ⟨S_, .i32⟩
  | 28 => ⟨S1, .i32⟩
  | 29 => ⟨S_, .i32⟩
  | 30 => ⟨S32768, .i64⟩
  | 31 => ⟨S_, .i64⟩
  | 32 => ⟨S32768, .i64⟩
  | 33 => ⟨S32768, .i64⟩
  | 34 => ⟨S_, .i64⟩
  | 35 => ⟨S32768, .i64⟩
  | 36 => ⟨S32768, .i64⟩
  | 37 => ⟨S32768, .i32⟩
  | 38 => ⟨S32768, .i32⟩
  | 39 => ⟨S_, .i32⟩
  | 40 => ⟨S_, .i32⟩
  | 41 => ⟨S_, .i32⟩
  | 42 => ⟨S32768, .i32⟩
  | 43 => ⟨S32768, .i32⟩
  | 44 => ⟨S32768, .i32⟩
  | 45 => ⟨S32768, .i32⟩
  | 46 => ⟨S32768, .i32⟩
  | 47 => ⟨S_, .i32⟩
  | 48 => ⟨S32768, .i32⟩
  | 49 => ⟨S32768, .i32⟩
  | 50 => ⟨S_, .i32⟩
  | 51 => ⟨S32768, .i32⟩
  | 52 => ⟨S32768, .i32⟩
  | 53 => ⟨S32768, .i32⟩
  | 54 => ⟨S32768, .i32⟩
  | 55 => ⟨S32768, .i32⟩
  | 56 => ⟨S_, .i32⟩
  | 57 => ⟨S32768, .i32⟩
  | 58 => ⟨S32768, .i32⟩
  | 59 => ⟨S_, .i32⟩
  | 60 => ⟨S32768, .i32⟩
  | 61 => ⟨S32768, .i32⟩
  | 62 => ⟨S32768, .i32⟩
  | 63 => ⟨S32768, .i32⟩
  | 64 => ⟨S32768, .i32⟩
  | 65 => ⟨S_, .i32⟩
  | 66 => ⟨S32768, .i32⟩
  | 67 => ⟨S32768, .i32⟩
  | 68 => ⟨S_, .i32⟩
  | 69 => ⟨S32768, .i32⟩
  | 70 => ⟨S32768, .i32⟩
  | 71 => ⟨S32768, .i32⟩
  | 72 => ⟨S32768, .i32⟩
  | 73 => ⟨S32768, .i32⟩
  | 74 => ⟨S_, .i32⟩
  | 75 => ⟨S32768, .i32⟩
  | 76 => ⟨S32768, .i32⟩
  | 77 => ⟨S_, .i32⟩
  | 78 => ⟨S32768, .i32⟩
  | 79 => ⟨S32768, .i32⟩
  | 80 => ⟨S32768, .i32⟩
  | 81 => ⟨S32768, .i32⟩
  | 82 => ⟨S32768, .i32⟩
  | 83 => ⟨S32768, .i32⟩
  | 84 => ⟨S32768, .i32⟩
  | 85 => ⟨S32768, .i32⟩
  | 86 => ⟨S_, .i32⟩
  | 87 => ⟨S32768, .i32⟩
  | 88 => ⟨S32768, .i32⟩
  | 89 => ⟨S32768, .i32⟩
  | 90 => ⟨S_, .i32⟩
  | 91 => ⟨S32768, .i32⟩
  | 92 => ⟨S32768, .i32⟩
  | 93 => ⟨S_, .i32⟩
  | 94 => ⟨S32768, .i32⟩
  | 95 => ⟨S32768, .i32⟩
  | 96 => ⟨S32768, .i32⟩
  | 97 => ⟨S32768, .i32⟩
  | 98 => ⟨S32768, .i32⟩
  | 99 => ⟨S_, .i32⟩
  | 100 => ⟨S32768, .i32⟩
  | 101 => ⟨S32768, .i32⟩
  | 102 => ⟨S_, .i32⟩
  | 103 => ⟨S32768, .i32⟩
  | 104 => ⟨S32768, .i32⟩
  | 105 => ⟨S32768, .i32⟩
  | 106 => ⟨S32768, .i32⟩
  | 107 => ⟨S32768, .i32⟩
  | 108 => ⟨S_, .i32⟩
  | 109 => ⟨S32768, .i32⟩
  | 110 => ⟨S32768, .i32⟩
  | 111 => ⟨S_, .i32⟩
  | 112 => ⟨S32768, .i32⟩
  | 113 => ⟨S32768, .i32⟩
  | 114 => ⟨S32768, .i32⟩
  | 115 => ⟨S32768, .i32⟩
  | 116 => ⟨S32768, .i32⟩
  | 117 => ⟨S_, .i32⟩
  | 118 => ⟨S32768, .i32⟩
  | 119 => ⟨S32768, .i32⟩
  | 120 => ⟨S_, .i32⟩
  | 121 => ⟨S32768, .i32⟩
  | 122 => ⟨S32768, .i32⟩
  | 123 => ⟨S32768, .i32⟩
  | 124 => ⟨S32768, .i32⟩
  | 125 => ⟨S32768, .i32⟩
  | 126 => ⟨S32768, .i32⟩
  | 127 => ⟨S32768, .i32⟩
  | _ => ⟨S1024x512, .f32⟩

abbrev hbmTy0_1 (i : Nat) : BufTy := match i % 128 with
  | 0 => ⟨S32768, .i32⟩
  | 1 => ⟨S_, .i32⟩
  | 2 => ⟨S32768, .i32⟩
  | 3 => ⟨S32768, .i32⟩
  | 4 => ⟨S32768, .i32⟩
  | 5 => ⟨S_, .i32⟩
  | 6 => ⟨S32768, .i32⟩
  | 7 => ⟨S32768, .i32⟩
  | 8 => ⟨S_, .i32⟩
  | 9 => ⟨S32768, .i32⟩
  | 10 => ⟨S32768, .i32⟩
  | 11 => ⟨S32768, .i32⟩
  | 12 => ⟨S32768, .i32⟩
  | 13 => ⟨S32768, .i32⟩
  | 14 => ⟨S_, .i32⟩
  | 15 => ⟨S32768, .i32⟩
  | 16 => ⟨S32768, .i32⟩
  | 17 => ⟨S_, .i32⟩
  | 18 => ⟨S32768, .i32⟩
  | 19 => ⟨S32768, .i32⟩
  | 20 => ⟨S32768, .i32⟩
  | 21 => ⟨S32768, .i32⟩
  | 22 => ⟨S32768, .i32⟩
  | 23 => ⟨S_, .i32⟩
  | 24 => ⟨S32768, .i32⟩
  | 25 => ⟨S32768, .i32⟩
  | 26 => ⟨S_, .i32⟩
  | 27 => ⟨S32768, .i32⟩
  | 28 => ⟨S32768, .i32⟩
  | 29 => ⟨S32768, .i32⟩
  | 30 => ⟨S32768, .i32⟩
  | 31 => ⟨S32768, .i32⟩
  | 32 => ⟨S_, .i32⟩
  | 33 => ⟨S32768, .i32⟩
  | 34 => ⟨S32768, .i32⟩
  | 35 => ⟨S_, .i32⟩
  | 36 => ⟨S32768, .i32⟩
  | 37 => ⟨S32768, .i32⟩
  | 38 => ⟨S32768, .i32⟩
  | 39 => ⟨S32768, .i32⟩
  | 40 => ⟨S32768, .i32⟩
  | 41 => ⟨S32768, .i32⟩
  | 42 => ⟨S32768, .i32⟩
  | 43 => ⟨S32768, .i32⟩
  | 44 => ⟨S_, .i32⟩
  | 45 => ⟨S32768, .i32⟩
  | 46 => ⟨S32768, .i32⟩
  | 47 => ⟨S32768, .i32⟩
  | 48 => ⟨S_, .i32⟩
  | 49 => ⟨S32768, .i32⟩
  | 50 => ⟨S32768, .i32⟩
  | 51 => ⟨S_, .i32⟩
  | 52 => ⟨S32768, .i32⟩
  | 53 => ⟨S32768, .i32⟩
  | 54 => ⟨S32768, .i32⟩
  | 55 => ⟨S32768, .i32⟩
  | 56 => ⟨S32768, .i32⟩
  | 57 => ⟨S_, .i32⟩
  | 58 => ⟨S32768, .i32⟩
  | 59 => ⟨S32768, .i32⟩
  | 60 => ⟨S_, .i32⟩
  | 61 => ⟨S32768, .i32⟩
  | 62 => ⟨S32768, .i32⟩
  | 63 => ⟨S32768, .i32⟩
  | 64 => ⟨S32768, .i32⟩
  | 65 => ⟨S32768, .i32⟩
  | 66 => ⟨S_, .i32⟩
  | 67 => ⟨S32768, .i32⟩
  | 68 => ⟨S32768, .i32⟩
  | 69 => ⟨S_, .i32⟩
  | 70 => ⟨S32768, .i32⟩
  | 71 => ⟨S32768, .i32⟩
  | 72 => ⟨S32768, .i32⟩
  | 73 => ⟨S32768, .i32⟩
  | 74 => ⟨S32768, .i32⟩
  | 75 => ⟨S_, .i32⟩
  | 76 => ⟨S32768, .i32⟩
  | 77 => ⟨S32768, .i32⟩
  | 78 => ⟨S_, .i32⟩
  | 79 => ⟨S32768, .i32⟩
  | 80 => ⟨S32768, .i32⟩
  | 81 => ⟨S32768, .i32⟩
  | 82 => ⟨S32768, .i32⟩
  | 83 => ⟨S32768, .i32⟩
  | 84 => ⟨S32768, .i32⟩
  | 85 => ⟨S32768, .i32⟩
  | 86 => ⟨S32768, .i32⟩
  | 87 => ⟨S_, .i32⟩
  | 88 => ⟨S32768, .i32⟩
  | 89 => ⟨S32768, .i32⟩
  | 90 => ⟨S32768, .i32⟩
  | 91 => ⟨S_, .i32⟩
  | 92 => ⟨S32768, .i32⟩
  | 93 => ⟨S32768, .i32⟩
  | 94 => ⟨S_, .i32⟩
  | 95 => ⟨S32768, .i32⟩
  | 96 => ⟨S32768, .i32⟩
  | 97 => ⟨S32768, .i32⟩
  | 98 => ⟨S32768, .i32⟩
  | 99 => ⟨S32768, .i32⟩
  | 100 => ⟨S_, .i32⟩
  | 101 => ⟨S32768, .i32⟩
  | 102 => ⟨S32768, .i32⟩
  | 103 => ⟨S_, .i32⟩
  | 104 => ⟨S32768, .i32⟩
  | 105 => ⟨S32768, .i32⟩
  | 106 => ⟨S32768, .i32⟩
  | 107 => ⟨S32768, .i32⟩
  | 108 => ⟨S32768, .i32⟩
  | 109 => ⟨S_, .i32⟩
  | 110 => ⟨S32768, .i32⟩
  | 111 => ⟨S32768, .i32⟩
  | 112 => ⟨S_, .i32⟩
  | 113 => ⟨S32768, .i32⟩
  | 114 => ⟨S32768, .i32⟩
  | 115 => ⟨S32768, .i32⟩
  | 116 => ⟨S32768, .i32⟩
  | 117 => ⟨S32768, .i32⟩
  | 118 => ⟨S_, .i32⟩
  | 119 => ⟨S32768, .i32⟩
  | 120 => ⟨S32768, .i32⟩
  | 121 => ⟨S_, .i32⟩
  | 122 => ⟨S32768, .i32⟩
  | 123 => ⟨S32768, .i32⟩
  | 124 => ⟨S32768, .i32⟩
  | 125 => ⟨S32768, .i32⟩
  | 126 => ⟨S32768, .i32⟩
  | 127 => ⟨S32768, .i32⟩
  | _ => ⟨S1024x512, .f32⟩

abbrev hbmTy0_2 (i : Nat) : BufTy := match i % 128 with
  | 0 => ⟨S32768, .i32⟩
  | 1 => ⟨S32768, .i32⟩
  | 2 => ⟨S_, .i32⟩
  | 3 => ⟨S32768, .i32⟩
  | 4 => ⟨S32768, .i32⟩
  | 5 => ⟨S32768x1, .i32⟩
  | 6 => ⟨S32768x1, .i32⟩
  | 7 => ⟨S32768x2, .i32⟩
  | 8 => ⟨S16, .i32⟩
  | 9 => ⟨S32768x1, .i32⟩
  | 10 => ⟨S32768, .i32⟩
  | 11 => ⟨S32768x1, .i32⟩
  | 12 => ⟨S32768, .i32⟩
  | 13 => ⟨S2, .i64⟩
  | 14 => ⟨S_, .i64⟩
  | 15 => ⟨S2, .i64⟩
  | 16 => ⟨S2, .i64⟩
  | 17 => ⟨S_, .i64⟩
  | 18 => ⟨S2, .i64⟩
  | 19 => ⟨S2, .i64⟩
  | 20 => ⟨S2, .i32⟩
  | 21 => ⟨S2, .i32⟩
  | 22 => ⟨S1x2, .i32⟩
  | 23 => ⟨S1x2, .i32⟩
  | 24 => ⟨S32768x1, .i32⟩
  | 25 => ⟨S32768x1, .i32⟩
  | 26 => ⟨S32768x1, .i32⟩
  | 27 => ⟨S_, .i32⟩
  | 28 => ⟨S32768x1, .i32⟩
  | 29 => ⟨S32768x1, .i32⟩
  | 30 => ⟨S32768x2, .i32⟩
  | 31 => ⟨S32768x2, .i32⟩
  | 32 => ⟨S32768x2, .i32⟩
  | 33 => ⟨S32768x2, .i32⟩
  | 34 => ⟨S32768x2, .i32⟩
  | 35 => ⟨S32768x2, .i32⟩
  | 36 => ⟨S32768x2, .i32⟩
  | 37 => ⟨S_, .i32⟩
  | 38 => ⟨S32768x2, .i32⟩
  | 39 => ⟨S32768x2, .i32⟩
  | 40 => ⟨S_, .i32⟩
  | 41 => ⟨S32768x2, .i32⟩
  | 42 => ⟨S32768x2, .i32⟩
  | 43 => ⟨S32768x2, .i32⟩
  | 44 => ⟨S32768x2, .i32⟩
  | 45 => ⟨S32768x2, .i32⟩
  | 46 => ⟨S_, .i32⟩
  | 47 => ⟨S32768x2, .i32⟩
  | 48 => ⟨S32768x2, .i32⟩
  | 49 => ⟨S_, .i32⟩
  | 50 => ⟨S32768x2, .i32⟩
  | 51 => ⟨S32768x2, .i32⟩
  | 52 => ⟨S32768x2, .i32⟩
  | 53 => ⟨S32768x2, .i32⟩
  | 54 => ⟨S32768x2, .i32⟩
  | 55 => ⟨S_, .i32⟩
  | 56 => ⟨S32768x2, .i32⟩
  | 57 => ⟨S32768x2, .i32⟩
  | 58 => ⟨S_, .i32⟩
  | 59 => ⟨S32768x2, .i32⟩
  | 60 => ⟨S32768x2, .i32⟩
  | 61 => ⟨S32768x2, .i32⟩
  | 62 => ⟨S32768x2, .i32⟩
  | 63 => ⟨S32768x2, .i32⟩
  | 64 => ⟨S_, .i32⟩
  | 65 => ⟨S32768x2, .i32⟩
  | 66 => ⟨S32768x2, .i32⟩
  | 67 => ⟨S_, .i32⟩
  | 68 => ⟨S32768x2, .i32⟩
  | 69 => ⟨S32768x2, .i32⟩
  | 70 => ⟨S32768x2, .i32⟩
  | 71 => ⟨S32768x2, .i32⟩
  | 72 => ⟨S32768x2, .i32⟩
  | 73 => ⟨S32768x2, .i32⟩
  | 74 => ⟨S32768x2, .i32⟩
  | 75 => ⟨S32768x2, .i32⟩
  | 76 => ⟨S_, .i32⟩
  | 77 => ⟨S32768x2, .i32⟩
  | 78 => ⟨S32768x2, .i32⟩
  | 79 => ⟨S32768x2, .i32⟩
  | 80 => ⟨S_, .i32⟩
  | 81 => ⟨S32768x2, .i32⟩
  | 82 => ⟨S32768x2, .i32⟩
  | 83 => ⟨S_, .i32⟩
  | 84 => ⟨S32768x2, .i32⟩
  | 85 => ⟨S32768x2, .i32⟩
  | 86 => ⟨S32768x2, .i32⟩
  | 87 => ⟨S32768x2, .i32⟩
  | 88 => ⟨S32768x2, .i32⟩
  | 89 => ⟨S_, .i32⟩
  | 90 => ⟨S32768x2, .i32⟩
  | 91 => ⟨S32768x2, .i32⟩
  | 92 => ⟨S_, .i32⟩
  | 93 => ⟨S32768x2, .i32⟩
  | 94 => ⟨S32768x2, .i32⟩
  | 95 => ⟨S32768x2, .i32⟩
  | 96 => ⟨S32768x2, .i32⟩
  | 97 => ⟨S32768x2, .i32⟩
  | 98 => ⟨S_, .i32⟩
  | 99 => ⟨S32768x2, .i32⟩
  | 100 => ⟨S32768x2, .i32⟩
  | 101 => ⟨S_, .i32⟩
  | 102 => ⟨S32768x2, .i32⟩
  | 103 => ⟨S32768x2, .i32⟩
  | 104 => ⟨S32768x2, .i32⟩
  | 105 => ⟨S32768x2, .i32⟩
  | 106 => ⟨S32768x2, .i32⟩
  | 107 => ⟨S_, .i32⟩
  | 108 => ⟨S32768x2, .i32⟩
  | 109 => ⟨S32768x2, .i32⟩
  | 110 => ⟨S_, .i32⟩
  | 111 => ⟨S32768x2, .i32⟩
  | 112 => ⟨S32768x2, .i32⟩
  | 113 => ⟨S32768x2, .i32⟩
  | 114 => ⟨S32768x2, .i32⟩
  | 115 => ⟨S32768x2, .i32⟩
  | 116 => ⟨S32768x2, .i32⟩
  | 117 => ⟨S32768x2, .i32⟩
  | 118 => ⟨S32768x2, .i32⟩
  | 119 => ⟨S_, .i32⟩
  | 120 => ⟨S32768x2, .i32⟩
  | 121 => ⟨S32768x2, .i32⟩
  | 122 => ⟨S32768x2, .i32⟩
  | 123 => ⟨S_, .i32⟩
  | 124 => ⟨S32768x2, .i32⟩
  | 125 => ⟨S32768x2, .i32⟩
  | 126 => ⟨S_, .i32⟩
  | 127 => ⟨S32768x2, .i32⟩
  | _ => ⟨S1024x512, .f32⟩

abbrev hbmTy0_3 (i : Nat) : BufTy := match i % 128 with
  | 0 => ⟨S32768x2, .i32⟩
  | 1 => ⟨S32768x2, .i32⟩
  | 2 => ⟨S32768x2, .i32⟩
  | 3 => ⟨S32768x2, .i32⟩
  | 4 => ⟨S_, .i32⟩
  | 5 => ⟨S32768x2, .i32⟩
  | 6 => ⟨S32768x2, .i32⟩
  | 7 => ⟨S_, .i32⟩
  | 8 => ⟨S32768x2, .i32⟩
  | 9 => ⟨S32768x2, .i32⟩
  | 10 => ⟨S32768x2, .i32⟩
  | 11 => ⟨S32768x2, .i32⟩
  | 12 => ⟨S32768x2, .i32⟩
  | 13 => ⟨S_, .i32⟩
  | 14 => ⟨S32768x2, .i32⟩
  | 15 => ⟨S32768x2, .i32⟩
  | 16 => ⟨S_, .i32⟩
  | 17 => ⟨S32768x2, .i32⟩
  | 18 => ⟨S32768x2, .i32⟩
  | 19 => ⟨S32768x2, .i32⟩
  | 20 => ⟨S32768x2, .i32⟩
  | 21 => ⟨S32768x2, .i32⟩
  | 22 => ⟨S_, .i32⟩
  | 23 => ⟨S32768x2, .i32⟩
  | 24 => ⟨S32768x2, .i32⟩
  | 25 => ⟨S_, .i32⟩
  | 26 => ⟨S32768x2, .i32⟩
  | 27 => ⟨S32768x2, .i32⟩
  | 28 => ⟨S32768x2, .i32⟩
  | 29 => ⟨S32768x2, .i32⟩
  | 30 => ⟨S32768x2, .i32⟩
  | 31 => ⟨S32768x2, .i32⟩
  | 32 => ⟨S32768x2, .i32⟩
  | 33 => ⟨S32768x2, .i32⟩
  | 34 => ⟨S_, .i32⟩
  | 35 => ⟨S32768x2, .i32⟩
  | 36 => ⟨S32768x2, .i32⟩
  | 37 => ⟨S32768x2, .i32⟩
  | 38 => ⟨S_, .i32⟩
  | 39 => ⟨S32768x2, .i32⟩
  | 40 => ⟨S32768x2, .i32⟩
  | 41 => ⟨S_, .i32⟩
  | 42 => ⟨S32768x2, .i32⟩
  | 43 => ⟨S32768x2, .i32⟩
  | 44 => ⟨S32768x2, .i32⟩
  | 45 => ⟨S32768x2, .i32⟩
  | 46 => ⟨S32768x2, .i32⟩
  | 47 => ⟨S_, .i32⟩
  | 48 => ⟨S32768x2, .i32⟩
  | 49 => ⟨S32768x2, .i32⟩
  | 50 => ⟨S_, .i32⟩
  | 51 => ⟨S32768x2, .i32⟩
  | 52 => ⟨S32768x2, .i32⟩
  | 53 => ⟨S32768x2, .i32⟩
  | 54 => ⟨S32768x2, .i32⟩
  | 55 => ⟨S32768x2, .i32⟩
  | 56 => ⟨S_, .i32⟩
  | 57 => ⟨S32768x2, .i32⟩
  | 58 => ⟨S32768x2, .i32⟩
  | 59 => ⟨S_, .i32⟩
  | 60 => ⟨S32768x2, .i32⟩
  | 61 => ⟨S32768x2, .i32⟩
  | 62 => ⟨S32768x2, .i32⟩
  | 63 => ⟨S32768x2, .i32⟩
  | 64 => ⟨S32768x2, .i32⟩
  | 65 => ⟨S_, .i32⟩
  | 66 => ⟨S32768x2, .i32⟩
  | 67 => ⟨S32768x2, .i32⟩
  | 68 => ⟨S_, .i32⟩
  | 69 => ⟨S32768x2, .i32⟩
  | 70 => ⟨S32768x2, .i32⟩
  | 71 => ⟨S32768x2, .i32⟩
  | 72 => ⟨S32768x2, .i32⟩
  | 73 => ⟨S32768x2, .i32⟩
  | 74 => ⟨S32768x2, .i32⟩
  | 75 => ⟨S32768x2, .i32⟩
  | 76 => ⟨S32768x2, .i32⟩
  | 77 => ⟨S_, .i32⟩
  | 78 => ⟨S32768x2, .i32⟩
  | 79 => ⟨S32768x2, .i32⟩
  | 80 => ⟨S32768x2, .i32⟩
  | 81 => ⟨S_, .i32⟩
  | 82 => ⟨S32768x2, .i32⟩
  | 83 => ⟨S32768x2, .i32⟩
  | 84 => ⟨S_, .i32⟩
  | 85 => ⟨S32768x2, .i32⟩
  | 86 => ⟨S32768x2, .i32⟩
  | 87 => ⟨S32768x2, .i32⟩
  | 88 => ⟨S32768x2, .i32⟩
  | 89 => ⟨S32768x2, .i32⟩
  | 90 => ⟨S_, .i32⟩
  | 91 => ⟨S32768x2, .i32⟩
  | 92 => ⟨S32768x2, .i32⟩
  | 93 => ⟨S_, .i32⟩
  | 94 => ⟨S32768x2, .i32⟩
  | 95 => ⟨S32768x2, .i32⟩
  | 96 => ⟨S32768x2, .i32⟩
  | 97 => ⟨S32768x2, .i32⟩
  | 98 => ⟨S32768x2, .i32⟩
  | 99 => ⟨S_, .i32⟩
  | 100 => ⟨S32768x2, .i32⟩
  | 101 => ⟨S32768x2, .i32⟩
  | 102 => ⟨S_, .i32⟩
  | 103 => ⟨S32768x2, .i32⟩
  | 104 => ⟨S32768x2, .i32⟩
  | 105 => ⟨S32768x2, .i32⟩
  | 106 => ⟨S32768x2, .i32⟩
  | 107 => ⟨S32768x2, .i32⟩
  | 108 => ⟨S_, .i32⟩
  | 109 => ⟨S32768x2, .i32⟩
  | 110 => ⟨S32768x2, .i32⟩
  | 111 => ⟨S_, .i32⟩
  | 112 => ⟨S32768x2, .i32⟩
  | 113 => ⟨S32768x2, .i32⟩
  | 114 => ⟨S32768x2, .i32⟩
  | 115 => ⟨S32768x2, .i32⟩
  | 116 => ⟨S32768x2, .i32⟩
  | 117 => ⟨S32768x2, .i32⟩
  | 118 => ⟨S32768x2, .i32⟩
  | 119 => ⟨S32768x2, .i32⟩
  | 120 => ⟨S_, .i32⟩
  | 121 => ⟨S32768x2, .i32⟩
  | 122 => ⟨S32768x2, .i32⟩
  | 123 => ⟨S32768x2x1, .i32⟩
  | 124 => ⟨S32768x2x1, .i32⟩
  | 125 => ⟨S32768x2x2, .i32⟩
  | 126 => ⟨S32768x1x2, .i32⟩
  | 127 => ⟨S32768x2, .i32⟩
  | _ => ⟨S1024x512, .f32⟩

abbrev hbmTy0_4 (i : Nat) : BufTy := match i % 128 with
  | 0 => ⟨S32768x1x2, .i32⟩
  | 1 => ⟨S32768x2, .i32⟩
  | 2 => ⟨S32768x1, .i32⟩
  | 3 => ⟨S32768, .i32⟩
  | 4 => ⟨S32768x1, .i32⟩
  | 5 => ⟨S32768, .i32⟩
  | 6 => ⟨S16, .i64⟩
  | 7 => ⟨S_, .i64⟩
  | 8 => ⟨S16, .i64⟩
  | 9 => ⟨S16, .i64⟩
  | 10 => ⟨S_, .i64⟩
  | 11 => ⟨S16, .i64⟩
  | 12 => ⟨S16, .i64⟩
  | 13 => ⟨S16, .i32⟩
  | 14 => ⟨S16, .i32⟩
  | 15 => ⟨S1x16, .i32⟩
  | 16 => ⟨S1x16, .i32⟩
  | 17 => ⟨S32768x1, .i32⟩
  | 18 => ⟨S32768x1, .i32⟩
  | 19 => ⟨S32768x1, .i32⟩
  | 20 => ⟨S_, .i32⟩
  | 21 => ⟨S32768x1, .i32⟩
  | 22 => ⟨S32768x1, .i32⟩
  | 23 => ⟨S32768x16, .i32⟩
  | 24 => ⟨S32768x16, .i32⟩
  | 25 => ⟨S32768x16, .i32⟩
  | 26 => ⟨S32768x16, .i32⟩
  | 27 => ⟨S32768x16, .i32⟩
  | 28 => ⟨S32768x16, .i32⟩
  | 29 => ⟨S32768x16, .i32⟩
  | 30 => ⟨S_, .i32⟩
  | 31 => ⟨S32768x16, .i32⟩
  | 32 => ⟨S32768x16, .i32⟩
  | 33 => ⟨S_, .i32⟩
  | 34 => ⟨S32768x16, .i32⟩
  | 35 => ⟨S32768x16, .i32⟩
  | 36 => ⟨S32768x16, .i32⟩
  | 37 => ⟨S32768x16, .i32⟩
  | 38 => ⟨S32768x16, .i32⟩
  | 39 => ⟨S_, .i32⟩
  | 40 => ⟨S32768x16, .i32⟩
  | 41 => ⟨S32768x16, .i32⟩
  | 42 => ⟨S_, .i32⟩
  | 43 => ⟨S32768x16, .i32⟩
  | 44 => ⟨S32768x16, .i32⟩
  | 45 => ⟨S32768x16, .i32⟩
  | 46 => ⟨S32768x16, .i32⟩
  | 47 => ⟨S32768x16, .i32⟩
  | 48 => ⟨S_, .i32⟩
  | 49 => ⟨S32768x16, .i32⟩
  | 50 => ⟨S32768x16, .i32⟩
  | 51 => ⟨S_, .i32⟩
  | 52 => ⟨S32768x16, .i32⟩
  | 53 => ⟨S32768x16, .i32⟩
  | 54 => ⟨S32768x16, .i32⟩
  | 55 => ⟨S32768x16, .i32⟩
  | 56 => ⟨S32768x16, .i32⟩
  | 57 => ⟨S_, .i32⟩
  | 58 => ⟨S32768x16, .i32⟩
  | 59 => ⟨S32768x16, .i32⟩
  | 60 => ⟨S_, .i32⟩
  | 61 => ⟨S32768x16, .i32⟩
  | 62 => ⟨S32768x16, .i32⟩
  | 63 => ⟨S32768x16, .i32⟩
  | 64 => ⟨S32768x16, .i32⟩
  | 65 => ⟨S32768x16, .i32⟩
  | 66 => ⟨S32768x16, .i32⟩
  | 67 => ⟨S32768x16, .i32⟩
  | 68 => ⟨S32768x16, .i32⟩
  | 69 => ⟨S_, .i32⟩
  | 70 => ⟨S32768x16, .i32⟩
  | 71 => ⟨S32768x16, .i32⟩
  | 72 => ⟨S32768x16, .i32⟩
  | 73 => ⟨S_, .i32⟩
  | 74 => ⟨S32768x16, .i32⟩
  | 75 => ⟨S32768x16, .i32⟩
  | 76 => ⟨S_, .i32⟩
  | 77 => ⟨S32768x16, .i32⟩
  | 78 => ⟨S32768x16, .i32⟩
  | 79 => ⟨S32768x16, .i32⟩
  | 80 => ⟨S32768x16, .i32⟩
  | 81 => ⟨S32768x16, .i32⟩
  | 82 => ⟨S_, .i32⟩
  | 83 => ⟨S32768x16, .i32⟩
  | 84 => ⟨S32768x16, .i32⟩
  | 85 => ⟨S_, .i32⟩
  | 86 => ⟨S32768x16, .i32⟩
  | 87 => ⟨S32768x16, .i32⟩
  | 88 => ⟨S32768x16, .i32⟩
  | 89 => ⟨S32768x16, .i32⟩
  | 90 => ⟨S32768x16, .i32⟩
  | 91 => ⟨S_, .i32⟩
  | 92 => ⟨S32768x16, .i32⟩
  | 93 => ⟨S32768x16, .i32⟩
  | 94 => ⟨S_, .i32⟩
  | 95 => ⟨S32768x16, .i32⟩
  | 96 => ⟨S32768x16, .i32⟩
  | 97 => ⟨S32768x16, .i32⟩
  | 98 => ⟨S32768x16, .i32⟩
  | 99 => ⟨S32768x16, .i32⟩
  | 100 => ⟨S_, .i32⟩
  | 101 => ⟨S32768x16, .i32⟩
  | 102 => ⟨S32768x16, .i32⟩
  | 103 => ⟨S_, .i32⟩
  | 104 => ⟨S32768x16, .i32⟩
  | 105 => ⟨S32768x16, .i32⟩
  | 106 => ⟨S32768x16, .i32⟩
  | 107 => ⟨S32768x16, .i32⟩
  | 108 => ⟨S32768x16, .i32⟩
  | 109 => ⟨S32768x16, .i32⟩
  | 110 => ⟨S32768x16, .i32⟩
  | 111 => ⟨S32768x16, .i32⟩
  | 112 => ⟨S_, .i32⟩
  | 113 => ⟨S32768x16, .i32⟩
  | 114 => ⟨S32768x16, .i32⟩
  | 115 => ⟨S32768x16, .i32⟩
  | 116 => ⟨S_, .i32⟩
  | 117 => ⟨S32768x16, .i32⟩
  | 118 => ⟨S32768x16, .i32⟩
  | 119 => ⟨S_, .i32⟩
  | 120 => ⟨S32768x16, .i32⟩
  | 121 => ⟨S32768x16, .i32⟩
  | 122 => ⟨S32768x16, .i32⟩
  | 123 => ⟨S32768x16, .i32⟩
  | 124 => ⟨S32768x16, .i32⟩
  | 125 => ⟨S_, .i32⟩
  | 126 => ⟨S32768x16, .i32⟩
  | 127 => ⟨S32768x16, .i32⟩
  | _ => ⟨S1024x512, .f32⟩

abbrev hbmTy0_5 (i : Nat) : BufTy := match i % 128 with
  | 0 => ⟨S_, .i32⟩
  | 1 => ⟨S32768x16, .i32⟩
  | 2 => ⟨S32768x16, .i32⟩
  | 3 => ⟨S32768x16, .i32⟩
  | 4 => ⟨S32768x16, .i32⟩
  | 5 => ⟨S32768x16, .i32⟩
  | 6 => ⟨S_, .i32⟩
  | 7 => ⟨S32768x16, .i32⟩
  | 8 => ⟨S32768x16, .i32⟩
  | 9 => ⟨S_, .i32⟩
  | 10 => ⟨S32768x16, .i32⟩
  | 11 => ⟨S32768x16, .i32⟩
  | 12 => ⟨S32768x16, .i32⟩
  | 13 => ⟨S32768x16, .i32⟩
  | 14 => ⟨S32768x16, .i32⟩
  | 15 => ⟨S_, .i32⟩
  | 16 => ⟨S32768x16, .i32⟩
  | 17 => ⟨S32768x16, .i32⟩
  | 18 => ⟨S_, .i32⟩
  | 19 => ⟨S32768x16, .i32⟩
  | 20 => ⟨S32768x16, .i32⟩
  | 21 => ⟨S32768x16, .i32⟩
  | 22 => ⟨S32768x16, .i32⟩
  | 23 => ⟨S32768x16, .i32⟩
  | 24 => ⟨S32768x16, .i32⟩
  | 25 => ⟨S32768x16, .i32⟩
  | 26 => ⟨S32768x16, .i32⟩
  | 27 => ⟨S_, .i32⟩
  | 28 => ⟨S32768x16, .i32⟩
  | 29 => ⟨S32768x16, .i32⟩
  | 30 => ⟨S32768x16, .i32⟩
  | 31 => ⟨S_, .i32⟩
  | 32 => ⟨S32768x16, .i32⟩
  | 33 => ⟨S32768x16, .i32⟩
  | 34 => ⟨S_, .i32⟩
  | 35 => ⟨S32768x16, .i32⟩
  | 36 => ⟨S32768x16, .i32⟩
  | 37 => ⟨S32768x16, .i32⟩
  | 38 => ⟨S32768x16, .i32⟩
  | 39 => ⟨S32768x16, .i32⟩
  | 40 => ⟨S_, .i32⟩
  | 41 => ⟨S32768x16, .i32⟩
  | 42 => ⟨S32768x16, .i32⟩
  | 43 => ⟨S_, .i32⟩
  | 44 => ⟨S32768x16, .i32⟩
  | 45 => ⟨S32768x16, .i32⟩
  | 46 => ⟨S32768x16, .i32⟩
  | 47 => ⟨S32768x16, .i32⟩
  | 48 => ⟨S32768x16, .i32⟩
  | 49 => ⟨S_, .i32⟩
  | 50 => ⟨S32768x16, .i32⟩
  | 51 => ⟨S32768x16, .i32⟩
  | 52 => ⟨S_, .i32⟩
  | 53 => ⟨S32768x16, .i32⟩
  | 54 => ⟨S32768x16, .i32⟩
  | 55 => ⟨S32768x16, .i32⟩
  | 56 => ⟨S32768x16, .i32⟩
  | 57 => ⟨S32768x16, .i32⟩
  | 58 => ⟨S_, .i32⟩
  | 59 => ⟨S32768x16, .i32⟩
  | 60 => ⟨S32768x16, .i32⟩
  | 61 => ⟨S_, .i32⟩
  | 62 => ⟨S32768x16, .i32⟩
  | 63 => ⟨S32768x16, .i32⟩
  | 64 => ⟨S32768x16, .i32⟩
  | 65 => ⟨S32768x16, .i32⟩
  | 66 => ⟨S32768x16, .i32⟩
  | 67 => ⟨S32768x16, .i32⟩
  | 68 => ⟨S32768x16, .i32⟩
  | 69 => ⟨S32768x16, .i32⟩
  | 70 => ⟨S_, .i32⟩
  | 71 => ⟨S32768x16, .i32⟩
  | 72 => ⟨S32768x16, .i32⟩
  | 73 => ⟨S32768x16, .i32⟩
  | 74 => ⟨S_, .i32⟩
  | 75 => ⟨S32768x16, .i32⟩
  | 76 => ⟨S32768x16, .i32⟩
  | 77 => ⟨S_, .i32⟩
  | 78 => ⟨S32768x16, .i32⟩
  | 79 => ⟨S32768x16, .i32⟩
  | 80 => ⟨S32768x16, .i32⟩
  | 81 => ⟨S32768x16, .i32⟩
  | 82 => ⟨S32768x16, .i32⟩
  | 83 => ⟨S_, .i32⟩
  | 84 => ⟨S32768x16, .i32⟩
  | 85 => ⟨S32768x16, .i32⟩
  | 86 => ⟨S_, .i32⟩
  | 87 => ⟨S32768x16, .i32⟩
  | 88 => ⟨S32768x16, .i32⟩
  | 89 => ⟨S32768x16, .i32⟩
  | 90 => ⟨S32768x16, .i32⟩
  | 91 => ⟨S32768x16, .i32⟩
  | 92 => ⟨S_, .i32⟩
  | 93 => ⟨S32768x16, .i32⟩
  | 94 => ⟨S32768x16, .i32⟩
  | 95 => ⟨S_, .i32⟩
  | 96 => ⟨S32768x16, .i32⟩
  | 97 => ⟨S32768x16, .i32⟩
  | 98 => ⟨S32768x16, .i32⟩
  | 99 => ⟨S32768x16, .i32⟩
  | 100 => ⟨S32768x16, .i32⟩
  | 101 => ⟨S_, .i32⟩
  | 102 => ⟨S32768x16, .i32⟩
  | 103 => ⟨S32768x16, .i32⟩
  | 104 => ⟨S_, .i32⟩
  | 105 => ⟨S32768x16, .i32⟩
  | 106 => ⟨S32768x16, .i32⟩
  | 107 => ⟨S32768x16, .i32⟩
  | 108 => ⟨S32768x16, .i32⟩
  | 109 => ⟨S32768x16, .i32⟩
  | 110 => ⟨S32768x16, .i32⟩
  | 111 => ⟨S32768x16, .i32⟩
  | 112 => ⟨S32768x16, .i32⟩
  | 113 => ⟨S_, .i32⟩
  | 114 => ⟨S32768x16, .i32⟩
  | 115 => ⟨S32768x16, .i32⟩
  | 116 => ⟨S32768x16, .i32⟩
  | 117 => ⟨S32768x16, .i32⟩
  | 118 => ⟨S32768x16, .i32⟩
  | 119 => ⟨S32768x16, .i32⟩
  | 120 => ⟨S32768x16, .i32⟩
  | 121 => ⟨S32768x16, .i32⟩
  | 122 => ⟨S32768x16, .i32⟩
  | 123 => ⟨S1024x32x16, .i32⟩
  | 124 => ⟨S32768x16x1, .i32⟩
  | 125 => ⟨S1x1x16, .i32⟩
  | 126 => ⟨S32768x16x16, .i32⟩
  | 127 => ⟨S32768x16x16, .i32⟩
  | _ => ⟨S1024x512, .f32⟩

abbrev hbmTy0_6 (i : Nat) : BufTy := match i % 128 with
  | 0 => ⟨S32768x16x16, .i1⟩
  | 1 => ⟨S32768x16x16, .f32⟩
  | 2 => ⟨S1024x32x16x16, .f32⟩
  | 3 => ⟨S_, .f32⟩
  | 4 => ⟨S16x16, .f32⟩
  | 5 => ⟨S16x16, .i32⟩
  | 6 => ⟨S_, .i32⟩
  | 7 => ⟨S16x16, .i32⟩
  | 8 => ⟨S16x16, .i32⟩
  | 9 => ⟨S16x16, .i32⟩
  | 10 => ⟨S16x16, .i1⟩
  | 11 => ⟨S_, .f32⟩
  | 12 => ⟨S16x16, .f32⟩
  | 13 => ⟨S16x16, .f32⟩
  | 14 => ⟨S1024x32x16x16, .f32⟩
  | 15 => ⟨S1024x32x16x16, .f32⟩
  | 16 => ⟨S1024x16, .f32⟩
  | 17 => ⟨S1024x1x16, .f32⟩
  | 18 => ⟨S1024x32x16, .f32⟩
  | 19 => ⟨S_, .i32⟩
  | 20 => ⟨S1024x32x16, .i32⟩
  | 21 => ⟨S1024x32x16, .i1⟩
  | 22 => ⟨S_, .i32⟩
  | 23 => ⟨S1024x32x16, .i32⟩
  | 24 => ⟨S1024x32x16, .i32⟩
  | 25 => ⟨S1024x32x16, .i32⟩
  | 26 => ⟨S1024x32x16x1, .i32⟩
  | 27 => ⟨S1, .i32⟩
  | 28 => ⟨S_, .i32⟩
  | 29 => ⟨S1024x32x16x1, .i32⟩
  | 30 => ⟨S1024x32x16x1, .i1⟩
  | 31 => ⟨S1x1x1x1, .i32⟩
  | 32 => ⟨S1024x32x16x1, .i32⟩
  | 33 => ⟨S1024x32x16x1, .i1⟩
  | 34 => ⟨S1024x32x16x1, .i1⟩
  | 35 => ⟨S_, .i1⟩
  | 36 => ⟨S1024x32x16, .i1⟩
  | 37 => ⟨S1024x32x16, .f32⟩
  | 38 => ⟨S_, .f32⟩
  | 39 => ⟨S1024x32x16, .f32⟩
  | 40 => ⟨S1024x32x16, .f32⟩
  | 41 => ⟨S1024x32x1x16, .f32⟩
  | 42 => ⟨S1024x32x16x16, .f32⟩
  | 43 => ⟨S1024x32x16x16, .f32⟩
  | 44 => ⟨S_, .f32⟩
  | 45 => ⟨S1024x32x16, .f32⟩
  | 46 => ⟨S_, .f32⟩
  | 47 => ⟨S1024x32x16, .f32⟩
  | 48 => ⟨S1024x32x16, .i1⟩
  | 49 => ⟨S_, .f32⟩
  | 50 => ⟨S_, .f32⟩
  | 51 => ⟨S1024x32x16, .f32⟩
  | 52 => ⟨S1024x32x16, .f32⟩
  | 53 => ⟨S_, .f32⟩
  | 54 => ⟨S1024x32x16, .f32⟩
  | 55 => ⟨S1024x32x16, .f32⟩
  | 56 => ⟨S_, .f32⟩
  | 57 => ⟨S1024x16, .f32⟩
  | 58 => ⟨S_, .f32⟩
  | 59 => ⟨S1024x16, .f32⟩
  | 60 => ⟨S1024x16, .f32⟩
  | 61 => ⟨S16384x1, .f32⟩
  | 62 => ⟨S16384x1, .f32⟩
  | 63 => ⟨S1024x1x512, .f32⟩
  | 64 => ⟨S1024x16x512, .f32⟩
  | 65 => ⟨S16384x512, .f32⟩
  | 66 => ⟨S16384x2, .f32⟩
  | 67 => ⟨S16384x1x2, .f32⟩
  | 68 => ⟨S16384x512, .f32⟩
  | 69 => ⟨S1x512, .f32⟩
  | 70 => ⟨S16384x512, .f32⟩
  | 71 => ⟨S16384x512, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x512, .f32⟩
  | 89 => ⟨S16384x128, .f32⟩
  | 90 => ⟨S1x128, .f32⟩
  | 91 => ⟨S16384x128, .f32⟩
  | 92 => ⟨S16384x128, .f32⟩
  | 93 => ⟨S16384x2x64, .f32⟩
  | 94 => ⟨S16384x64, .f32⟩
  | 95 => ⟨S1x64, .f32⟩
  | 96 => ⟨S16384x64, .f32⟩
  | 97 => ⟨S16384x64, .f32⟩
  | 98 => ⟨S16384x1x64, .f32⟩
  | 99 => ⟨S16384x1x64, .f32⟩
  | 100 => ⟨S16384x1x64, .f32⟩
  | 101 => ⟨S16384x1x64, .f32⟩
  | 102 => ⟨S16384x1x64, .f32⟩
  | 103 => ⟨S_, .f32⟩
  | 104 => ⟨S16384x1x64, .f32⟩
  | 105 => ⟨S16384x1x64, .f32⟩
  | 106 => ⟨S16384x1x64, .f32⟩
  | 107 => ⟨S_, .f32⟩
  | 108 => ⟨S16384x1x64, .f32⟩
  | 109 => ⟨S16384x1x64, .f32⟩
  | 110 => ⟨S16384x1x64, .f32⟩
  | 111 => ⟨S_, .f32⟩
  | 112 => ⟨S16384x1x64, .f32⟩
  | 113 => ⟨S16384x1x64, .f32⟩
  | 114 => ⟨S_, .f32⟩
  | 115 => ⟨S16384x1x64, .f32⟩
  | 116 => ⟨S16384x1x64, .f32⟩
  | 117 => ⟨S16384x1x64, .f32⟩
  | 118 => ⟨S16384x512, .f32⟩
  | 119 => ⟨S1x512, .f32⟩
  | 120 => ⟨S16384x512, .f32⟩
  | 121 => ⟨S16384x512, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S16384x512, .f32⟩
  | _ => ⟨S1024x512, .f32⟩

abbrev hbmTy0_7 (i : Nat) : BufTy := match i % 128 with
  | 0 => ⟨S_, .f32⟩
  | 1 => ⟨S16384x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S16384x64, .f32⟩
  | 12 => ⟨S1x64, .f32⟩
  | 13 => ⟨S16384x64, .f32⟩
  | 14 => ⟨S16384x64, .f32⟩
  | 15 => ⟨S16384x64x1, .f32⟩
  | 16 => ⟨S16384x64, .f32⟩
  | 17 => ⟨S1x64, .f32⟩
  | 18 => ⟨S16384x64, .f32⟩
  | 19 => ⟨S16384x64, .f32⟩
  | 20 => ⟨S16384x64, .f32⟩
  | 21 => ⟨S16384x64, .f32⟩
  | 22 => ⟨S_, .f32⟩
  | 23 => ⟨S16384x64, .f32⟩
  | 24 => ⟨S16384x64, .f32⟩
  | 25 => ⟨S16384x64, .f32⟩
  | 26 => ⟨S_, .f32⟩
  | 27 => ⟨S16384x64, .f32⟩
  | 28 => ⟨S16384x64, .f32⟩
  | 29 => ⟨S16384x64, .f32⟩
  | 30 => ⟨S_, .f32⟩
  | 31 => ⟨S16384x64, .f32⟩
  | 32 => ⟨S16384x64, .f32⟩
  | 33 => ⟨S_, .f32⟩
  | 34 => ⟨S16384x64, .f32⟩
  | 35 => ⟨S16384x64, .f32⟩
  | 36 => ⟨S16384x64, .f32⟩
  | 37 => ⟨S16384x1, .f32⟩
  | 38 => ⟨S1x1, .f32⟩
  | 39 => ⟨S16384x1, .f32⟩
  | 40 => ⟨S16384x1, .f32⟩
  | 41 => ⟨S16384x1x1, .f32⟩
  | 42 => ⟨S16384x1x1, .f32⟩
  | 43 => ⟨S16384x1x1, .f32⟩
  | 44 => ⟨S16384x1x1, .f32⟩
  | 45 => ⟨S1024x16, .f32⟩
  | _ => ⟨S1024x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c : Ref sig .tc := ⟨.hbm, 31, rfl⟩
abbrev main_call0_v5 : Ref sig .tc := ⟨.hbm, 32, rfl⟩
abbrev main_call0_v6 : Ref sig .tc := ⟨.hbm, 33, rfl⟩
abbrev main_call0_c_0 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v11_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v11_1 : Ref sig .tc := ⟨.hbm, 260, rfl⟩
abbrev main_call0_v12 : Ref sig .tc := ⟨.hbm, 261, rfl⟩
abbrev main_call0_v13 : Ref sig .tc := ⟨.hbm, 262, rfl⟩
abbrev main_v7 : Ref sig .tc := ⟨.hbm, 263, rfl⟩
abbrev main_v8 : Ref sig .tc := ⟨.hbm, 264, rfl⟩
abbrev main_call1_call0_v0 : Ref sig .tc := ⟨.hbm, 265, rfl⟩
abbrev main_call1_call0_v1 : Ref sig .tc := ⟨.hbm, 266, rfl⟩
abbrev main_call1_call0_v2 : Ref sig .tc := ⟨.hbm, 267, rfl⟩
abbrev main_call1_call0_v3 : Ref sig .tc := ⟨.hbm, 268, rfl⟩
abbrev main_call1_call0_v4 : Ref sig .tc := ⟨.hbm, 269, rfl⟩
abbrev main_call1_call0_c : Ref sig .tc := ⟨.hbm, 270, rfl⟩
abbrev main_call1_call0_v5 : Ref sig .tc := ⟨.hbm, 271, rfl⟩
abbrev main_call1_call0_v6 : Ref sig .tc := ⟨.hbm, 272, rfl⟩
abbrev main_call1_call0_c_0 : Ref sig .tc := ⟨.hbm, 273, rfl⟩
abbrev main_call1_call0_v7 : Ref sig .tc := ⟨.hbm, 274, rfl⟩
abbrev main_call1_call0_v8 : Ref sig .tc := ⟨.hbm, 275, rfl⟩
abbrev main_call1_call0_v9 : Ref sig .tc := ⟨.hbm, 276, rfl⟩
abbrev main_call1_call0_v10 : Ref sig .tc := ⟨.hbm, 277, rfl⟩
abbrev main_call1_call0_v11 : Ref sig .tc := ⟨.hbm, 278, rfl⟩
abbrev main_call1_call0_v12 : Ref sig .tc := ⟨.hbm, 279, rfl⟩
abbrev main_call1_call0_v13 : Ref sig .tc := ⟨.hbm, 280, rfl⟩
abbrev main_call1_call0_v14 : Ref sig .tc := ⟨.hbm, 281, rfl⟩
abbrev main_call1_call0_call0_v0 : Ref sig .tc := ⟨.hbm, 282, rfl⟩
abbrev main_call1_call0_call0_c : Ref sig .tc := ⟨.hbm, 283, rfl⟩
abbrev main_call1_call0_call0_v1 : Ref sig .tc := ⟨.hbm, 284, rfl⟩
abbrev main_call1_call0_call0_v2 : Ref sig .tc := ⟨.hbm, 285, rfl⟩
abbrev main_call1_call0_call0_v3 : Ref sig .tc := ⟨.hbm, 286, rfl⟩
abbrev main_call1_call0_call0_v4 : Ref sig .tc := ⟨.hbm, 287, rfl⟩
abbrev main_call1_call0_call0_v5 : Ref sig .tc := ⟨.hbm, 288, rfl⟩
abbrev main_call1_call0_call0_v6 : Ref sig .tc := ⟨.hbm, 289, rfl⟩
abbrev main_call1_call0_call0_v7 : Ref sig .tc := ⟨.hbm, 290, rfl⟩
abbrev main_call1_call0_call0_v8 : Ref sig .tc := ⟨.hbm, 291, rfl⟩
abbrev main_call1_call0_call0_v9 : Ref sig .tc := ⟨.hbm, 292, rfl⟩
abbrev main_call1_call0_call0_c_0 : Ref sig .tc := ⟨.hbm, 293, rfl⟩
abbrev main_call1_call0_call0_v10 : Ref sig .tc := ⟨.hbm, 294, rfl⟩
abbrev main_call1_call0_call0_v11 : Ref sig .tc := ⟨.hbm, 295, rfl⟩
abbrev main_call1_call0_call0_c_1 : Ref sig .tc := ⟨.hbm, 296, rfl⟩
abbrev main_call1_call0_call0_v12 : Ref sig .tc := ⟨.hbm, 297, rfl⟩
abbrev main_call1_call0_call0_v13 : Ref sig .tc := ⟨.hbm, 298, rfl⟩
abbrev main_call1_call0_call0_v14 : Ref sig .tc := ⟨.hbm, 299, rfl⟩
abbrev main_call1_call0_call0_v15 : Ref sig .tc := ⟨.hbm, 300, rfl⟩
abbrev main_call1_call0_call0_v16 : Ref sig .tc := ⟨.hbm, 301, rfl⟩
abbrev main_call1_call0_call0_c_2 : Ref sig .tc := ⟨.hbm, 302, rfl⟩
abbrev main_call1_call0_call0_v17 : Ref sig .tc := ⟨.hbm, 303, rfl⟩
abbrev main_call1_call0_call0_v18 : Ref sig .tc := ⟨.hbm, 304, rfl⟩
abbrev main_call1_call0_call0_c_3 : Ref sig .tc := ⟨.hbm, 305, rfl⟩
abbrev main_call1_call0_call0_v19 : Ref sig .tc := ⟨.hbm, 306, rfl⟩
abbrev main_call1_call0_call0_v20 : Ref sig .tc := ⟨.hbm, 307, rfl⟩
abbrev main_call1_call0_call0_v21 : Ref sig .tc := ⟨.hbm, 308, rfl⟩
abbrev main_call1_call0_call0_v22 : Ref sig .tc := ⟨.hbm, 309, rfl⟩
abbrev main_call1_call0_call0_v23 : Ref sig .tc := ⟨.hbm, 310, rfl⟩
abbrev main_call1_call0_call0_c_4 : Ref sig .tc := ⟨.hbm, 311, rfl⟩
abbrev main_call1_call0_call0_v24 : Ref sig .tc := ⟨.hbm, 312, rfl⟩
abbrev main_call1_call0_call0_v25 : Ref sig .tc := ⟨.hbm, 313, rfl⟩
abbrev main_call1_call0_call0_c_5 : Ref sig .tc := ⟨.hbm, 314, rfl⟩
abbrev main_call1_call0_call0_v26 : Ref sig .tc := ⟨.hbm, 315, rfl⟩
abbrev main_call1_call0_call0_v27 : Ref sig .tc := ⟨.hbm, 316, rfl⟩
abbrev main_call1_call0_call0_v28 : Ref sig .tc := ⟨.hbm, 317, rfl⟩
abbrev main_call1_call0_call0_v29 : Ref sig .tc := ⟨.hbm, 318, rfl⟩
abbrev main_call1_call0_call0_v30 : Ref sig .tc := ⟨.hbm, 319, rfl⟩
abbrev main_call1_call0_call0_c_6 : Ref sig .tc := ⟨.hbm, 320, rfl⟩
abbrev main_call1_call0_call0_v31 : Ref sig .tc := ⟨.hbm, 321, rfl⟩
abbrev main_call1_call0_call0_v32 : Ref sig .tc := ⟨.hbm, 322, rfl⟩
abbrev main_call1_call0_call0_c_7 : Ref sig .tc := ⟨.hbm, 323, rfl⟩
abbrev main_call1_call0_call0_v33 : Ref sig .tc := ⟨.hbm, 324, rfl⟩
abbrev main_call1_call0_call0_v34 : Ref sig .tc := ⟨.hbm, 325, rfl⟩
abbrev main_call1_call0_call0_v35 : Ref sig .tc := ⟨.hbm, 326, rfl⟩
abbrev main_call1_call0_call0_v36 : Ref sig .tc := ⟨.hbm, 327, rfl⟩
abbrev main_call1_call0_call0_v37 : Ref sig .tc := ⟨.hbm, 328, rfl⟩
abbrev main_call1_call0_call0_v38 : Ref sig .tc := ⟨.hbm, 329, rfl⟩
abbrev main_call1_call0_call0_v39 : Ref sig .tc := ⟨.hbm, 330, rfl⟩
abbrev main_call1_call0_call0_v40 : Ref sig .tc := ⟨.hbm, 331, rfl⟩
abbrev main_call1_call0_call0_c_8 : Ref sig .tc := ⟨.hbm, 332, rfl⟩
abbrev main_call1_call0_call0_v41 : Ref sig .tc := ⟨.hbm, 333, rfl⟩
abbrev main_call1_call0_call0_v42 : Ref sig .tc := ⟨.hbm, 334, rfl⟩
abbrev main_call1_call0_call0_v43 : Ref sig .tc := ⟨.hbm, 335, rfl⟩
abbrev main_call1_call0_call0_c_9 : Ref sig .tc := ⟨.hbm, 336, rfl⟩
abbrev main_call1_call0_call0_v44 : Ref sig .tc := ⟨.hbm, 337, rfl⟩
abbrev main_call1_call0_call0_v45 : Ref sig .tc := ⟨.hbm, 338, rfl⟩
abbrev main_call1_call0_call0_c_10 : Ref sig .tc := ⟨.hbm, 339, rfl⟩
abbrev main_call1_call0_call0_v46 : Ref sig .tc := ⟨.hbm, 340, rfl⟩
abbrev main_call1_call0_call0_v47 : Ref sig .tc := ⟨.hbm, 341, rfl⟩
abbrev main_call1_call0_call0_v48 : Ref sig .tc := ⟨.hbm, 342, rfl⟩
abbrev main_call1_call0_call0_v49 : Ref sig .tc := ⟨.hbm, 343, rfl⟩
abbrev main_call1_call0_call0_v50 : Ref sig .tc := ⟨.hbm, 344, rfl⟩
abbrev main_call1_call0_call0_c_11 : Ref sig .tc := ⟨.hbm, 345, rfl⟩
abbrev main_call1_call0_call0_v51 : Ref sig .tc := ⟨.hbm, 346, rfl⟩
abbrev main_call1_call0_call0_v52 : Ref sig .tc := ⟨.hbm, 347, rfl⟩
abbrev main_call1_call0_call0_c_12 : Ref sig .tc := ⟨.hbm, 348, rfl⟩
abbrev main_call1_call0_call0_v53 : Ref sig .tc := ⟨.hbm, 349, rfl⟩
abbrev main_call1_call0_call0_v54 : Ref sig .tc := ⟨.hbm, 350, rfl⟩
abbrev main_call1_call0_call0_v55 : Ref sig .tc := ⟨.hbm, 351, rfl⟩
abbrev main_call1_call0_call0_v56 : Ref sig .tc := ⟨.hbm, 352, rfl⟩
abbrev main_call1_call0_call0_v57 : Ref sig .tc := ⟨.hbm, 353, rfl⟩
abbrev main_call1_call0_call0_c_13 : Ref sig .tc := ⟨.hbm, 354, rfl⟩
abbrev main_call1_call0_call0_v58 : Ref sig .tc := ⟨.hbm, 355, rfl⟩
abbrev main_call1_call0_call0_v59 : Ref sig .tc := ⟨.hbm, 356, rfl⟩
abbrev main_call1_call0_call0_c_14 : Ref sig .tc := ⟨.hbm, 357, rfl⟩
abbrev main_call1_call0_call0_v60 : Ref sig .tc := ⟨.hbm, 358, rfl⟩
abbrev main_call1_call0_call0_v61 : Ref sig .tc := ⟨.hbm, 359, rfl⟩
abbrev main_call1_call0_call0_v62 : Ref sig .tc := ⟨.hbm, 360, rfl⟩
abbrev main_call1_call0_call0_v63 : Ref sig .tc := ⟨.hbm, 361, rfl⟩
abbrev main_call1_call0_call0_v64 : Ref sig .tc := ⟨.hbm, 362, rfl⟩
abbrev main_call1_call0_call0_c_15 : Ref sig .tc := ⟨.hbm, 363, rfl⟩
abbrev main_call1_call0_call0_v65 : Ref sig .tc := ⟨.hbm, 364, rfl⟩
abbrev main_call1_call0_call0_v66 : Ref sig .tc := ⟨.hbm, 365, rfl⟩
abbrev main_call1_call0_call0_c_16 : Ref sig .tc := ⟨.hbm, 366, rfl⟩
abbrev main_call1_call0_call0_v67 : Ref sig .tc := ⟨.hbm, 367, rfl⟩
abbrev main_call1_call0_call0_v68 : Ref sig .tc := ⟨.hbm, 368, rfl⟩
abbrev main_call1_call0_call0_v69 : Ref sig .tc := ⟨.hbm, 369, rfl⟩
abbrev main_call1_call0_call0_v70 : Ref sig .tc := ⟨.hbm, 370, rfl⟩
abbrev main_call1_call0_call0_v71 : Ref sig .tc := ⟨.hbm, 371, rfl⟩
abbrev main_call1_call0_call0_v72 : Ref sig .tc := ⟨.hbm, 372, rfl⟩
abbrev main_call1_call0_call0_v73 : Ref sig .tc := ⟨.hbm, 373, rfl⟩
abbrev main_call1_call0_call0_v74 : Ref sig .tc := ⟨.hbm, 374, rfl⟩
abbrev main_call1_call0_call0_c_17 : Ref sig .tc := ⟨.hbm, 375, rfl⟩
abbrev main_call1_call0_call0_v75 : Ref sig .tc := ⟨.hbm, 376, rfl⟩
abbrev main_call1_call0_call0_v76 : Ref sig .tc := ⟨.hbm, 377, rfl⟩
abbrev main_call1_call0_call0_v77 : Ref sig .tc := ⟨.hbm, 378, rfl⟩
abbrev main_call1_call0_call0_c_18 : Ref sig .tc := ⟨.hbm, 379, rfl⟩
abbrev main_call1_call0_call0_v78 : Ref sig .tc := ⟨.hbm, 380, rfl⟩
abbrev main_call1_call0_call0_v79 : Ref sig .tc := ⟨.hbm, 381, rfl⟩
abbrev main_call1_call0_call0_c_19 : Ref sig .tc := ⟨.hbm, 382, rfl⟩
abbrev main_call1_call0_call0_v80 : Ref sig .tc := ⟨.hbm, 383, rfl⟩
abbrev main_call1_call0_call0_v81 : Ref sig .tc := ⟨.hbm, 384, rfl⟩
abbrev main_call1_call0_call0_v82 : Ref sig .tc := ⟨.hbm, 385, rfl⟩
abbrev main_call1_call0_call0_v83 : Ref sig .tc := ⟨.hbm, 386, rfl⟩
abbrev main_call1_call0_call0_v84 : Ref sig .tc := ⟨.hbm, 387, rfl⟩
abbrev main_call1_call0_call0_c_20 : Ref sig .tc := ⟨.hbm, 388, rfl⟩
abbrev main_call1_call0_call0_v85 : Ref sig .tc := ⟨.hbm, 389, rfl⟩
abbrev main_call1_call0_call0_v86 : Ref sig .tc := ⟨.hbm, 390, rfl⟩
abbrev main_call1_call0_call0_c_21 : Ref sig .tc := ⟨.hbm, 391, rfl⟩
abbrev main_call1_call0_call0_v87 : Ref sig .tc := ⟨.hbm, 392, rfl⟩
abbrev main_call1_call0_call0_v88 : Ref sig .tc := ⟨.hbm, 393, rfl⟩
abbrev main_call1_call0_call0_v89 : Ref sig .tc := ⟨.hbm, 394, rfl⟩
abbrev main_call1_call0_call0_v90 : Ref sig .tc := ⟨.hbm, 395, rfl⟩
abbrev main_call1_call0_call0_v91 : Ref sig .tc := ⟨.hbm, 396, rfl⟩
abbrev main_call1_call0_call0_c_22 : Ref sig .tc := ⟨.hbm, 397, rfl⟩
abbrev main_call1_call0_call0_v92 : Ref sig .tc := ⟨.hbm, 398, rfl⟩
abbrev main_call1_call0_call0_v93 : Ref sig .tc := ⟨.hbm, 399, rfl⟩
abbrev main_call1_call0_call0_c_23 : Ref sig .tc := ⟨.hbm, 400, rfl⟩
abbrev main_call1_call0_call0_v94 : Ref sig .tc := ⟨.hbm, 401, rfl⟩
abbrev main_call1_call0_call0_v95 : Ref sig .tc := ⟨.hbm, 402, rfl⟩
abbrev main_call1_call0_call0_v96 : Ref sig .tc := ⟨.hbm, 403, rfl⟩
abbrev main_call1_call0_call0_v97 : Ref sig .tc := ⟨.hbm, 404, rfl⟩
abbrev main_call1_call0_call0_v98 : Ref sig .tc := ⟨.hbm, 405, rfl⟩
abbrev main_call1_call0_call0_c_24 : Ref sig .tc := ⟨.hbm, 406, rfl⟩
abbrev main_call1_call0_call0_v99 : Ref sig .tc := ⟨.hbm, 407, rfl⟩
abbrev main_call1_call0_call0_v100 : Ref sig .tc := ⟨.hbm, 408, rfl⟩
abbrev main_call1_call0_call0_c_25 : Ref sig .tc := ⟨.hbm, 409, rfl⟩
abbrev main_call1_call0_call0_v101 : Ref sig .tc := ⟨.hbm, 410, rfl⟩
abbrev main_call1_call0_call0_v102 : Ref sig .tc := ⟨.hbm, 411, rfl⟩
abbrev main_call1_call0_call0_v103 : Ref sig .tc := ⟨.hbm, 412, rfl⟩
abbrev main_call1_call0_call0_v104 : Ref sig .tc := ⟨.hbm, 413, rfl⟩
abbrev main_call1_call0_call0_v105 : Ref sig .tc := ⟨.hbm, 414, rfl⟩
abbrev main_call1_call0_call0_v106 : Ref sig .tc := ⟨.hbm, 415, rfl⟩
abbrev main_call1_call0_call0_v107 : Ref sig .tc := ⟨.hbm, 416, rfl⟩
abbrev main_call1_call0_call0_v108 : Ref sig .tc := ⟨.hbm, 417, rfl⟩
abbrev main_call1_call0_call0_c_26 : Ref sig .tc := ⟨.hbm, 418, rfl⟩
abbrev main_call1_call0_call0_v109 : Ref sig .tc := ⟨.hbm, 419, rfl⟩
abbrev main_call1_call0_call0_v110 : Ref sig .tc := ⟨.hbm, 420, rfl⟩
abbrev main_call1_call0_call0_v111 : Ref sig .tc := ⟨.hbm, 421, rfl⟩
abbrev main_call1_call0_call0_c_27 : Ref sig .tc := ⟨.hbm, 422, rfl⟩
abbrev main_call1_call0_call0_v112 : Ref sig .tc := ⟨.hbm, 423, rfl⟩
abbrev main_call1_call0_call0_v113 : Ref sig .tc := ⟨.hbm, 424, rfl⟩
abbrev main_call1_call0_call0_c_28 : Ref sig .tc := ⟨.hbm, 425, rfl⟩
abbrev main_call1_call0_call0_v114 : Ref sig .tc := ⟨.hbm, 426, rfl⟩
abbrev main_call1_call0_call0_v115 : Ref sig .tc := ⟨.hbm, 427, rfl⟩
abbrev main_call1_call0_call0_v116 : Ref sig .tc := ⟨.hbm, 428, rfl⟩
abbrev main_call1_call0_call0_v117 : Ref sig .tc := ⟨.hbm, 429, rfl⟩
abbrev main_call1_call0_call0_v118 : Ref sig .tc := ⟨.hbm, 430, rfl⟩
abbrev main_call1_call0_call0_c_29 : Ref sig .tc := ⟨.hbm, 431, rfl⟩
abbrev main_call1_call0_call0_v119 : Ref sig .tc := ⟨.hbm, 432, rfl⟩
abbrev main_call1_call0_call0_v120 : Ref sig .tc := ⟨.hbm, 433, rfl⟩
abbrev main_call1_call0_call0_c_30 : Ref sig .tc := ⟨.hbm, 434, rfl⟩
abbrev main_call1_call0_call0_v121 : Ref sig .tc := ⟨.hbm, 435, rfl⟩
abbrev main_call1_call0_call0_v122 : Ref sig .tc := ⟨.hbm, 436, rfl⟩
abbrev main_call1_call0_call0_v123 : Ref sig .tc := ⟨.hbm, 437, rfl⟩
abbrev main_call1_call0_call0_v124 : Ref sig .tc := ⟨.hbm, 438, rfl⟩
abbrev main_call1_call0_call0_v125 : Ref sig .tc := ⟨.hbm, 439, rfl⟩
abbrev main_call1_call0_call0_c_31 : Ref sig .tc := ⟨.hbm, 440, rfl⟩
abbrev main_call1_call0_call0_v126 : Ref sig .tc := ⟨.hbm, 441, rfl⟩
abbrev main_call1_call0_call0_v127 : Ref sig .tc := ⟨.hbm, 442, rfl⟩
abbrev main_call1_call0_call0_c_32 : Ref sig .tc := ⟨.hbm, 443, rfl⟩
abbrev main_call1_call0_call0_v128 : Ref sig .tc := ⟨.hbm, 444, rfl⟩
abbrev main_call1_call0_call0_v129 : Ref sig .tc := ⟨.hbm, 445, rfl⟩
abbrev main_call1_call0_call0_v130 : Ref sig .tc := ⟨.hbm, 446, rfl⟩
abbrev main_call1_call0_call0_v131 : Ref sig .tc := ⟨.hbm, 447, rfl⟩
abbrev main_call1_call0_call0_v132 : Ref sig .tc := ⟨.hbm, 448, rfl⟩
abbrev main_call1_call0_call0_c_33 : Ref sig .tc := ⟨.hbm, 449, rfl⟩
abbrev main_call1_call0_call0_v133 : Ref sig .tc := ⟨.hbm, 450, rfl⟩
abbrev main_call1_call0_call0_v134 : Ref sig .tc := ⟨.hbm, 451, rfl⟩
abbrev main_call1_call0_call0_c_34 : Ref sig .tc := ⟨.hbm, 452, rfl⟩
abbrev main_call1_call0_call0_v135 : Ref sig .tc := ⟨.hbm, 453, rfl⟩
abbrev main_call1_call0_call0_v136 : Ref sig .tc := ⟨.hbm, 454, rfl⟩
abbrev main_call1_call0_call0_v137 : Ref sig .tc := ⟨.hbm, 455, rfl⟩
abbrev main_call1_call0_call0_v138 : Ref sig .tc := ⟨.hbm, 456, rfl⟩
abbrev main_call1_call0_call0_v139 : Ref sig .tc := ⟨.hbm, 457, rfl⟩
abbrev main_call1_call0_call0_v140 : Ref sig .tc := ⟨.hbm, 458, rfl⟩
abbrev main_call1_call0_call0_v141 : Ref sig .tc := ⟨.hbm, 459, rfl⟩
abbrev main_call1_call0_call0_v142 : Ref sig .tc := ⟨.hbm, 460, rfl⟩
abbrev main_call1_call0_call0_c_35 : Ref sig .tc := ⟨.hbm, 461, rfl⟩
abbrev main_call1_call0_call0_v143 : Ref sig .tc := ⟨.hbm, 462, rfl⟩
abbrev main_call1_call0_call0_v144 : Ref sig .tc := ⟨.hbm, 463, rfl⟩
abbrev main_call1_call0_call0_v145 : Ref sig .tc := ⟨.hbm, 464, rfl⟩
abbrev main_call1_call0_call0_c_36 : Ref sig .tc := ⟨.hbm, 465, rfl⟩
abbrev main_call1_call0_call0_v146 : Ref sig .tc := ⟨.hbm, 466, rfl⟩
abbrev main_call1_call0_call0_v147 : Ref sig .tc := ⟨.hbm, 467, rfl⟩
abbrev main_call1_call0_call0_c_37 : Ref sig .tc := ⟨.hbm, 468, rfl⟩
abbrev main_call1_call0_call0_v148 : Ref sig .tc := ⟨.hbm, 469, rfl⟩
abbrev main_call1_call0_call0_v149 : Ref sig .tc := ⟨.hbm, 470, rfl⟩
abbrev main_call1_call0_call0_v150 : Ref sig .tc := ⟨.hbm, 471, rfl⟩
abbrev main_call1_call0_call0_v151 : Ref sig .tc := ⟨.hbm, 472, rfl⟩
abbrev main_call1_call0_call0_v152 : Ref sig .tc := ⟨.hbm, 473, rfl⟩
abbrev main_call1_call0_call0_c_38 : Ref sig .tc := ⟨.hbm, 474, rfl⟩
abbrev main_call1_call0_call0_v153 : Ref sig .tc := ⟨.hbm, 475, rfl⟩
abbrev main_call1_call0_call0_v154 : Ref sig .tc := ⟨.hbm, 476, rfl⟩
abbrev main_call1_call0_call0_c_39 : Ref sig .tc := ⟨.hbm, 477, rfl⟩
abbrev main_call1_call0_call0_v155 : Ref sig .tc := ⟨.hbm, 478, rfl⟩
abbrev main_call1_call0_call0_v156 : Ref sig .tc := ⟨.hbm, 479, rfl⟩
abbrev main_call1_call0_call0_v157 : Ref sig .tc := ⟨.hbm, 480, rfl⟩
abbrev main_call1_call0_call0_v158 : Ref sig .tc := ⟨.hbm, 481, rfl⟩
abbrev main_call1_call0_call0_v159 : Ref sig .tc := ⟨.hbm, 482, rfl⟩
abbrev main_call1_call0_call0_c_40 : Ref sig .tc := ⟨.hbm, 483, rfl⟩
abbrev main_call1_call0_call0_v160 : Ref sig .tc := ⟨.hbm, 484, rfl⟩
abbrev main_call1_call0_call0_v161 : Ref sig .tc := ⟨.hbm, 485, rfl⟩
abbrev main_call1_call0_call0_c_41 : Ref sig .tc := ⟨.hbm, 486, rfl⟩
abbrev main_call1_call0_call0_v162 : Ref sig .tc := ⟨.hbm, 487, rfl⟩
abbrev main_call1_call0_call0_v163 : Ref sig .tc := ⟨.hbm, 488, rfl⟩
abbrev main_call1_call0_call0_v164 : Ref sig .tc := ⟨.hbm, 489, rfl⟩
abbrev main_call1_call0_call0_v165 : Ref sig .tc := ⟨.hbm, 490, rfl⟩
abbrev main_call1_call0_call0_v166 : Ref sig .tc := ⟨.hbm, 491, rfl⟩
abbrev main_call1_call0_call0_c_42 : Ref sig .tc := ⟨.hbm, 492, rfl⟩
abbrev main_call1_call0_call0_v167 : Ref sig .tc := ⟨.hbm, 493, rfl⟩
abbrev main_call1_call0_call0_v168 : Ref sig .tc := ⟨.hbm, 494, rfl⟩
abbrev main_call1_call0_call0_c_43 : Ref sig .tc := ⟨.hbm, 495, rfl⟩
abbrev main_call1_call0_call0_v169 : Ref sig .tc := ⟨.hbm, 496, rfl⟩
abbrev main_call1_call0_call0_v170 : Ref sig .tc := ⟨.hbm, 497, rfl⟩
abbrev main_call1_call0_call0_v171 : Ref sig .tc := ⟨.hbm, 498, rfl⟩
abbrev main_call1_call0_call0_v172 : Ref sig .tc := ⟨.hbm, 499, rfl⟩
abbrev main_call1_call0_call0_v173 : Ref sig .tc := ⟨.hbm, 500, rfl⟩
abbrev main_call1_call0_v15_0 : Ref sig .tc := ⟨.hbm, 501, rfl⟩
abbrev main_call1_call0_call0_v175 : Ref sig .tc := ⟨.hbm, 502, rfl⟩
abbrev main_call1_call0_call0_v176 : Ref sig .tc := ⟨.hbm, 503, rfl⟩
abbrev main_call1_call0_call0_c_44 : Ref sig .tc := ⟨.hbm, 504, rfl⟩
abbrev main_call1_call0_call0_v177 : Ref sig .tc := ⟨.hbm, 505, rfl⟩
abbrev main_call1_call0_v15_1 : Ref sig .tc := ⟨.hbm, 506, rfl⟩
abbrev main_call1_call0_v16 : Ref sig .tc := ⟨.hbm, 507, rfl⟩
abbrev main_call1_call0_v17 : Ref sig .tc := ⟨.hbm, 508, rfl⟩
abbrev main_call1_v0 : Ref sig .tc := ⟨.hbm, 509, rfl⟩
abbrev main_call1_v1 : Ref sig .tc := ⟨.hbm, 510, rfl⟩
abbrev main_call1_v2 : Ref sig .tc := ⟨.hbm, 511, rfl⟩
abbrev main_call1_v3 : Ref sig .tc := ⟨.hbm, 512, rfl⟩
abbrev main_call1_v4 : Ref sig .tc := ⟨.hbm, 513, rfl⟩
abbrev main_call1_v5 : Ref sig .tc := ⟨.hbm, 514, rfl⟩
abbrev main_call1_v6 : Ref sig .tc := ⟨.hbm, 515, rfl⟩
abbrev main_call1_v7 : Ref sig .tc := ⟨.hbm, 516, rfl⟩
abbrev main_call1_v8 : Ref sig .tc := ⟨.hbm, 517, rfl⟩
abbrev main_call1_v9 : Ref sig .tc := ⟨.hbm, 518, rfl⟩
abbrev main_call1_c : Ref sig .tc := ⟨.hbm, 519, rfl⟩
abbrev main_call1_v10 : Ref sig .tc := ⟨.hbm, 520, rfl⟩
abbrev main_call1_v11 : Ref sig .tc := ⟨.hbm, 521, rfl⟩
abbrev main_call1_c_0 : Ref sig .tc := ⟨.hbm, 522, rfl⟩
abbrev main_call1_v12 : Ref sig .tc := ⟨.hbm, 523, rfl⟩
abbrev main_call1_v13 : Ref sig .tc := ⟨.hbm, 524, rfl⟩
abbrev main_call1_v14 : Ref sig .tc := ⟨.hbm, 525, rfl⟩
abbrev main_call1_v15 : Ref sig .tc := ⟨.hbm, 526, rfl⟩
abbrev main_call1_v16 : Ref sig .tc := ⟨.hbm, 527, rfl⟩
abbrev main_call1_v17 : Ref sig .tc := ⟨.hbm, 528, rfl⟩
abbrev main_call1_v18 : Ref sig .tc := ⟨.hbm, 529, rfl⟩
abbrev main_call1_v19 : Ref sig .tc := ⟨.hbm, 530, rfl⟩
abbrev main_call1_call1_v0 : Ref sig .tc := ⟨.hbm, 531, rfl⟩
abbrev main_call1_call1_c : Ref sig .tc := ⟨.hbm, 532, rfl⟩
abbrev main_call1_call1_v1 : Ref sig .tc := ⟨.hbm, 533, rfl⟩
abbrev main_call1_call1_v2 : Ref sig .tc := ⟨.hbm, 534, rfl⟩
abbrev main_call1_call1_v3 : Ref sig .tc := ⟨.hbm, 535, rfl⟩
abbrev main_call1_call1_v4 : Ref sig .tc := ⟨.hbm, 536, rfl⟩
abbrev main_call1_call1_v5 : Ref sig .tc := ⟨.hbm, 537, rfl⟩
abbrev main_call1_call1_v6 : Ref sig .tc := ⟨.hbm, 538, rfl⟩
abbrev main_call1_call1_v7 : Ref sig .tc := ⟨.hbm, 539, rfl⟩
abbrev main_call1_call1_v8 : Ref sig .tc := ⟨.hbm, 540, rfl⟩
abbrev main_call1_call1_v9 : Ref sig .tc := ⟨.hbm, 541, rfl⟩
abbrev main_call1_call1_c_0 : Ref sig .tc := ⟨.hbm, 542, rfl⟩
abbrev main_call1_call1_v10 : Ref sig .tc := ⟨.hbm, 543, rfl⟩
abbrev main_call1_call1_v11 : Ref sig .tc := ⟨.hbm, 544, rfl⟩
abbrev main_call1_call1_c_1 : Ref sig .tc := ⟨.hbm, 545, rfl⟩
abbrev main_call1_call1_v12 : Ref sig .tc := ⟨.hbm, 546, rfl⟩
abbrev main_call1_call1_v13 : Ref sig .tc := ⟨.hbm, 547, rfl⟩
abbrev main_call1_call1_v14 : Ref sig .tc := ⟨.hbm, 548, rfl⟩
abbrev main_call1_call1_v15 : Ref sig .tc := ⟨.hbm, 549, rfl⟩
abbrev main_call1_call1_v16 : Ref sig .tc := ⟨.hbm, 550, rfl⟩
abbrev main_call1_call1_c_2 : Ref sig .tc := ⟨.hbm, 551, rfl⟩
abbrev main_call1_call1_v17 : Ref sig .tc := ⟨.hbm, 552, rfl⟩
abbrev main_call1_call1_v18 : Ref sig .tc := ⟨.hbm, 553, rfl⟩
abbrev main_call1_call1_c_3 : Ref sig .tc := ⟨.hbm, 554, rfl⟩
abbrev main_call1_call1_v19 : Ref sig .tc := ⟨.hbm, 555, rfl⟩
abbrev main_call1_call1_v20 : Ref sig .tc := ⟨.hbm, 556, rfl⟩
abbrev main_call1_call1_v21 : Ref sig .tc := ⟨.hbm, 557, rfl⟩
abbrev main_call1_call1_v22 : Ref sig .tc := ⟨.hbm, 558, rfl⟩
abbrev main_call1_call1_v23 : Ref sig .tc := ⟨.hbm, 559, rfl⟩
abbrev main_call1_call1_c_4 : Ref sig .tc := ⟨.hbm, 560, rfl⟩
abbrev main_call1_call1_v24 : Ref sig .tc := ⟨.hbm, 561, rfl⟩
abbrev main_call1_call1_v25 : Ref sig .tc := ⟨.hbm, 562, rfl⟩
abbrev main_call1_call1_c_5 : Ref sig .tc := ⟨.hbm, 563, rfl⟩
abbrev main_call1_call1_v26 : Ref sig .tc := ⟨.hbm, 564, rfl⟩
abbrev main_call1_call1_v27 : Ref sig .tc := ⟨.hbm, 565, rfl⟩
abbrev main_call1_call1_v28 : Ref sig .tc := ⟨.hbm, 566, rfl⟩
abbrev main_call1_call1_v29 : Ref sig .tc := ⟨.hbm, 567, rfl⟩
abbrev main_call1_call1_v30 : Ref sig .tc := ⟨.hbm, 568, rfl⟩
abbrev main_call1_call1_c_6 : Ref sig .tc := ⟨.hbm, 569, rfl⟩
abbrev main_call1_call1_v31 : Ref sig .tc := ⟨.hbm, 570, rfl⟩
abbrev main_call1_call1_v32 : Ref sig .tc := ⟨.hbm, 571, rfl⟩
abbrev main_call1_call1_c_7 : Ref sig .tc := ⟨.hbm, 572, rfl⟩
abbrev main_call1_call1_v33 : Ref sig .tc := ⟨.hbm, 573, rfl⟩
abbrev main_call1_call1_v34 : Ref sig .tc := ⟨.hbm, 574, rfl⟩
abbrev main_call1_call1_v35 : Ref sig .tc := ⟨.hbm, 575, rfl⟩
abbrev main_call1_call1_v36 : Ref sig .tc := ⟨.hbm, 576, rfl⟩
abbrev main_call1_call1_v37 : Ref sig .tc := ⟨.hbm, 577, rfl⟩
abbrev main_call1_call1_v38 : Ref sig .tc := ⟨.hbm, 578, rfl⟩
abbrev main_call1_call1_v39 : Ref sig .tc := ⟨.hbm, 579, rfl⟩
abbrev main_call1_call1_v40 : Ref sig .tc := ⟨.hbm, 580, rfl⟩
abbrev main_call1_call1_c_8 : Ref sig .tc := ⟨.hbm, 581, rfl⟩
abbrev main_call1_call1_v41 : Ref sig .tc := ⟨.hbm, 582, rfl⟩
abbrev main_call1_call1_v42 : Ref sig .tc := ⟨.hbm, 583, rfl⟩
abbrev main_call1_call1_v43 : Ref sig .tc := ⟨.hbm, 584, rfl⟩
abbrev main_call1_call1_c_9 : Ref sig .tc := ⟨.hbm, 585, rfl⟩
abbrev main_call1_call1_v44 : Ref sig .tc := ⟨.hbm, 586, rfl⟩
abbrev main_call1_call1_v45 : Ref sig .tc := ⟨.hbm, 587, rfl⟩
abbrev main_call1_call1_c_10 : Ref sig .tc := ⟨.hbm, 588, rfl⟩
abbrev main_call1_call1_v46 : Ref sig .tc := ⟨.hbm, 589, rfl⟩
abbrev main_call1_call1_v47 : Ref sig .tc := ⟨.hbm, 590, rfl⟩
abbrev main_call1_call1_v48 : Ref sig .tc := ⟨.hbm, 591, rfl⟩
abbrev main_call1_call1_v49 : Ref sig .tc := ⟨.hbm, 592, rfl⟩
abbrev main_call1_call1_v50 : Ref sig .tc := ⟨.hbm, 593, rfl⟩
abbrev main_call1_call1_c_11 : Ref sig .tc := ⟨.hbm, 594, rfl⟩
abbrev main_call1_call1_v51 : Ref sig .tc := ⟨.hbm, 595, rfl⟩
abbrev main_call1_call1_v52 : Ref sig .tc := ⟨.hbm, 596, rfl⟩
abbrev main_call1_call1_c_12 : Ref sig .tc := ⟨.hbm, 597, rfl⟩
abbrev main_call1_call1_v53 : Ref sig .tc := ⟨.hbm, 598, rfl⟩
abbrev main_call1_call1_v54 : Ref sig .tc := ⟨.hbm, 599, rfl⟩
abbrev main_call1_call1_v55 : Ref sig .tc := ⟨.hbm, 600, rfl⟩
abbrev main_call1_call1_v56 : Ref sig .tc := ⟨.hbm, 601, rfl⟩
abbrev main_call1_call1_v57 : Ref sig .tc := ⟨.hbm, 602, rfl⟩
abbrev main_call1_call1_c_13 : Ref sig .tc := ⟨.hbm, 603, rfl⟩
abbrev main_call1_call1_v58 : Ref sig .tc := ⟨.hbm, 604, rfl⟩
abbrev main_call1_call1_v59 : Ref sig .tc := ⟨.hbm, 605, rfl⟩
abbrev main_call1_call1_c_14 : Ref sig .tc := ⟨.hbm, 606, rfl⟩
abbrev main_call1_call1_v60 : Ref sig .tc := ⟨.hbm, 607, rfl⟩
abbrev main_call1_call1_v61 : Ref sig .tc := ⟨.hbm, 608, rfl⟩
abbrev main_call1_call1_v62 : Ref sig .tc := ⟨.hbm, 609, rfl⟩
abbrev main_call1_call1_v63 : Ref sig .tc := ⟨.hbm, 610, rfl⟩
abbrev main_call1_call1_v64 : Ref sig .tc := ⟨.hbm, 611, rfl⟩
abbrev main_call1_call1_c_15 : Ref sig .tc := ⟨.hbm, 612, rfl⟩
abbrev main_call1_call1_v65 : Ref sig .tc := ⟨.hbm, 613, rfl⟩
abbrev main_call1_call1_v66 : Ref sig .tc := ⟨.hbm, 614, rfl⟩
abbrev main_call1_call1_c_16 : Ref sig .tc := ⟨.hbm, 615, rfl⟩
abbrev main_call1_call1_v67 : Ref sig .tc := ⟨.hbm, 616, rfl⟩
abbrev main_call1_call1_v68 : Ref sig .tc := ⟨.hbm, 617, rfl⟩
abbrev main_call1_call1_v69 : Ref sig .tc := ⟨.hbm, 618, rfl⟩
abbrev main_call1_call1_v70 : Ref sig .tc := ⟨.hbm, 619, rfl⟩
abbrev main_call1_call1_v71 : Ref sig .tc := ⟨.hbm, 620, rfl⟩
abbrev main_call1_call1_v72 : Ref sig .tc := ⟨.hbm, 621, rfl⟩
abbrev main_call1_call1_v73 : Ref sig .tc := ⟨.hbm, 622, rfl⟩
abbrev main_call1_call1_v74 : Ref sig .tc := ⟨.hbm, 623, rfl⟩
abbrev main_call1_call1_c_17 : Ref sig .tc := ⟨.hbm, 624, rfl⟩
abbrev main_call1_call1_v75 : Ref sig .tc := ⟨.hbm, 625, rfl⟩
abbrev main_call1_call1_v76 : Ref sig .tc := ⟨.hbm, 626, rfl⟩
abbrev main_call1_call1_v77 : Ref sig .tc := ⟨.hbm, 627, rfl⟩
abbrev main_call1_call1_c_18 : Ref sig .tc := ⟨.hbm, 628, rfl⟩
abbrev main_call1_call1_v78 : Ref sig .tc := ⟨.hbm, 629, rfl⟩
abbrev main_call1_call1_v79 : Ref sig .tc := ⟨.hbm, 630, rfl⟩
abbrev main_call1_call1_c_19 : Ref sig .tc := ⟨.hbm, 631, rfl⟩
abbrev main_call1_call1_v80 : Ref sig .tc := ⟨.hbm, 632, rfl⟩
abbrev main_call1_call1_v81 : Ref sig .tc := ⟨.hbm, 633, rfl⟩
abbrev main_call1_call1_v82 : Ref sig .tc := ⟨.hbm, 634, rfl⟩
abbrev main_call1_call1_v83 : Ref sig .tc := ⟨.hbm, 635, rfl⟩
abbrev main_call1_call1_v84 : Ref sig .tc := ⟨.hbm, 636, rfl⟩
abbrev main_call1_call1_c_20 : Ref sig .tc := ⟨.hbm, 637, rfl⟩
abbrev main_call1_call1_v85 : Ref sig .tc := ⟨.hbm, 638, rfl⟩
abbrev main_call1_call1_v86 : Ref sig .tc := ⟨.hbm, 639, rfl⟩
abbrev main_call1_call1_c_21 : Ref sig .tc := ⟨.hbm, 640, rfl⟩
abbrev main_call1_call1_v87 : Ref sig .tc := ⟨.hbm, 641, rfl⟩
abbrev main_call1_call1_v88 : Ref sig .tc := ⟨.hbm, 642, rfl⟩
abbrev main_call1_call1_v89 : Ref sig .tc := ⟨.hbm, 643, rfl⟩
abbrev main_call1_call1_v90 : Ref sig .tc := ⟨.hbm, 644, rfl⟩
abbrev main_call1_call1_v91 : Ref sig .tc := ⟨.hbm, 645, rfl⟩
abbrev main_call1_call1_c_22 : Ref sig .tc := ⟨.hbm, 646, rfl⟩
abbrev main_call1_call1_v92 : Ref sig .tc := ⟨.hbm, 647, rfl⟩
abbrev main_call1_call1_v93 : Ref sig .tc := ⟨.hbm, 648, rfl⟩
abbrev main_call1_call1_c_23 : Ref sig .tc := ⟨.hbm, 649, rfl⟩
abbrev main_call1_call1_v94 : Ref sig .tc := ⟨.hbm, 650, rfl⟩
abbrev main_call1_call1_v95 : Ref sig .tc := ⟨.hbm, 651, rfl⟩
abbrev main_call1_call1_v96 : Ref sig .tc := ⟨.hbm, 652, rfl⟩
abbrev main_call1_call1_v97 : Ref sig .tc := ⟨.hbm, 653, rfl⟩
abbrev main_call1_call1_v98 : Ref sig .tc := ⟨.hbm, 654, rfl⟩
abbrev main_call1_call1_c_24 : Ref sig .tc := ⟨.hbm, 655, rfl⟩
abbrev main_call1_call1_v99 : Ref sig .tc := ⟨.hbm, 656, rfl⟩
abbrev main_call1_call1_v100 : Ref sig .tc := ⟨.hbm, 657, rfl⟩
abbrev main_call1_call1_c_25 : Ref sig .tc := ⟨.hbm, 658, rfl⟩
abbrev main_call1_call1_v101 : Ref sig .tc := ⟨.hbm, 659, rfl⟩
abbrev main_call1_call1_v102 : Ref sig .tc := ⟨.hbm, 660, rfl⟩
abbrev main_call1_call1_v103 : Ref sig .tc := ⟨.hbm, 661, rfl⟩
abbrev main_call1_call1_v104 : Ref sig .tc := ⟨.hbm, 662, rfl⟩
abbrev main_call1_call1_v105 : Ref sig .tc := ⟨.hbm, 663, rfl⟩
abbrev main_call1_call1_v106 : Ref sig .tc := ⟨.hbm, 664, rfl⟩
abbrev main_call1_call1_v107 : Ref sig .tc := ⟨.hbm, 665, rfl⟩
abbrev main_call1_call1_v108 : Ref sig .tc := ⟨.hbm, 666, rfl⟩
abbrev main_call1_call1_c_26 : Ref sig .tc := ⟨.hbm, 667, rfl⟩
abbrev main_call1_call1_v109 : Ref sig .tc := ⟨.hbm, 668, rfl⟩
abbrev main_call1_call1_v110 : Ref sig .tc := ⟨.hbm, 669, rfl⟩
abbrev main_call1_call1_v111 : Ref sig .tc := ⟨.hbm, 670, rfl⟩
abbrev main_call1_call1_c_27 : Ref sig .tc := ⟨.hbm, 671, rfl⟩
abbrev main_call1_call1_v112 : Ref sig .tc := ⟨.hbm, 672, rfl⟩
abbrev main_call1_call1_v113 : Ref sig .tc := ⟨.hbm, 673, rfl⟩
abbrev main_call1_call1_c_28 : Ref sig .tc := ⟨.hbm, 674, rfl⟩
abbrev main_call1_call1_v114 : Ref sig .tc := ⟨.hbm, 675, rfl⟩
abbrev main_call1_call1_v115 : Ref sig .tc := ⟨.hbm, 676, rfl⟩
abbrev main_call1_call1_v116 : Ref sig .tc := ⟨.hbm, 677, rfl⟩
abbrev main_call1_call1_v117 : Ref sig .tc := ⟨.hbm, 678, rfl⟩
abbrev main_call1_call1_v118 : Ref sig .tc := ⟨.hbm, 679, rfl⟩
abbrev main_call1_call1_c_29 : Ref sig .tc := ⟨.hbm, 680, rfl⟩
abbrev main_call1_call1_v119 : Ref sig .tc := ⟨.hbm, 681, rfl⟩
abbrev main_call1_call1_v120 : Ref sig .tc := ⟨.hbm, 682, rfl⟩
abbrev main_call1_call1_c_30 : Ref sig .tc := ⟨.hbm, 683, rfl⟩
abbrev main_call1_call1_v121 : Ref sig .tc := ⟨.hbm, 684, rfl⟩
abbrev main_call1_call1_v122 : Ref sig .tc := ⟨.hbm, 685, rfl⟩
abbrev main_call1_call1_v123 : Ref sig .tc := ⟨.hbm, 686, rfl⟩
abbrev main_call1_call1_v124 : Ref sig .tc := ⟨.hbm, 687, rfl⟩
abbrev main_call1_call1_v125 : Ref sig .tc := ⟨.hbm, 688, rfl⟩
abbrev main_call1_call1_c_31 : Ref sig .tc := ⟨.hbm, 689, rfl⟩
abbrev main_call1_call1_v126 : Ref sig .tc := ⟨.hbm, 690, rfl⟩
abbrev main_call1_call1_v127 : Ref sig .tc := ⟨.hbm, 691, rfl⟩
abbrev main_call1_call1_c_32 : Ref sig .tc := ⟨.hbm, 692, rfl⟩
abbrev main_call1_call1_v128 : Ref sig .tc := ⟨.hbm, 693, rfl⟩
abbrev main_call1_call1_v129 : Ref sig .tc := ⟨.hbm, 694, rfl⟩
abbrev main_call1_call1_v130 : Ref sig .tc := ⟨.hbm, 695, rfl⟩
abbrev main_call1_call1_v131 : Ref sig .tc := ⟨.hbm, 696, rfl⟩
abbrev main_call1_call1_v132 : Ref sig .tc := ⟨.hbm, 697, rfl⟩
abbrev main_call1_call1_c_33 : Ref sig .tc := ⟨.hbm, 698, rfl⟩
abbrev main_call1_call1_v133 : Ref sig .tc := ⟨.hbm, 699, rfl⟩
abbrev main_call1_call1_v134 : Ref sig .tc := ⟨.hbm, 700, rfl⟩
abbrev main_call1_call1_c_34 : Ref sig .tc := ⟨.hbm, 701, rfl⟩
abbrev main_call1_call1_v135 : Ref sig .tc := ⟨.hbm, 702, rfl⟩
abbrev main_call1_call1_v136 : Ref sig .tc := ⟨.hbm, 703, rfl⟩
abbrev main_call1_call1_v137 : Ref sig .tc := ⟨.hbm, 704, rfl⟩
abbrev main_call1_call1_v138 : Ref sig .tc := ⟨.hbm, 705, rfl⟩
abbrev main_call1_call1_v139 : Ref sig .tc := ⟨.hbm, 706, rfl⟩
abbrev main_call1_call1_v140 : Ref sig .tc := ⟨.hbm, 707, rfl⟩
abbrev main_call1_call1_v141 : Ref sig .tc := ⟨.hbm, 708, rfl⟩
abbrev main_call1_call1_v142 : Ref sig .tc := ⟨.hbm, 709, rfl⟩
abbrev main_call1_call1_c_35 : Ref sig .tc := ⟨.hbm, 710, rfl⟩
abbrev main_call1_call1_v143 : Ref sig .tc := ⟨.hbm, 711, rfl⟩
abbrev main_call1_call1_v144 : Ref sig .tc := ⟨.hbm, 712, rfl⟩
abbrev main_call1_call1_v145 : Ref sig .tc := ⟨.hbm, 713, rfl⟩
abbrev main_call1_call1_c_36 : Ref sig .tc := ⟨.hbm, 714, rfl⟩
abbrev main_call1_call1_v146 : Ref sig .tc := ⟨.hbm, 715, rfl⟩
abbrev main_call1_call1_v147 : Ref sig .tc := ⟨.hbm, 716, rfl⟩
abbrev main_call1_call1_c_37 : Ref sig .tc := ⟨.hbm, 717, rfl⟩
abbrev main_call1_call1_v148 : Ref sig .tc := ⟨.hbm, 718, rfl⟩
abbrev main_call1_call1_v149 : Ref sig .tc := ⟨.hbm, 719, rfl⟩
abbrev main_call1_call1_v150 : Ref sig .tc := ⟨.hbm, 720, rfl⟩
abbrev main_call1_call1_v151 : Ref sig .tc := ⟨.hbm, 721, rfl⟩
abbrev main_call1_call1_v152 : Ref sig .tc := ⟨.hbm, 722, rfl⟩
abbrev main_call1_call1_c_38 : Ref sig .tc := ⟨.hbm, 723, rfl⟩
abbrev main_call1_call1_v153 : Ref sig .tc := ⟨.hbm, 724, rfl⟩
abbrev main_call1_call1_v154 : Ref sig .tc := ⟨.hbm, 725, rfl⟩
abbrev main_call1_call1_c_39 : Ref sig .tc := ⟨.hbm, 726, rfl⟩
abbrev main_call1_call1_v155 : Ref sig .tc := ⟨.hbm, 727, rfl⟩
abbrev main_call1_call1_v156 : Ref sig .tc := ⟨.hbm, 728, rfl⟩
abbrev main_call1_call1_v157 : Ref sig .tc := ⟨.hbm, 729, rfl⟩
abbrev main_call1_call1_v158 : Ref sig .tc := ⟨.hbm, 730, rfl⟩
abbrev main_call1_call1_v159 : Ref sig .tc := ⟨.hbm, 731, rfl⟩
abbrev main_call1_call1_c_40 : Ref sig .tc := ⟨.hbm, 732, rfl⟩
abbrev main_call1_call1_v160 : Ref sig .tc := ⟨.hbm, 733, rfl⟩
abbrev main_call1_call1_v161 : Ref sig .tc := ⟨.hbm, 734, rfl⟩
abbrev main_call1_call1_c_41 : Ref sig .tc := ⟨.hbm, 735, rfl⟩
abbrev main_call1_call1_v162 : Ref sig .tc := ⟨.hbm, 736, rfl⟩
abbrev main_call1_call1_v163 : Ref sig .tc := ⟨.hbm, 737, rfl⟩
abbrev main_call1_call1_v164 : Ref sig .tc := ⟨.hbm, 738, rfl⟩
abbrev main_call1_call1_v165 : Ref sig .tc := ⟨.hbm, 739, rfl⟩
abbrev main_call1_call1_v166 : Ref sig .tc := ⟨.hbm, 740, rfl⟩
abbrev main_call1_call1_c_42 : Ref sig .tc := ⟨.hbm, 741, rfl⟩
abbrev main_call1_call1_v167 : Ref sig .tc := ⟨.hbm, 742, rfl⟩
abbrev main_call1_call1_v168 : Ref sig .tc := ⟨.hbm, 743, rfl⟩
abbrev main_call1_call1_c_43 : Ref sig .tc := ⟨.hbm, 744, rfl⟩
abbrev main_call1_call1_v169 : Ref sig .tc := ⟨.hbm, 745, rfl⟩
abbrev main_call1_call1_v170 : Ref sig .tc := ⟨.hbm, 746, rfl⟩
abbrev main_call1_call1_v171 : Ref sig .tc := ⟨.hbm, 747, rfl⟩
abbrev main_call1_call1_v172 : Ref sig .tc := ⟨.hbm, 748, rfl⟩
abbrev main_call1_call1_v173 : Ref sig .tc := ⟨.hbm, 749, rfl⟩
abbrev main_call1_v20_0 : Ref sig .tc := ⟨.hbm, 750, rfl⟩
abbrev main_call1_call1_v175 : Ref sig .tc := ⟨.hbm, 751, rfl⟩
abbrev main_call1_call1_v176 : Ref sig .tc := ⟨.hbm, 752, rfl⟩
abbrev main_call1_call1_c_44 : Ref sig .tc := ⟨.hbm, 753, rfl⟩
abbrev main_call1_call1_v177 : Ref sig .tc := ⟨.hbm, 754, rfl⟩
abbrev main_call1_v20_1 : Ref sig .tc := ⟨.hbm, 755, rfl⟩
abbrev main_call1_v21 : Ref sig .tc := ⟨.hbm, 756, rfl⟩
abbrev main_call1_v22 : Ref sig .tc := ⟨.hbm, 757, rfl⟩
abbrev main_call1_v23_0 : Ref sig .tc := ⟨.hbm, 758, rfl⟩
abbrev main_v9 : Ref sig .tc := ⟨.hbm, 759, rfl⟩
abbrev main_call2_v0 : Ref sig .tc := ⟨.hbm, 760, rfl⟩
abbrev main_call2_v1_0 : Ref sig .tc := ⟨.hbm, 761, rfl⟩
abbrev main_v10 : Ref sig .tc := ⟨.hbm, 762, rfl⟩
abbrev main_v11 : Ref sig .tc := ⟨.hbm, 763, rfl⟩
abbrev main_call3_v0 : Ref sig .tc := ⟨.hbm, 764, rfl⟩
abbrev main_call3_v1 : Ref sig .tc := ⟨.hbm, 765, rfl⟩
abbrev main_call3_v2 : Ref sig .tc := ⟨.hbm, 766, rfl⟩
abbrev main_call3_v3 : Ref sig .tc := ⟨.hbm, 767, rfl⟩
abbrev main_call3_v4 : Ref sig .tc := ⟨.hbm, 768, rfl⟩
abbrev main_v12 : Ref sig .tc := ⟨.hbm, 769, rfl⟩
abbrev main_v13 : Ref sig .tc := ⟨.hbm, 770, rfl⟩
abbrev main_cst : Ref sig .tc := ⟨.hbm, 771, rfl⟩
abbrev main_v14 : Ref sig .tc := ⟨.hbm, 772, rfl⟩
abbrev main_call4_v0 : Ref sig .tc := ⟨.hbm, 773, rfl⟩
abbrev main_call4_c : Ref sig .tc := ⟨.hbm, 774, rfl⟩
abbrev main_call4_v1 : Ref sig .tc := ⟨.hbm, 775, rfl⟩
abbrev main_call4_v2 : Ref sig .tc := ⟨.hbm, 776, rfl⟩
abbrev main_call4_v3 : Ref sig .tc := ⟨.hbm, 777, rfl⟩
abbrev main_call4_v4 : Ref sig .tc := ⟨.hbm, 778, rfl⟩
abbrev main_call4_cst : Ref sig .tc := ⟨.hbm, 779, rfl⟩
abbrev main_call4_v5 : Ref sig .tc := ⟨.hbm, 780, rfl⟩
abbrev main_v15 : Ref sig .tc := ⟨.hbm, 781, rfl⟩
abbrev main_v16 : Ref sig .tc := ⟨.hbm, 782, rfl⟩
abbrev main_v17 : Ref sig .tc := ⟨.hbm, 783, rfl⟩
abbrev main_v18 : Ref sig .tc := ⟨.hbm, 784, rfl⟩
abbrev main_v19 : Ref sig .tc := ⟨.hbm, 785, rfl⟩
abbrev main_v20 : Ref sig .tc := ⟨.hbm, 786, rfl⟩
abbrev main_call5_c : Ref sig .tc := ⟨.hbm, 787, rfl⟩
abbrev main_call5_v0 : Ref sig .tc := ⟨.hbm, 788, rfl⟩
abbrev main_call5_v1 : Ref sig .tc := ⟨.hbm, 789, rfl⟩
abbrev main_call5_c_0 : Ref sig .tc := ⟨.hbm, 790, rfl⟩
abbrev main_call5_v2 : Ref sig .tc := ⟨.hbm, 791, rfl⟩
abbrev main_call5_v3 : Ref sig .tc := ⟨.hbm, 792, rfl⟩
abbrev main_call5_v4 : Ref sig .tc := ⟨.hbm, 793, rfl⟩
abbrev main_call5_v5 : Ref sig .tc := ⟨.hbm, 794, rfl⟩
abbrev main_call5_c_1 : Ref sig .tc := ⟨.hbm, 795, rfl⟩
abbrev main_call5_c_2 : Ref sig .tc := ⟨.hbm, 796, rfl⟩
abbrev main_call5_v6 : Ref sig .tc := ⟨.hbm, 797, rfl⟩
abbrev main_call5_v7 : Ref sig .tc := ⟨.hbm, 798, rfl⟩
abbrev main_call5_v8 : Ref sig .tc := ⟨.hbm, 799, rfl⟩
abbrev main_call5_v9 : Ref sig .tc := ⟨.hbm, 800, rfl⟩
abbrev main_call5_v10 : Ref sig .tc := ⟨.hbm, 801, rfl⟩
abbrev main_call5_v11 : Ref sig .tc := ⟨.hbm, 802, rfl⟩
abbrev main_call5_c_3 : Ref sig .tc := ⟨.hbm, 803, rfl⟩
abbrev main_call5_v12 : Ref sig .tc := ⟨.hbm, 804, rfl⟩
abbrev main_call5_v13 : Ref sig .tc := ⟨.hbm, 805, rfl⟩
abbrev main_call5_cst : Ref sig .tc := ⟨.hbm, 806, rfl⟩
abbrev main_call5_v14 : Ref sig .tc := ⟨.hbm, 807, rfl⟩
abbrev main_v21 : Ref sig .tc := ⟨.hbm, 808, rfl⟩
abbrev main_v22 : Ref sig .tc := ⟨.hbm, 809, rfl⟩
abbrev main_v23 : Ref sig .tc := ⟨.hbm, 810, rfl⟩
abbrev main_v24 : Ref sig .tc := ⟨.hbm, 811, rfl⟩
abbrev main_cst_2 : Ref sig .tc := ⟨.hbm, 812, rfl⟩
abbrev main_v25 : Ref sig .tc := ⟨.hbm, 813, rfl⟩
abbrev main_cst_3 : Ref sig .tc := ⟨.hbm, 814, rfl⟩
abbrev main_v26 : Ref sig .tc := ⟨.hbm, 815, rfl⟩
abbrev main_v27 : Ref sig .tc := ⟨.hbm, 816, rfl⟩
abbrev main_cst_4 : Ref sig .tc := ⟨.hbm, 817, rfl⟩
abbrev main_call6_v0 : Ref sig .tc := ⟨.hbm, 818, rfl⟩
abbrev main_call6_v1 : Ref sig .tc := ⟨.hbm, 819, rfl⟩
abbrev main_v28 : Ref sig .tc := ⟨.hbm, 820, rfl⟩
abbrev main_cst_5 : Ref sig .tc := ⟨.hbm, 821, rfl⟩
abbrev main_v29 : Ref sig .tc := ⟨.hbm, 822, rfl⟩
abbrev main_v30 : Ref sig .tc := ⟨.hbm, 823, rfl⟩
abbrev main_cst_6 : Ref sig .tc := ⟨.hbm, 824, rfl⟩
abbrev main_v31 : Ref sig .tc := ⟨.hbm, 825, rfl⟩
abbrev main_cst_7 : Ref sig .tc := ⟨.hbm, 826, rfl⟩
abbrev main_v32 : Ref sig .tc := ⟨.hbm, 827, rfl⟩
abbrev main_v33 : Ref sig .tc := ⟨.hbm, 828, rfl⟩
abbrev main_v34 : Ref sig .tc := ⟨.hbm, 829, rfl⟩
abbrev main_v35 : Ref sig .tc := ⟨.hbm, 830, rfl⟩
abbrev main_v36 : Ref sig .tc := ⟨.hbm, 831, rfl⟩
abbrev main_v37 : Ref sig .tc := ⟨.hbm, 832, rfl⟩
abbrev main_v38 : Ref sig .tc := ⟨.hbm, 833, rfl⟩
abbrev main_v39 : Ref sig .tc := ⟨.hbm, 834, rfl⟩
abbrev main_v40 : Ref sig .tc := ⟨.hbm, 835, rfl⟩
abbrev main_v41 : Ref sig .tc := ⟨.hbm, 836, rfl⟩
abbrev main_v42 : Ref sig .tc := ⟨.hbm, 837, rfl⟩
abbrev main_v43 : Ref sig .tc := ⟨.hbm, 838, rfl⟩
abbrev main_v44 : Ref sig .tc := ⟨.hbm, 839, rfl⟩
abbrev main_v45 : Ref sig .tc := ⟨.hbm, 840, rfl⟩
abbrev main_v46 : Ref sig .tc := ⟨.hbm, 841, rfl⟩
abbrev main_cst_8 : Ref sig .tc := ⟨.hbm, 842, rfl⟩
abbrev main_v47 : Ref sig .tc := ⟨.hbm, 843, rfl⟩
abbrev main_v48 : Ref sig .tc := ⟨.hbm, 844, rfl⟩
abbrev main_v49 : Ref sig .tc := ⟨.hbm, 845, rfl⟩
abbrev main_cst_9 : Ref sig .tc := ⟨.hbm, 846, rfl⟩
abbrev main_v50 : Ref sig .tc := ⟨.hbm, 847, rfl⟩
abbrev main_v51 : Ref sig .tc := ⟨.hbm, 848, rfl⟩
abbrev main_v52 : Ref sig .tc := ⟨.hbm, 849, rfl⟩
abbrev main_cst_10 : Ref sig .tc := ⟨.hbm, 850, rfl⟩
abbrev main_v53 : Ref sig .tc := ⟨.hbm, 851, rfl⟩
abbrev main_v54 : Ref sig .tc := ⟨.hbm, 852, rfl⟩
abbrev main_cst_11 : Ref sig .tc := ⟨.hbm, 853, rfl⟩
abbrev main_v55 : Ref sig .tc := ⟨.hbm, 854, rfl⟩
abbrev main_v56 : Ref sig .tc := ⟨.hbm, 855, rfl⟩
abbrev main_v57 : Ref sig .tc := ⟨.hbm, 856, rfl⟩
abbrev main_v58 : Ref sig .tc := ⟨.hbm, 857, rfl⟩
abbrev main_v59 : Ref sig .tc := ⟨.hbm, 858, rfl⟩
abbrev main_v60 : Ref sig .tc := ⟨.hbm, 859, rfl⟩
abbrev main_v61 : Ref sig .tc := ⟨.hbm, 860, rfl⟩
abbrev main_v62 : Ref sig .tc := ⟨.hbm, 861, rfl⟩
abbrev main_v63 : Ref sig .tc := ⟨.hbm, 862, rfl⟩
abbrev main_v64 : Ref sig .tc := ⟨.hbm, 863, rfl⟩
abbrev main_v65 : Ref sig .tc := ⟨.hbm, 864, rfl⟩
abbrev main_v66 : Ref sig .tc := ⟨.hbm, 865, rfl⟩
abbrev main_v67 : Ref sig .tc := ⟨.hbm, 866, rfl⟩
abbrev main_v68 : Ref sig .tc := ⟨.hbm, 867, rfl⟩
abbrev main_v69 : Ref sig .tc := ⟨.hbm, 868, rfl⟩
abbrev main_v70 : Ref sig .tc := ⟨.hbm, 869, rfl⟩
abbrev main_v71 : Ref sig .tc := ⟨.hbm, 870, rfl⟩
abbrev main_cst_12 : Ref sig .tc := ⟨.hbm, 871, rfl⟩
abbrev main_v72 : Ref sig .tc := ⟨.hbm, 872, rfl⟩
abbrev main_v73 : Ref sig .tc := ⟨.hbm, 873, rfl⟩
abbrev main_v74 : Ref sig .tc := ⟨.hbm, 874, rfl⟩
abbrev main_cst_13 : Ref sig .tc := ⟨.hbm, 875, rfl⟩
abbrev main_v75 : Ref sig .tc := ⟨.hbm, 876, rfl⟩
abbrev main_v76 : Ref sig .tc := ⟨.hbm, 877, rfl⟩
abbrev main_v77 : Ref sig .tc := ⟨.hbm, 878, rfl⟩
abbrev main_cst_14 : Ref sig .tc := ⟨.hbm, 879, rfl⟩
abbrev main_v78 : Ref sig .tc := ⟨.hbm, 880, rfl⟩
abbrev main_v79 : Ref sig .tc := ⟨.hbm, 881, rfl⟩
abbrev main_cst_15 : Ref sig .tc := ⟨.hbm, 882, rfl⟩
abbrev main_v80 : Ref sig .tc := ⟨.hbm, 883, rfl⟩
abbrev main_v81 : Ref sig .tc := ⟨.hbm, 884, rfl⟩
abbrev main_v82 : Ref sig .tc := ⟨.hbm, 885, rfl⟩
abbrev main_v83 : Ref sig .tc := ⟨.hbm, 886, rfl⟩
abbrev main_v84 : Ref sig .tc := ⟨.hbm, 887, rfl⟩
abbrev main_v85 : Ref sig .tc := ⟨.hbm, 888, rfl⟩
abbrev main_v86 : Ref sig .tc := ⟨.hbm, 889, rfl⟩
abbrev main_v87 : Ref sig .tc := ⟨.hbm, 890, rfl⟩
abbrev main_v88 : Ref sig .tc := ⟨.hbm, 891, rfl⟩
abbrev main_cst_16 : Ref sig .tc := ⟨.hbm, 892, rfl⟩
abbrev main_v89 : Ref sig .tc := ⟨.hbm, 893, rfl⟩
abbrev main_v90 : Ref sig .tc := ⟨.hbm, 894, rfl⟩
abbrev main_v91 : Ref sig .tc := ⟨.hbm, 895, rfl⟩
abbrev main_cst_17 : Ref sig .tc := ⟨.hbm, 896, rfl⟩
abbrev main_v92 : Ref sig .tc := ⟨.hbm, 897, rfl⟩
abbrev main_v93 : Ref sig .tc := ⟨.hbm, 898, rfl⟩
abbrev main_v94 : Ref sig .tc := ⟨.hbm, 899, rfl⟩
abbrev main_cst_18 : Ref sig .tc := ⟨.hbm, 900, rfl⟩
abbrev main_v95 : Ref sig .tc := ⟨.hbm, 901, rfl⟩
abbrev main_v96 : Ref sig .tc := ⟨.hbm, 902, rfl⟩
abbrev main_cst_19 : Ref sig .tc := ⟨.hbm, 903, rfl⟩
abbrev main_v97 : Ref sig .tc := ⟨.hbm, 904, rfl⟩
abbrev main_v98 : Ref sig .tc := ⟨.hbm, 905, rfl⟩
abbrev main_v99 : Ref sig .tc := ⟨.hbm, 906, rfl⟩
abbrev main_v100 : Ref sig .tc := ⟨.hbm, 907, rfl⟩
abbrev main_v101 : Ref sig .tc := ⟨.hbm, 908, rfl⟩
abbrev main_v102 : Ref sig .tc := ⟨.hbm, 909, rfl⟩
abbrev main_v103 : Ref sig .tc := ⟨.hbm, 910, rfl⟩
abbrev main_v104 : Ref sig .tc := ⟨.hbm, 911, rfl⟩
abbrev main_v105 : Ref sig .tc := ⟨.hbm, 912, rfl⟩
abbrev main_v106 : Ref sig .tc := ⟨.hbm, 913, rfl⟩
abbrev main_v107 : Ref sig .tc := ⟨.hbm, 914, rfl⟩
abbrev main_v108 : Ref sig .tc := ⟨.hbm, 915, rfl⟩
abbrev main_v109 : Ref sig .tc := ⟨.hbm, 916, rfl⟩
abbrev main_v110 : Ref sig .tc := ⟨.hbm, 917, rfl⟩
abbrev main_cst_20 : Ref sig .tc := ⟨.hbm, 918, rfl⟩
abbrev main_v111 : Ref sig .tc := ⟨.hbm, 919, rfl⟩
abbrev main_v112 : Ref sig .tc := ⟨.hbm, 920, rfl⟩
abbrev main_v113 : Ref sig .tc := ⟨.hbm, 921, rfl⟩
abbrev main_cst_21 : Ref sig .tc := ⟨.hbm, 922, rfl⟩
abbrev main_v114 : Ref sig .tc := ⟨.hbm, 923, rfl⟩
abbrev main_v115 : Ref sig .tc := ⟨.hbm, 924, rfl⟩
abbrev main_v116 : Ref sig .tc := ⟨.hbm, 925, rfl⟩
abbrev main_cst_22 : Ref sig .tc := ⟨.hbm, 926, rfl⟩
abbrev main_v117 : Ref sig .tc := ⟨.hbm, 927, rfl⟩
abbrev main_v118 : Ref sig .tc := ⟨.hbm, 928, rfl⟩
abbrev main_cst_23 : Ref sig .tc := ⟨.hbm, 929, rfl⟩
abbrev main_v119 : Ref sig .tc := ⟨.hbm, 930, rfl⟩
abbrev main_v120 : Ref sig .tc := ⟨.hbm, 931, rfl⟩
abbrev main_v121 : Ref sig .tc := ⟨.hbm, 932, rfl⟩
abbrev main_v122 : Ref sig .tc := ⟨.hbm, 933, rfl⟩
abbrev main_v123 : Ref sig .tc := ⟨.hbm, 934, rfl⟩
abbrev main_v124 : Ref sig .tc := ⟨.hbm, 935, rfl⟩
abbrev main_v125 : Ref sig .tc := ⟨.hbm, 936, rfl⟩
abbrev main_v126 : Ref sig .tc := ⟨.hbm, 937, rfl⟩
abbrev main_v127 : Ref sig .tc := ⟨.hbm, 938, rfl⟩
abbrev main_v128 : Ref sig .tc := ⟨.hbm, 939, rfl⟩
abbrev main_v129 : Ref sig .tc := ⟨.hbm, 940, rfl⟩
abbrev main_v130 : Ref sig .tc := ⟨.hbm, 941, rfl⟩

abbrev nD : Nat := 1
abbrev τ : Topo := Topo.v7x

variable {F : FTy → Type} [FloatOps F]
-- ==== Proof.Settle.lean ====
/- A straight line of host operations in which every buffer is written once, after everything it is computed from: after the run every
   operation's equation holds of the FINAL contents, so that a value is read one operation at a time and nothing is composed. -/
module

public import Idealize.ShloMosaic.Lib.Claim
public import Idealize.ShloMosaic.Adequacy
public import Idealize.ShloMosaic.Init

@[expose] public section

noncomputable section

namespace Cert.Settle

open Idealize.ShloMosaic Idealize.ShloMosaic.StableHlo Idealize.SL.Sem

variable {nD : Nat} {τ : Topo} {sig : RefSig} {Val : EltTy → Type} {Λ : Labels}

/-- What a valuation holds at a reference. -/
abbrev at' (W : Valuation τ sig Val) (r : Ref sig .tc) : r.ty.Contents Val := W (Proc.devRef .tc r)

/-- What a valuation holds at a typed reference. -/
def get {T : BufTy} (t : TRef sig T) (W : Valuation τ sig Val) : T.Contents Val := t.ofBuf (W (Proc.devRef .tc t.ref))

/-- What is recorded of one operation: the references it reads, the one it writes, and its equation over contents. -/
structure Step (τ : Topo) (sig : RefSig) (Val : EltTy → Type) where
  /-- The references the operation reads. -/
  reads : List (Ref sig .tc)
  /-- The reference it writes. -/
  out : Ref sig .tc
  /-- Its equation, of contents that already hold its result. -/
  eqn : Valuation τ sig Val → Prop

/-- The record `d` describes the operation `op`. -/
structure Says (op : HloOp τ sig Val) (d : Step τ sig Val) : Prop where
  writes : op.writes = {Proc.devRef .tc d.out}
  fresh : op.fresh = ∅
  bufs : op.bufs ⊆ tcRefs τ sig
  congr : ∀ F G : Valuation τ sig Val, (∀ r ∈ d.reads, F (Proc.devRef .tc r) = G (Proc.devRef .tc r)) →
    op.result F (Proc.devRef .tc d.out) = op.result G (Proc.devRef .tc d.out)
  eqn : ∀ W : Valuation τ sig Val, W (Proc.devRef .tc d.out) = op.result W (Proc.devRef .tc d.out) → d.eqn W

section Builders

variable {a b c e x y : Ref sig .tc}

theorem says_nullary (v : y.ty.Contents Val) (hy) :
    Says (nullary (τ := τ) y v hy) ⟨[], y, fun W => at' W y = v⟩ where
  writes := rfl
  fresh := rfl
  bufs := nullary_bufs_sub ..
  congr F G _ := by rw [nullary_result', nullary_result']
  eqn W h := by rw [nullary_result'] at h; exact h

theorem says_unary (f : x.ty.Contents Val → y.ty.Contents Val) (hx hy) :
    Says (unary (τ := τ) x y f hx hy) ⟨[x], y, fun W => at' W y = f (at' W x)⟩ where
  writes := rfl
  fresh := rfl
  bufs := unary_bufs_sub ..
  congr F G h := by rw [unary_result', unary_result', h x (by simp)]
  eqn W h := by rw [unary_result'] at h; exact h

theorem says_binary (f : a.ty.Contents Val → b.ty.Contents Val → y.ty.Contents Val) (ha hb hy) :
    Says (binary (τ := τ) a b y f ha hb hy) ⟨[a, b], y, fun W => at' W y = f (at' W a) (at' W b)⟩ where
  writes := rfl
  fresh := rfl
  bufs := binary_bufs_sub ..
  congr F G h := by rw [binary_result', binary_result', h a (by simp), h b (by simp)]
  eqn W h := by rw [binary_result'] at h; exact h

theorem says_ternary (f : c.ty.Contents Val → a.ty.Contents Val → b.ty.Contents Val → y.ty.Contents Val) (hc ha hb hy) :
    Says (ternary (τ := τ) c a b y f hc ha hb hy) ⟨[c, a, b], y, fun W => at' W y = f (at' W c) (at' W a) (at' W b)⟩ where
  writes := rfl
  fresh := rfl
  bufs := ternary_bufs_sub ..
  congr F G h := by rw [ternary_result', ternary_result', h c (by simp), h a (by simp), h b (by simp)]
  eqn W h := by rw [ternary_result'] at h; exact h

theorem says_reshape (he hn hx hy) :
    Says (reshape (τ := τ) (Val := Val) x y he hn hx hy)
      ⟨[x], y, fun W => at' W y = fun i => he ▸ shapeCast y.ty.shape (at' W x) hn i⟩ where
  writes := rfl
  fresh := rfl
  bufs := reshape_bufs_sub ..
  congr F G h := by rw [reshape_result', reshape_result', h x (by simp)]
  eqn W h := by rw [reshape_result'] at h; exact h

variable {Ta Tb Tc Tx Ty : BufTy}

theorem says_tnullary (y : TRef sig Ty) (v : Ty.Contents Val) :
    Says (TRef.nullary (τ := τ) y v) ⟨[], y.ref, fun W => get y W = v⟩ where
  __ := says_nullary (τ := τ) (y := y.ref) (y.toBuf v) y.dev
  eqn W h := by
    have := (says_nullary (τ := τ) (y := y.ref) (y.toBuf v) y.dev).eqn W h
    exact (congrArg y.ofBuf this).trans (TRef.ofBuf_toBuf y _)

theorem says_tunary (x : TRef sig Tx) (y : TRef sig Ty) (f : Tx.Contents Val → Ty.Contents Val) :
    Says (TRef.unary (τ := τ) x y f) ⟨[x.ref], y.ref, fun W => get y W = f (get x W)⟩ where
  __ := says_unary (τ := τ) (x := x.ref) (y := y.ref) (fun u => y.toBuf (f (x.ofBuf u))) x.dev y.dev
  eqn W h := by
    have := (says_unary (τ := τ) (x := x.ref) (y := y.ref) (fun u => y.toBuf (f (x.ofBuf u))) x.dev y.dev).eqn W h
    exact (congrArg y.ofBuf this).trans (TRef.ofBuf_toBuf y _)

theorem says_tbinary (a : TRef sig Ta) (b : TRef sig Tb) (y : TRef sig Ty)
    (f : Ta.Contents Val → Tb.Contents Val → Ty.Contents Val) :
    Says (TRef.binary (τ := τ) a b y f) ⟨[a.ref, b.ref], y.ref, fun W => get y W = f (get a W) (get b W)⟩ where
  __ := says_binary (τ := τ) (a := a.ref) (b := b.ref) (y := y.ref) (fun u v => y.toBuf (f (a.ofBuf u) (b.ofBuf v))) a.dev b.dev y.dev
  eqn W h := by
    have := (says_binary (τ := τ) (a := a.ref) (b := b.ref) (y := y.ref)
      (fun u v => y.toBuf (f (a.ofBuf u) (b.ofBuf v))) a.dev b.dev y.dev).eqn W h
    exact (congrArg y.ofBuf this).trans (TRef.ofBuf_toBuf y _)

theorem says_tternary (c : TRef sig Tc) (a : TRef sig Ta) (b : TRef sig Tb) (y : TRef sig Ty)
    (f : Tc.Contents Val → Ta.Contents Val → Tb.Contents Val → Ty.Contents Val) :
    Says (TRef.ternary (τ := τ) c a b y f)
      ⟨[c.ref, a.ref, b.ref], y.ref, fun W => get y W = f (get c W) (get a W) (get b W)⟩ where
  __ := says_ternary (τ := τ) (c := c.ref) (a := a.ref) (b := b.ref) (y := y.ref)
    (fun w u v => y.toBuf (f (c.ofBuf w) (a.ofBuf u) (b.ofBuf v))) c.dev a.dev b.dev y.dev
  eqn W h := by
    have := (says_ternary (τ := τ) (c := c.ref) (a := a.ref) (b := b.ref) (y := y.ref)
      (fun w u v => y.toBuf (f (c.ofBuf w) (a.ofBuf u) (b.ofBuf v))) c.dev a.dev b.dev y.dev).eqn W h
    exact (congrArg y.ofBuf this).trans (TRef.ofBuf_toBuf y _)

theorem cast_shapeCast {E : EltTy} {sx sy : Shape} (hn : sx.ShapeCasts sy) {T U : BufTy} (hT : T = ⟨sx, E⟩) (hU : U = ⟨sy, E⟩)
    (he : T.elt = U.elt) (hc : T.shape.ShapeCasts U.shape) (u : T.Contents Val) :
    cast (congrArg (fun U : BufTy => U.Contents Val) hU) (fun i => he ▸ shapeCast U.shape u hc i : U.Contents Val)
      = shapeCast sy (cast (congrArg (fun U : BufTy => U.Contents Val) hT) u : BufTy.Contents Val ⟨sx, E⟩) hn := by
  subst hT
  subst hU
  rfl

theorem says_treshape {E : EltTy} {sx sy : Shape} (x : TRef sig ⟨sx, E⟩) (y : TRef sig ⟨sy, E⟩) (hn : sx.ShapeCasts sy) :
    Says (TRef.reshape (τ := τ) (Val := Val) x y rfl hn)
      ⟨[x.ref], y.ref, fun W => get y W = shapeCast sy (get x W) hn⟩ where
  __ := says_reshape (τ := τ) (Val := Val) (x := x.ref) (y := y.ref) _ _ x.dev y.dev
  eqn W h := by
    have := (says_reshape (τ := τ) (Val := Val) (x := x.ref) (y := y.ref) _ _ x.dev y.dev).eqn W h
    exact (congrArg y.ofBuf this).trans (cast_shapeCast hn x.ty_eq y.ty_eq _ _ _)

end Builders

/-- `p` is the straight line of operations that the records `ds` describe. -/
def Line (p : Prog (TpuEff nD τ sig Val Λ .tc) PUnit) (ds : List (Step τ sig Val)) : Prop :=
  ∃ ops : List (HloOp τ sig Val), p = seq ops ∧ List.Forall₂ Says ops ds

theorem Line.nil : Line (nD := nD) (Λ := Λ) (pure ⟨⟩ : Prog (TpuEff nD τ sig Val Λ .tc) PUnit) [] := ⟨[], rfl, .nil⟩

theorem Line.last {op : HloOp τ sig Val} {d : Step τ sig Val} (hd : Says op d) :
    Line (nD := nD) (Λ := Λ) (hlo rfl op fun _ => .ret (⟨⟩ : PUnit)) [d] := ⟨[op], rfl, .cons hd .nil⟩

theorem Line.cons {op : HloOp τ sig Val} {d : Step τ sig Val} {k : Prog (TpuEff nD τ sig Val Λ .tc) PUnit}
    {ds : List (Step τ sig Val)} (hd : Says op d) (h : Line k ds) :
    Line ((hlo rfl op fun _ => .ret (⟨⟩ : PUnit)) >>= fun _ => k) (d :: ds) := by
  obtain ⟨ops, rfl, ho⟩ := h
  exact ⟨op :: ops, rfl, .cons hd ho⟩

theorem Line.append {p k : Prog (TpuEff nD τ sig Val Λ .tc) PUnit} {ds es : List (Step τ sig Val)}
    (h : Line p ds) (h' : Line k es) : Line (p >>= fun _ => k) (ds ++ es) := by
  obtain ⟨ops, rfl, ho⟩ := h
  obtain ⟨ops', rfl, ho'⟩ := h'
  exact ⟨ops ++ ops', (seq_append ops ops').symm, List.rel_append ho ho'⟩

/-- A reference's place in the order in which the buffers are declared. -/
def lvl (r : Ref sig .tc) : Nat := r.idx.val

/-- Every buffer is written after all earlier ones and after all it is computed from. -/
def ordered : Nat → List (Step τ sig Val) → Bool
  | _, [] => true
  | k, d :: ds => Nat.ble k (lvl d.out) && d.reads.all (fun r => Nat.blt (lvl r) (lvl d.out)) && ordered (lvl d.out + 1) ds

/-- Every recorded equation holds of the contents `W`. -/
def Settled (W : Valuation τ sig Val) (ds : List (Step τ sig Val)) : Prop := ∀ d ∈ ds, d.eqn W

theorem Settled.left {W : Valuation τ sig Val} {ds es : List (Step τ sig Val)} (h : Settled W (ds ++ es)) : Settled W ds :=
  fun d hd => h d (List.mem_append_left _ hd)

theorem Settled.right {W : Valuation τ sig Val} {ds es : List (Step τ sig Val)} (h : Settled W (ds ++ es)) : Settled W es :=
  fun d hd => h d (List.mem_append_right _ hd)

theorem Settled.piece {W : Valuation τ sig Val} {ds : List (Step τ sig Val)} (h : Settled W ds) (a b : Nat) :
    Settled W ((ds.drop a).take b) :=
  fun d hd => h d (List.mem_of_mem_drop (List.mem_of_mem_take hd))

theorem settled_nil (W : Valuation τ sig Val) : Settled W [] ↔ True := by simp [Settled]

theorem settled_cons (W : Valuation τ sig Val) (d : Step τ sig Val) (ds : List (Step τ sig Val)) :
    Settled W (d :: ds) ↔ d.eqn W ∧ Settled W ds := by simp [Settled]

/-- The line leaves every reference below its first writer as it was, and all its equations hold at its end. -/
theorem after_ordered {ops : List (HloOp τ sig Val)} {ds : List (Step τ sig Val)} (h : List.Forall₂ Says ops ds) :
    ∀ (k : Nat) (V : Valuation τ sig Val), ordered k ds = true →
      (∀ r : Ref sig .tc, lvl r < k → after ops V (Proc.devRef .tc r) = V (Proc.devRef .tc r)) ∧ Settled (after ops V) ds := by
  induction h with
  | nil => exact fun k V _ => ⟨fun _ _ => rfl, fun d hd => nomatch hd⟩
  | @cons op d ops ds hd h ih =>
    intro k V ho
    simp only [ordered, Bool.and_eq_true, Nat.ble_eq, List.all_eq_true, Nat.blt_eq] at ho
    obtain ⟨⟨hk, hr⟩, ho⟩ := ho
    obtain ⟨hlow, hset⟩ := ih (lvl d.out + 1) (op.result V) ho
    have hne : ∀ r : Ref sig .tc, lvl r < lvl d.out → after (op :: ops) V (Proc.devRef .tc r) = V (Proc.devRef .tc r) := by
      intro r h
      rw [after_cons, hlow r (by omega), op.result_of_not_mem V]
      rw [hd.writes, Finset.mem_singleton]
      intro he
      have := Proc.devRef_injective _ he
      subst this
      omega
    refine ⟨fun r h => hne r (by omega), ?_⟩
    rw [settled_cons]
    refine ⟨hd.eqn _ ?_, hset⟩
    rw [after_cons, hlow d.out (by omega), ← after_cons]
    exact hd.congr _ _ fun r h => (hne r (hr r h)).symm

/-- A program of host operations in that order runs, every reference below the first writer ends as launched, and all
    equations hold of what it ends with. -/
theorem run {defs : Defs nD τ sig Val Λ} {main : Dev nD → Prog (TpuEff nD τ sig Val Λ .tc) PUnit} {ds : List (Step τ sig Val)}
    (hmain : ∀ d, Line (main d) ds)
    (hR : (Finset.univ.filter fun b : Ref sig .tc => b.isScoped) = ∅)
    (hC : (Finset.univ.filter fun sm : SemLoc sig => sm.isScoped .tc) = ∅)
    (k : Nat) (ho : ordered k ds = true)
    (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, (∀ b : Ref sig .tc, r.2.mem ((d.tc : Thread nD τ).loc b) = W (Proc.devRef .tc b))
        ∧ (∀ b : Ref sig .tc, lvl b < k → W (Proc.devRef .tc b) = m ((d.tc : Thread nD τ).loc b)) ∧ Settled W ds := by
  choose ops hops hall using hmain
  have hmem : ∀ {os : List (HloOp τ sig Val)} {es : List (Step τ sig Val)}, List.Forall₂ Says os es →
      ∀ op ∈ os, ∃ d, Says op d := by
    intro os es h
    induction h with
    | nil => exact fun op h => nomatch h
    | cons hd _ ih =>
      intro op h
      rcases List.mem_cons.mp h with rfl | h
      · exact ⟨_, hd⟩
      · exact ih op h
  refine θ_run_mono (run_seq hR hC defs main ops hops
    (fun d => List.forall_iff_forall_mem.mpr fun op h => (hmem (hall d) op h).elim fun _ h => h.bufs) m ρ
    (fun d op h => (hmem (hall d) op h).elim fun _ h => h.fresh)) fun r h d => ?_
  obtain ⟨h1, h2⟩ := after_ordered (hall d) k (launchContents m d) ho
  exact ⟨_, h d, fun b hb => (h1 b hb).trans rfl, h2⟩

/-! ## Two programs side by side -/

section Twin

variable {τ' : Topo} {sig' : RefSig} {W : Valuation τ sig Val} {W' : Valuation τ' sig' Val} {C : Prop}
variable {Tx Ta Tb Tc Ty : BufTy} {ds : List (Step τ sig Val)} {es : List (Step τ' sig' Val)} {rs : List (Ref sig .tc)} {rs' : List (Ref sig' .tc)}
  {o : Ref sig .tc} {o' : Ref sig' .tc}

/-- Two programs whose next operations are the same constant agree on it. -/
theorem twin0 {y : TRef sig Ty} {y' : TRef sig' Ty} {v : Ty.Contents Val}
    (k : get y W = get y' W' → Settled W ds → Settled W' es → C)
    (h : Settled W (⟨rs, o, fun W => get y W = v⟩ :: ds)) (h' : Settled W' (⟨rs', o', fun W' => get y' W' = v⟩ :: es)) : C :=
  k ((h _ (.head _)).trans (h' _ (.head _)).symm) (fun d hd => h d (.tail _ hd)) (fun d hd => h' d (.tail _ hd))

/-- Two programs whose next operations are the same function of operands they agree on agree on the results. -/
theorem twin1 {x : TRef sig Tx} {x' : TRef sig' Tx} {y : TRef sig Ty} {y' : TRef sig' Ty} {f : Tx.Contents Val → Ty.Contents Val}
    (hx : get x W = get x' W') (k : get y W = get y' W' → Settled W ds → Settled W' es → C)
    (h : Settled W (⟨rs, o, fun W => get y W = f (get x W)⟩ :: ds))
    (h' : Settled W' (⟨rs', o', fun W' => get y' W' = f (get x' W')⟩ :: es)) : C :=
  k ((h _ (.head _)).trans ((congrArg f hx).trans (h' _ (.head _)).symm)) (fun d hd => h d (.tail _ hd)) (fun d hd => h' d (.tail _ hd))

/-- The same of two operands. -/
theorem twin2 {a : TRef sig Ta} {a' : TRef sig' Ta} {b : TRef sig Tb} {b' : TRef sig' Tb} {y : TRef sig Ty} {y' : TRef sig' Ty}
    {f : Ta.Contents Val → Tb.Contents Val → Ty.Contents Val}
    (ha : get a W = get a' W') (hb : get b W = get b' W') (k : get y W = get y' W' → Settled W ds → Settled W' es → C)
    (h : Settled W (⟨rs, o, fun W => get y W = f (get a W) (get b W)⟩ :: ds))
    (h' : Settled W' (⟨rs', o', fun W' => get y' W' = f (get a' W') (get b' W')⟩ :: es)) : C :=
  k ((h _ (.head _)).trans ((congrArg₂ f ha hb).trans (h' _ (.head _)).symm)) (fun d hd => h d (.tail _ hd))
    (fun d hd => h' d (.tail _ hd))

end Twin

end Cert.Settle

end
-- ==== Proof.KerLine.lean ====
/- The host operations of the kernel's program before its region, read off the printed text. -/
module

public import proofs.«01_k».proof.Proof.Settle
public import proofs.«01_k».proof.Proof.Gen.KernelIdeal.Frame
public import Idealize.ShloMosaic.PureOps.Ideal

@[expose] public section

set_option maxRecDepth 16384

noncomputable section

namespace Cert.Ker

open Idealize.ShloMosaic Idealize.ShloMosaic.StableHlo Idealize.SL.Sem Cert.Settle Cert.KernelIdeal Cert.KernelIdeal.Gen

/-- The records of a stretch of operations, with the proof that they describe it. -/
abbrev Recs (ops : List (HloOp τ sig (Elt Ideal))) := {ds : List (Step τ sig (Elt Ideal)) // List.Forall₂ Says ops ds}

def recs0 : Recs hostOps0 := by
  apply Subtype.mk
  unfold hostOps0
  repeat (first
    | exact .nil
    | with_reducible apply List.Forall₂.cons (says_binary ..) | with_reducible apply List.Forall₂.cons (says_unary ..)
    | with_reducible apply List.Forall₂.cons (says_nullary ..) | with_reducible apply List.Forall₂.cons (says_reshape ..))

def recs1 : Recs hostOps0_1 := by
  apply Subtype.mk
  unfold hostOps0_1
  repeat (first
    | exact .nil
    | with_reducible apply List.Forall₂.cons (says_tbinary ..) | with_reducible apply List.Forall₂.cons (says_tunary ..)
    | with_reducible apply List.Forall₂.cons (says_tnullary ..) | with_reducible apply List.Forall₂.cons (says_treshape ..))

def recs2 : Recs hostOps0_2 := by
  apply Subtype.mk
  unfold hostOps0_2
  repeat (first
    | exact .nil
    | with_reducible apply List.Forall₂.cons (says_binary ..) | with_reducible apply List.Forall₂.cons (says_unary ..)
    | with_reducible apply List.Forall₂.cons (says_nullary ..) | with_reducible apply List.Forall₂.cons (says_reshape ..))

def recs3 : Recs hostOps0_3 := by
  apply Subtype.mk
  unfold hostOps0_3
  repeat (first
    | exact .nil
    | with_reducible apply List.Forall₂.cons (says_tbinary ..) | with_reducible apply List.Forall₂.cons (says_tunary ..)
    | with_reducible apply List.Forall₂.cons (says_tnullary ..) | with_reducible apply List.Forall₂.cons (says_treshape ..))

def recs4 : Recs hostOps0_4 := by
  apply Subtype.mk
  unfold hostOps0_4
  repeat (first
    | exact .nil
    | with_reducible apply List.Forall₂.cons (says_tbinary ..) | with_reducible apply List.Forall₂.cons (says_tunary ..)
    | with_reducible apply List.Forall₂.cons (says_tnullary ..) | with_reducible apply List.Forall₂.cons (says_treshape ..))

def recs5 : Recs hostOps0_5 := by
  apply Subtype.mk
  unfold hostOps0_5
  repeat (first
    | exact .nil
    | with_reducible apply List.Forall₂.cons (says_binary ..) | with_reducible apply List.Forall₂.cons (says_unary ..)
    | with_reducible apply List.Forall₂.cons (says_nullary ..) | with_reducible apply List.Forall₂.cons (says_reshape ..))

def recs6 : Recs hostOps0_6 := by
  apply Subtype.mk
  unfold hostOps0_6
  repeat (first
    | exact .nil
    | with_reducible apply List.Forall₂.cons (says_tbinary ..) | with_reducible apply List.Forall₂.cons (says_tunary ..)
    | with_reducible apply List.Forall₂.cons (says_tnullary ..) | with_reducible apply List.Forall₂.cons (says_treshape ..))

def recs7 : Recs hostOps0_7 := by
  apply Subtype.mk
  unfold hostOps0_7
  repeat (first
    | exact .nil
    | with_reducible apply List.Forall₂.cons (says_binary ..) | with_reducible apply List.Forall₂.cons (says_unary ..)
    | with_reducible apply List.Forall₂.cons (says_nullary ..) | with_reducible apply List.Forall₂.cons (says_reshape ..))

/-- All of them. -/
def recs : List (Step τ sig (Elt Ideal)) :=
  recs0.1 ++ (recs1.1 ++ (recs2.1 ++ (recs3.1 ++ (recs4.1 ++ (recs5.1 ++ (recs6.1 ++ (recs7.1 ++ [])))))))

theorem ordered_recs : ordered 16 recs = true := by
  decide +kernel

/-- What the region finds: every operation's equation holds, and no argument has changed. -/
theorem settled (m : (ℓ : Loc nD τ sig) → Buf (Elt Ideal) ℓ) (c : Dev nD) :
    (∀ b : Ref sig .tc, lvl b < 16 → V m c b = m ((c.tc : Thread nD τ).loc b)) ∧ Settled (V0 m c) recs :=
  after_ordered (List.rel_append recs0.2 (List.rel_append recs1.2 (List.rel_append recs2.2 (List.rel_append recs3.2
    (List.rel_append recs4.2 (List.rel_append recs5.2 (List.rel_append recs6.2 (List.rel_append recs7.2 .nil)))))))) 16 _ ordered_recs

end Cert.Ker

end
-- ==== Proof.RefLine.lean ====
/- The operations of the reference, read off its printed text function by function: each list is found by unification, nothing is transcribed. -/
module

public import proofs.«01_k».proof.Proof.Settle
public import proofs.«01_k».proof.Proof.Gen.ReferenceIdeal
public import Idealize.ShloMosaic.PureOps.Ideal

@[expose] public section

set_option maxRecDepth 16384

noncomputable section

namespace Cert.Ref

open Idealize.ShloMosaic Idealize.ShloMosaic.StableHlo Idealize.SL.Sem Cert.Settle Cert.ReferenceIdeal

variable [Facts₀] [Facts]

/-- The records of a function's operations, with the proof that they describe it. -/
abbrev Lines (p : Prog (TpuEff nD τ sig (Elt Ideal) (Pipeline.Sig Λ₀ (Fin 0) fun p => (pcfgs (F := Ideal) p).Adm) .tc) PUnit) :=
  {ds : List (Step τ sig (Elt Ideal)) // Line p ds}

def threefry2x32_p0 (arg0 : TRef sig ⟨S_, .i32⟩) (arg1 : TRef sig ⟨S_, .i32⟩) (arg2 : TRef sig ⟨S32768, .i32⟩) (arg3 : TRef sig ⟨S32768, .i32⟩) (φ : fn_threefry2x32.Bufs) :
    Lines (fn_threefry2x32.body_part0 (F := Ideal) arg0 arg1 arg2 arg3 φ) := by
  apply Subtype.mk
  unfold fn_threefry2x32.body_part0
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_p1 (arg0 : TRef sig ⟨S_, .i32⟩) (arg1 : TRef sig ⟨S_, .i32⟩) (arg2 : TRef sig ⟨S32768, .i32⟩) (arg3 : TRef sig ⟨S32768, .i32⟩) (φ : fn_threefry2x32.Bufs) :
    Lines (fn_threefry2x32.body_part1 (F := Ideal) arg0 arg1 arg2 arg3 φ) := by
  apply Subtype.mk
  unfold fn_threefry2x32.body_part1
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_p2 (arg0 : TRef sig ⟨S_, .i32⟩) (arg1 : TRef sig ⟨S_, .i32⟩) (arg2 : TRef sig ⟨S32768, .i32⟩) (arg3 : TRef sig ⟨S32768, .i32⟩) (φ : fn_threefry2x32.Bufs) :
    Lines (fn_threefry2x32.body_part2 (F := Ideal) arg0 arg1 arg2 arg3 φ) := by
  apply Subtype.mk
  unfold fn_threefry2x32.body_part2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_p3 (arg0 : TRef sig ⟨S_, .i32⟩) (arg1 : TRef sig ⟨S_, .i32⟩) (arg2 : TRef sig ⟨S32768, .i32⟩) (arg3 : TRef sig ⟨S32768, .i32⟩) (φ : fn_threefry2x32.Bufs) :
    Lines (fn_threefry2x32.body_part3 (F := Ideal) arg0 arg1 arg2 arg3 φ) := by
  apply Subtype.mk
  unfold fn_threefry2x32.body_part3
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32 (arg0 : TRef sig ⟨S_, .i32⟩) (arg1 : TRef sig ⟨S_, .i32⟩) (arg2 : TRef sig ⟨S32768, .i32⟩) (arg3 : TRef sig ⟨S32768, .i32⟩) (φ : fn_threefry2x32.Bufs) :
    Lines (fn_threefry2x32.body (F := Ideal) arg0 arg1 arg2 arg3 φ) := by
  apply Subtype.mk
  unfold fn_threefry2x32.body
  exact .append (threefry2x32_p0 arg0 arg1 arg2 arg3 φ).2 (.append (threefry2x32_p1 arg0 arg1 arg2 arg3 φ).2 (.append (threefry2x32_p2 arg0 arg1 arg2 arg3 φ).2 (threefry2x32_p3 arg0 arg1 arg2 arg3 φ).2))

def threefry2x32_1_p0 (arg0 : TRef sig ⟨S32768x1, .i32⟩) (arg1 : TRef sig ⟨S32768x1, .i32⟩) (arg2 : TRef sig ⟨S1x2, .i32⟩) (arg3 : TRef sig ⟨S1x2, .i32⟩) (φ : fn_threefry2x32_1.Bufs) :
    Lines (fn_threefry2x32_1.body_part0 (F := Ideal) arg0 arg1 arg2 arg3 φ) := by
  apply Subtype.mk
  unfold fn_threefry2x32_1.body_part0
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_1_p1 (arg0 : TRef sig ⟨S32768x1, .i32⟩) (arg1 : TRef sig ⟨S32768x1, .i32⟩) (arg2 : TRef sig ⟨S1x2, .i32⟩) (arg3 : TRef sig ⟨S1x2, .i32⟩) (φ : fn_threefry2x32_1.Bufs) :
    Lines (fn_threefry2x32_1.body_part1 (F := Ideal) arg0 arg1 arg2 arg3 φ) := by
  apply Subtype.mk
  unfold fn_threefry2x32_1.body_part1
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_1_p2 (arg0 : TRef sig ⟨S32768x1, .i32⟩) (arg1 : TRef sig ⟨S32768x1, .i32⟩) (arg2 : TRef sig ⟨S1x2, .i32⟩) (arg3 : TRef sig ⟨S1x2, .i32⟩) (φ : fn_threefry2x32_1.Bufs) :
    Lines (fn_threefry2x32_1.body_part2 (F := Ideal) arg0 arg1 arg2 arg3 φ) := by
  apply Subtype.mk
  unfold fn_threefry2x32_1.body_part2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_1_p3 (arg0 : TRef sig ⟨S32768x1, .i32⟩) (arg1 : TRef sig ⟨S32768x1, .i32⟩) (arg2 : TRef sig ⟨S1x2, .i32⟩) (arg3 : TRef sig ⟨S1x2, .i32⟩) (φ : fn_threefry2x32_1.Bufs) :
    Lines (fn_threefry2x32_1.body_part3 (F := Ideal) arg0 arg1 arg2 arg3 φ) := by
  apply Subtype.mk
  unfold fn_threefry2x32_1.body_part3
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_1 (arg0 : TRef sig ⟨S32768x1, .i32⟩) (arg1 : TRef sig ⟨S32768x1, .i32⟩) (arg2 : TRef sig ⟨S1x2, .i32⟩) (arg3 : TRef sig ⟨S1x2, .i32⟩) (φ : fn_threefry2x32_1.Bufs) :
    Lines (fn_threefry2x32_1.body (F := Ideal) arg0 arg1 arg2 arg3 φ) := by
  apply Subtype.mk
  unfold fn_threefry2x32_1.body
  exact .append (threefry2x32_1_p0 arg0 arg1 arg2 arg3 φ).2 (.append (threefry2x32_1_p1 arg0 arg1 arg2 arg3 φ).2 (.append (threefry2x32_1_p2 arg0 arg1 arg2 arg3 φ).2 (threefry2x32_1_p3 arg0 arg1 arg2 arg3 φ).2))

def threefry2x32_2_p0 (arg0 : TRef sig ⟨S32768x1, .i32⟩) (arg1 : TRef sig ⟨S32768x1, .i32⟩) (arg2 : TRef sig ⟨S1x16, .i32⟩) (arg3 : TRef sig ⟨S1x16, .i32⟩) (φ : fn_threefry2x32_2.Bufs) :
    Lines (fn_threefry2x32_2.body_part0 (F := Ideal) arg0 arg1 arg2 arg3 φ) := by
  apply Subtype.mk
  unfold fn_threefry2x32_2.body_part0
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_2_p1 (arg0 : TRef sig ⟨S32768x1, .i32⟩) (arg1 : TRef sig ⟨S32768x1, .i32⟩) (arg2 : TRef sig ⟨S1x16, .i32⟩) (arg3 : TRef sig ⟨S1x16, .i32⟩) (φ : fn_threefry2x32_2.Bufs) :
    Lines (fn_threefry2x32_2.body_part1 (F := Ideal) arg0 arg1 arg2 arg3 φ) := by
  apply Subtype.mk
  unfold fn_threefry2x32_2.body_part1
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_2_p2 (arg0 : TRef sig ⟨S32768x1, .i32⟩) (arg1 : TRef sig ⟨S32768x1, .i32⟩) (arg2 : TRef sig ⟨S1x16, .i32⟩) (arg3 : TRef sig ⟨S1x16, .i32⟩) (φ : fn_threefry2x32_2.Bufs) :
    Lines (fn_threefry2x32_2.body_part2 (F := Ideal) arg0 arg1 arg2 arg3 φ) := by
  apply Subtype.mk
  unfold fn_threefry2x32_2.body_part2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_2_p3 (arg0 : TRef sig ⟨S32768x1, .i32⟩) (arg1 : TRef sig ⟨S32768x1, .i32⟩) (arg2 : TRef sig ⟨S1x16, .i32⟩) (arg3 : TRef sig ⟨S1x16, .i32⟩) (φ : fn_threefry2x32_2.Bufs) :
    Lines (fn_threefry2x32_2.body_part3 (F := Ideal) arg0 arg1 arg2 arg3 φ) := by
  apply Subtype.mk
  unfold fn_threefry2x32_2.body_part3
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry2x32_2 (arg0 : TRef sig ⟨S32768x1, .i32⟩) (arg1 : TRef sig ⟨S32768x1, .i32⟩) (arg2 : TRef sig ⟨S1x16, .i32⟩) (arg3 : TRef sig ⟨S1x16, .i32⟩) (φ : fn_threefry2x32_2.Bufs) :
    Lines (fn_threefry2x32_2.body (F := Ideal) arg0 arg1 arg2 arg3 φ) := by
  apply Subtype.mk
  unfold fn_threefry2x32_2.body
  exact .append (threefry2x32_2_p0 arg0 arg1 arg2 arg3 φ).2 (.append (threefry2x32_2_p1 arg0 arg1 arg2 arg3 φ).2 (.append (threefry2x32_2_p2 arg0 arg1 arg2 arg3 φ).2 (threefry2x32_2_p3 arg0 arg1 arg2 arg3 φ).2))

def threefry_split (arg0 : TRef sig ⟨S2, .i32⟩) (φ : fn_threefry_split.Bufs) :
    Lines (fn_threefry_split.body (F := Ideal) arg0 φ) := by
  apply Subtype.mk
  unfold fn_threefry_split.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))
  apply Line.append (threefry2x32 φ.v1 φ.v3 φ.v10 φ.v9 φ.call0).2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def threefry_split_0 (arg0 : TRef sig ⟨S32768x2, .i32⟩) (φ : fn_threefry_split_0.Bufs) :
    Lines (fn_threefry_split_0.body (F := Ideal) arg0 φ) := by
  apply Subtype.mk
  unfold fn_threefry_split_0.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))
  apply Line.append (threefry2x32_1 φ.v13 φ.v14 φ.v11 φ.v12 φ.call0).2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def shuffle (arg0 : TRef sig ⟨S32768x2, .i32⟩) (arg1 : TRef sig ⟨S16, .i32⟩) (φ : fn_shuffle.Bufs) :
    Lines (fn_shuffle.body (F := Ideal) arg0 arg1 φ) := by
  apply Subtype.mk
  unfold fn_shuffle.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))
  apply Line.append (threefry_split_0 arg0 φ.call0).2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))
  apply Line.append (threefry2x32_2 φ.v18 φ.v19 φ.v16 φ.v17 φ.call1).2
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def argsort (arg0 : TRef sig ⟨S32768x16, .i32⟩) (φ : fn_argsort.Bufs) :
    Lines (fn_argsort.body (F := Ideal) arg0 φ) := by
  apply Subtype.mk
  unfold fn_argsort.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def one_hot (arg0 : TRef sig ⟨S32768x16, .i32⟩) (φ : fn_one_hot.Bufs) :
    Lines (fn_one_hot.body (F := Ideal) arg0 φ) := by
  apply Subtype.mk
  unfold fn_one_hot.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def tril (arg0 : TRef sig ⟨S16x16, .f32⟩) (φ : fn_tril.Bufs) :
    Lines (fn_tril.body (F := Ideal) arg0 φ) := by
  apply Subtype.mk
  unfold fn_tril.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def take_along_axis (arg0 : TRef sig ⟨S1024x32x16, .f32⟩) (arg1 : TRef sig ⟨S1024x32x16, .i32⟩) (φ : fn_take_along_axis.Bufs) :
    Lines (fn_take_along_axis.body (F := Ideal) arg0 arg1 φ) := by
  apply Subtype.mk
  unfold fn_take_along_axis.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def where_ (arg0 : TRef sig ⟨S1024x32x16, .i1⟩) (arg1 : TRef sig ⟨S_, .f32⟩) (arg2 : TRef sig ⟨S1024x32x16, .f32⟩) (φ : fn_where.Bufs) :
    Lines (fn_where.body (F := Ideal) arg0 arg1 arg2 φ) := by
  apply Subtype.mk
  unfold fn_where.body
  repeat (first
    | exact .nil
    | with_reducible exact .last (says_tbinary ..) | with_reducible exact .last (says_tunary ..) | with_reducible exact .last (says_tnullary ..) | with_reducible exact .last (says_tternary ..)
    | with_reducible apply Line.cons (says_tbinary ..) | with_reducible apply Line.cons (says_tunary ..) | with_reducible apply Line.cons (says_tnullary ..)
    | with_reducible apply Line.cons (says_tternary ..) | with_reducible apply Line.cons (says_treshape ..))

def main_p0 (d : Dev nD) : Lines (main_part0 (F := Ideal) d) := by
  apply Subtype.mk
  unfold main_part0
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (threefry_split (.of main_v6) main_call0                      ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (shuffle (.of main_v7) (.of main_v8) main_call1               ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (argsort (.of main_v9) main_call2                             ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (one_hot (.of main_v9) main_call3                             ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (tril (.of main_v14) main_call4                               ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (take_along_axis (.of main_v20) (.of main_v11) main_call5     ).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))
  apply Line.append (where_ (.of main_v27) (.of main_cst_4) (.of main_v25) main_call6).2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))

def main_p1 (d : Dev nD) : Lines (main_part1 (F := Ideal) d) := by
  apply Subtype.mk
  unfold main_part1
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))

def main_p2 (d : Dev nD) : Lines (main_part2 (F := Ideal) d) := by
  apply Subtype.mk
  unfold main_part2
  repeat (first
    | exact .nil
    | with_reducible exact .last (says_binary ..) | with_reducible exact .last (says_unary ..) | with_reducible exact .last (says_nullary ..) | with_reducible exact .last (says_ternary ..)
    | with_reducible apply Line.cons (says_binary ..) | with_reducible apply Line.cons (says_unary ..) | with_reducible apply Line.cons (says_nullary ..)
    | with_reducible apply Line.cons (says_ternary ..) | with_reducible apply Line.cons (says_reshape ..))

def main_line (d : Dev nD) : Lines (main (F := Ideal) d) := by
  apply Subtype.mk
  unfold main
  exact .append (main_p0 d).2 (.append (main_p1 d).2 (main_p2 d).2)

end Cert.Ref

end
-- ==== Proof.RefRun.lean ====
/- The reference's run and its frame. -/
module

public import proofs.«01_k».proof.Proof.RefLine
public import proofs.«01_k».proof.Defs

@[expose] public section

set_option maxRecDepth 16384

noncomputable section

namespace Cert.Ref

open Idealize.ShloMosaic Idealize.ShloMosaic.StableHlo Idealize.SL.Sem Cert.Settle Cert.ReferenceIdeal

/-- Every buffer of the reference is computed from earlier ones, and no argument is written. -/
theorem ordered_main : ∀ d : Dev nD, ordered 16 (main_line d).1 = true := by
  decide +kernel

/-- The list of the reference's operations. -/
def steps : List (Step τ sig (Elt Ideal)) := (main_line 0).1

theorem line_main (d : Dev nD) : Line (main (F := Ideal) d) steps := (main_line d).2

/-- The reference ends with contents in which every one of its operations' equations holds and no argument has changed. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ d : Dev nD, ∃ W : Valuation τ sig (Elt Ideal),
        (∀ b : Ref sig .tc, r.2.mem ((d.tc : Thread nD τ).loc b) = W (Proc.devRef .tc b))
        ∧ (∀ b : Ref sig .tc, lvl b < 16 → W (Proc.devRef .tc b) = m ((d.tc : Thread nD τ).loc b)) ∧ Settled W steps :=
  run line_main (by decide) (by decide) 16 (ordered_main 0) m ρ

theorem frame : Cert.quiescent_ReferenceIdeal (hReferenceIdeal := Gen.facts) := by
  intro m ρ _
  refine (θ_run defs _ _).mono (fun r h => ⟨fun c => ?_, sem_eq_zero_of_no_sems (by decide) r.2⟩) (run_main m ρ)
  obtain ⟨W, h1, h2, -⟩ := h c
  have k : ∀ b : Ref sig .tc, lvl b < 16 → r.2.mem ((c.tc : Thread nD τ).loc b) = m ((c.tc : Thread nD τ).loc b) :=
    fun b hb => (h1 b).trans (h2 b hb)
  refine ⟨k _ ?_, k _ ?_, k _ ?_, k _ ?_, k _ ?_, k _ ?_, k _ ?_, k _ ?_, k _ ?_, k _ ?_, k _ ?_, k _ ?_, k _ ?_, k _ ?_,
    k _ ?_, k _ ?_⟩ <;> decide

end Cert.Ref

end
-- ==== Proof.Twin.lean ====
/- Both programs draw the same permutations: their operations up to the second sort agree one by one. -/
module

public import proofs.«01_k».proof.Proof.KerLine
public import proofs.«01_k».proof.Proof.RefRun

@[expose] public section

set_option maxRecDepth 16384

noncomputable section

namespace Cert.Twin

open Idealize.ShloMosaic Idealize.ShloMosaic.StableHlo Idealize.SL.Sem Cert.Settle

variable {W : Valuation Cert.KernelIdeal.τ Cert.KernelIdeal.sig (Elt Ideal)} {W' : Valuation Cert.ReferenceIdeal.τ Cert.ReferenceIdeal.sig (Elt Ideal)}

section Special

variable {C : Prop} {ds : List (Step Cert.KernelIdeal.τ Cert.KernelIdeal.sig (Elt Ideal))}
  {es : List (Step Cert.ReferenceIdeal.τ Cert.ReferenceIdeal.sig (Elt Ideal))}
  {rs : List (Ref Cert.KernelIdeal.sig .tc)} {rs' : List (Ref Cert.ReferenceIdeal.sig .tc)}
  {o : Ref Cert.KernelIdeal.sig .tc} {o' : Ref Cert.ReferenceIdeal.sig .tc} {s t u : Shape} {E : EltTy}

/-- The same slice of both. -/
theorem slice {off : Fin s.rank → Nat} {hs : s.Slices off t}
    {x : TRef Cert.KernelIdeal.sig ⟨s, E⟩} {x' : TRef Cert.ReferenceIdeal.sig ⟨s, E⟩}
    {y : TRef Cert.KernelIdeal.sig ⟨t, E⟩} {y' : TRef Cert.ReferenceIdeal.sig ⟨t, E⟩}
    (hx : get x W = get x' W') (k : get y W = get y' W' → Settled W ds → Settled W' es → C)
    (h : Settled W (⟨rs, o, fun W => get y W = extractStridedSlice t off (get x W) hs⟩ :: ds))
    (h' : Settled W' (⟨rs', o', fun W' => get y' W' = extractStridedSlice t off (get x' W') hs⟩ :: es)) : C :=
  twin1 (f := fun v => extractStridedSlice t off v hs) hx k h h'

/-- The same reshape of both. -/
theorem cast {hs : s.ShapeCasts t}
    {x : TRef Cert.KernelIdeal.sig ⟨s, E⟩} {x' : TRef Cert.ReferenceIdeal.sig ⟨s, E⟩}
    {y : TRef Cert.KernelIdeal.sig ⟨t, E⟩} {y' : TRef Cert.ReferenceIdeal.sig ⟨t, E⟩}
    (hx : get x W = get x' W') (k : get y W = get y' W' → Settled W ds → Settled W' es → C)
    (h : Settled W (⟨rs, o, fun W => get y W = shapeCast t (get x W) hs⟩ :: ds))
    (h' : Settled W' (⟨rs', o', fun W' => get y' W' = shapeCast t (get x' W') hs⟩ :: es)) : C :=
  twin1 (f := fun v => shapeCast t v hs) hx k h h'

/-- The same truncation of both. -/
theorem trunc {hs : 32 < 64}
    {x : TRef Cert.KernelIdeal.sig ⟨s, .i64⟩} {x' : TRef Cert.ReferenceIdeal.sig ⟨s, .i64⟩}
    {y : TRef Cert.KernelIdeal.sig ⟨s, .i32⟩} {y' : TRef Cert.ReferenceIdeal.sig ⟨s, .i32⟩}
    (hx : get x W = get x' W') (k : get y W = get y' W' → Settled W ds → Settled W' es → C)
    (h : Settled W (⟨rs, o, fun W => get y W = trunci 32 (get x W) hs⟩ :: ds))
    (h' : Settled W' (⟨rs', o', fun W' => get y' W' = trunci 32 (get x' W') hs⟩ :: es)) : C :=
  twin1 (Ty := ⟨s, .i32⟩) (f := fun v => trunci 32 v hs) hx k h h'

/-- The same two pieces side by side. -/
theorem pair {i : Fin t.rank} {hs : Shape.Concatenates [s, u] t i}
    {a : TRef Cert.KernelIdeal.sig ⟨s, E⟩} {a' : TRef Cert.ReferenceIdeal.sig ⟨s, E⟩}
    {b : TRef Cert.KernelIdeal.sig ⟨u, E⟩} {b' : TRef Cert.ReferenceIdeal.sig ⟨u, E⟩}
    {y : TRef Cert.KernelIdeal.sig ⟨t, E⟩} {y' : TRef Cert.ReferenceIdeal.sig ⟨t, E⟩}
    (ha : get a W = get a' W') (hb : get b W = get b' W') (k : get y W = get y' W' → Settled W ds → Settled W' es → C)
    (h : Settled W (⟨rs, o, fun W => get y W = concatenate t i [⟨s, get a W⟩, ⟨u, get b W⟩] hs⟩ :: ds))
    (h' : Settled W' (⟨rs', o', fun W' => get y' W' = concatenate t i [⟨s, get a' W'⟩, ⟨u, get b' W'⟩] hs⟩ :: es)) : C :=
  twin2 (f := fun v w => concatenate t i [⟨s, v⟩, ⟨u, w⟩] hs) ha hb k h h'

/-- The first result of the same sort. -/
theorem sort_fst {d : Nat} {cmp : BitVec 32 × BitVec 32 → BitVec 32 × BitVec 32 → BitVec 1}
    {a : TRef Cert.KernelIdeal.sig ⟨s, .i32⟩} {a' : TRef Cert.ReferenceIdeal.sig ⟨s, .i32⟩}
    {b : TRef Cert.KernelIdeal.sig ⟨s, .i32⟩} {b' : TRef Cert.ReferenceIdeal.sig ⟨s, .i32⟩}
    {y : TRef Cert.KernelIdeal.sig ⟨s, .i32⟩} {y' : TRef Cert.ReferenceIdeal.sig ⟨s, .i32⟩}
    (ha : get a W = get a' W') (hb : get b W = get b' W') (k : get y W = get y' W' → Settled W ds → Settled W' es → C)
    (h : Settled W (⟨rs, o, fun W => get y W = (Host.sort2 s d cmp (get a W) (get b W)).1⟩ :: ds))
    (h' : Settled W' (⟨rs', o', fun W' => get y' W' = (Host.sort2 s d cmp (get a' W') (get b' W')).1⟩ :: es)) : C :=
  twin2 (Ty := ⟨s, .i32⟩) (f := fun v w => (Host.sort2 s d cmp v w).1) ha hb k h h'

/-- Its second. -/
theorem sort_snd {d : Nat} {cmp : BitVec 32 × BitVec 32 → BitVec 32 × BitVec 32 → BitVec 1}
    {a : TRef Cert.KernelIdeal.sig ⟨s, .i32⟩} {a' : TRef Cert.ReferenceIdeal.sig ⟨s, .i32⟩}
    {b : TRef Cert.KernelIdeal.sig ⟨s, .i32⟩} {b' : TRef Cert.ReferenceIdeal.sig ⟨s, .i32⟩}
    {y : TRef Cert.KernelIdeal.sig ⟨s, .i32⟩} {y' : TRef Cert.ReferenceIdeal.sig ⟨s, .i32⟩}
    (ha : get a W = get a' W') (hb : get b W = get b' W') (k : get y W = get y' W' → Settled W ds → Settled W' es → C)
    (h : Settled W (⟨rs, o, fun W => get y W = (Host.sort2 s d cmp (get a W) (get b W)).2⟩ :: ds))
    (h' : Settled W' (⟨rs', o', fun W' => get y' W' = (Host.sort2 s d cmp (get a' W') (get b' W')).2⟩ :: es)) : C :=
  twin2 (Ty := ⟨s, .i32⟩) (f := fun v w => (Host.sort2 s d cmp v w).2) ha hb k h h'

end Special

set_option maxHeartbeats 2000000 in
/-- The keys of all the rows agree. -/
theorem split {a : TRef Cert.ReferenceIdeal.sig ⟨Cert.ReferenceIdeal.S2, .i32⟩} {φ : Cert.ReferenceIdeal.fn_threefry_split.Bufs}
    (h0 : get (.of Cert.KernelIdeal.main_v8 : TRef Cert.KernelIdeal.sig ⟨Cert.KernelIdeal.S2, .i32⟩) W = get a W') :
    Settled W Cert.Ker.recs1.1 → Settled W' (Cert.Ref.threefry_split a φ).1 →
      get (.of Cert.KernelIdeal.main_v9 : TRef Cert.KernelIdeal.sig ⟨Cert.KernelIdeal.S32768x2, .i32⟩) W = get φ.v14 W' := by
  repeat (first
    | refine twin2 (by with_reducible assumption) (by with_reducible assumption) (fun _ => ?_)
    | refine twin1 (by with_reducible assumption) (fun _ => ?_)
    | refine twin0 (fun _ => ?_)
    | refine slice (by with_reducible assumption) (fun _ => ?_)
    | refine cast (by with_reducible assumption) (fun _ => ?_)
    | refine trunc (by with_reducible assumption) (fun _ => ?_)
    | refine pair (by with_reducible assumption) (by with_reducible assumption) (fun _ => ?_)
    | refine sort_fst (by with_reducible assumption) (by with_reducible assumption) (fun _ => ?_)
    | refine sort_snd (by with_reducible assumption) (by with_reducible assumption) (fun _ => ?_))
  exact fun _ _ => by with_reducible assumption

set_option maxHeartbeats 2000000 in
/-- The shuffled positions agree. -/
theorem shuffle {a : TRef Cert.ReferenceIdeal.sig ⟨Cert.ReferenceIdeal.S32768x2, .i32⟩}
    {b : TRef Cert.ReferenceIdeal.sig ⟨Cert.ReferenceIdeal.S16, .i32⟩} {φ : Cert.ReferenceIdeal.fn_shuffle.Bufs}
    (h0 : get (.of Cert.KernelIdeal.main_v9 : TRef Cert.KernelIdeal.sig ⟨Cert.KernelIdeal.S32768x2, .i32⟩) W = get a W')
    (h1 : get (.of Cert.KernelIdeal.main_v10 : TRef Cert.KernelIdeal.sig ⟨Cert.KernelIdeal.S16, .i32⟩) W = get b W') :
    Settled W Cert.Ker.recs3.1 → Settled W' (Cert.Ref.shuffle a b φ).1 →
      get (.of Cert.KernelIdeal.main_v11 : TRef Cert.KernelIdeal.sig ⟨Cert.KernelIdeal.S32768x16, .i32⟩) W = get φ.v23_1 W' := by
  repeat (first
    | refine twin2 (by with_reducible assumption) (by with_reducible assumption) (fun _ => ?_)
    | refine twin1 (by with_reducible assumption) (fun _ => ?_)
    | refine twin0 (fun _ => ?_)
    | refine slice (by with_reducible assumption) (fun _ => ?_)
    | refine cast (by with_reducible assumption) (fun _ => ?_)
    | refine trunc (by with_reducible assumption) (fun _ => ?_)
    | refine pair (by with_reducible assumption) (by with_reducible assumption) (fun _ => ?_)
    | refine sort_fst (by with_reducible assumption) (by with_reducible assumption) (fun _ => ?_)
    | refine sort_snd (by with_reducible assumption) (by with_reducible assumption) (fun _ => ?_))
  exact fun _ _ => by with_reducible assumption

/-- Their inverses agree. -/
theorem argsort {a : TRef Cert.ReferenceIdeal.sig ⟨Cert.ReferenceIdeal.S32768x16, .i32⟩} {φ : Cert.ReferenceIdeal.fn_argsort.Bufs}
    (h0 : get (.of Cert.KernelIdeal.main_v11 : TRef Cert.KernelIdeal.sig ⟨Cert.KernelIdeal.S32768x16, .i32⟩) W = get a W') :
    Settled W Cert.Ker.recs4.1 → Settled W' (Cert.Ref.argsort a φ).1 →
      get (.of Cert.KernelIdeal.main_v12 : TRef Cert.KernelIdeal.sig ⟨Cert.KernelIdeal.S32768x16, .i32⟩) W = get φ.v1_1 W' := by
  repeat (first
    | refine twin2 (by with_reducible assumption) (by with_reducible assumption) (fun _ => ?_)
    | refine twin1 (by with_reducible assumption) (fun _ => ?_)
    | refine twin0 (fun _ => ?_)
    | refine slice (by with_reducible assumption) (fun _ => ?_)
    | refine cast (by with_reducible assumption) (fun _ => ?_)
    | refine trunc (by with_reducible assumption) (fun _ => ?_)
    | refine pair (by with_reducible assumption) (by with_reducible assumption) (fun _ => ?_)
    | refine sort_fst (by with_reducible assumption) (by with_reducible assumption) (fun _ => ?_)
    | refine sort_snd (by with_reducible assumption) (by with_reducible assumption) (fun _ => ?_))
  exact fun _ _ => by with_reducible assumption

end Cert.Twin

end
-- ==== Proof.Spec.lean ====
/- The value both programs compute at one row and one column, written once over plain functions. -/
module

public import Idealize.ShloMosaic.PureOps.Ideal

@[expose] public section

noncomputable section

namespace Cert.Spec

open Idealize.ShloMosaic

/-- The activation: `x · (½ · (1 + tanh (c · (x + c' · x³))))`. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- The absolute value. -/
def abs (x : EReal) : EReal := FloatOps.absf (F := Ideal) (φ := .f32) x

/-- A dense layer: the products of the inputs with a column, and its offset. -/
def dense {k n : Nat} (x : Fin k → EReal) (w : Fin k → Fin n → EReal) (b : Fin n → EReal) (j : Fin n) : EReal :=
  (∑ i, x i * w i j) + b j

/-- Two dense layers with the activation between. -/
def mlp {k n l : Nat} (x : Fin k → EReal) (w : Fin k → Fin n → EReal) (b : Fin n → EReal)
    (w' : Fin n → Fin l → EReal) (b' : Fin l → EReal) (j : Fin l) : EReal :=
  dense (fun i => gelu (dense x w b i)) w' b' j

/-- The mixed value of one agent: its coalition value and its own, weighted by the first head, offset by the second,
    activated, weighted by the third and summed. -/
def mix (w1 : Fin 128 → EReal) (b1 wf : Fin 64 → EReal) (p q : EReal) : EReal :=
  ∑ e : Fin 64, gelu (p * w1 ⟨e, by omega⟩ + q * w1 ⟨64 + e, by omega⟩ + b1 e) * wf e

/-- One number of the result: of a state's four heads, the agent's coalition value and its own value. -/
def result (x : Fin 512 → EReal) (w1 : Fin 512 → Fin 512 → EReal) (b1 : Fin 512 → EReal) (w1' : Fin 512 → Fin 128 → EReal)
    (b1' : Fin 128 → EReal) (w2 : Fin 512 → Fin 64 → EReal) (b2 : Fin 64 → EReal)
    (w3 : Fin 512 → Fin 512 → EReal) (b3 : Fin 512 → EReal) (w3' : Fin 512 → Fin 64 → EReal) (b3' : Fin 64 → EReal)
    (w4 : Fin 512 → Fin 64 → EReal) (b4 : Fin 64 → EReal) (w4' : Fin 64 → Fin 1 → EReal) (b4' : Fin 1 → EReal) (p q : EReal) : EReal :=
  abs (mix (mlp x w1 b1 w1' b1') (dense x w2 b2) (mlp x w3 b3 w3' b3') p q + mlp x w4 b4 w4' b4' 0)

end Cert.Spec

end
-- ==== Proof.Tower.lean ====
/- The reference's vector expressions, read at an index. -/
module

public import proofs.«01_k».proof.Proof.Spec
public import proofs.«01_k».proof.Proof.Gen.ReferenceIdeal
public import Idealize.ShloMosaic.Lib.Pointwise
public import Idealize.ShloMosaic.Lib.IdealHost

@[expose] public section

set_option maxRecDepth 16384

noncomputable section

namespace Cert.Tower

open Idealize.ShloMosaic Cert.ReferenceIdeal Cert.ReferenceIdeal.Facts₀ Cert.ReferenceIdeal.Facts

/-- A bit pattern's number. -/
abbrev num (b : BitVec 32) : EReal := Ideal.ofBits .f32 b

/-- The activation as the reference spells it. -/
def act {s : Shape} (h : Shape.BroadcastsInDim S_ s ![]) (x : FVec Ideal s .f32) : FVec Ideal s .f32 :=
  mulf x (mulf (broadcastInDim s ![] h (constant (F := Ideal) S_ .f32 0x3F000000#32))
    (addf (broadcastInDim s ![] h (constant (F := Ideal) S_ .f32 0x3F800000#32))
      (Host.tanh (mulf (broadcastInDim s ![] h (constant (F := Ideal) S_ .f32 0x3F4C422A#32))
        (addf x (mulf (broadcastInDim s ![] h (constant (F := Ideal) S_ .f32 0x3D372713#32)) (mulf (mulf x x) x)))))))

theorem act_apply {s : Shape} (h : Shape.BroadcastsInDim S_ s ![]) (x : FVec Ideal s .f32) (i : s.Idx) :
    act h x i = Spec.gelu (x i) := by
  have e : act h x i = x i * (num 0x3F000000#32 * (num 0x3F800000#32 + Ideal.tanh (num 0x3F4C422A#32 * (x i + num 0x3D372713#32 * ((x i * x i) * x i))))) := rfl
  rw [e, mul_comm (x i * x i) (x i)]
  unfold Spec.gelu num
  rw [Ideal.ofBits_one_f32]

theorem dense512 (x : FVec Ideal S16384x512 .f32) (w : FVec Ideal S512x512 .f32) (b : FVec Ideal S512 .f32) (r : Fin 16384) (j : Fin 512) :
    addf (F := Ideal) (Host.dotGeneral dot_S16384x512_S512x512_S16384x512_1_0_0_1_n_n none x w)
      (broadcastInDim S16384x512 ![0, 1] bcast_S1x512_S16384x512_0_1 (broadcastInDim S1x512 ![1] bcast_S512_S1x512_1 b)) (ix2 r j)
      = Spec.dense (fun i => x (ix2 r i)) (fun i j => w (ix2 i j)) (fun j => b (ix1 j)) j := by
  unfold Spec.dense
  pointwise

theorem dense128 (x : FVec Ideal S16384x512 .f32) (w : FVec Ideal S512x128 .f32) (b : FVec Ideal S128 .f32) (r : Fin 16384) (j : Fin 128) :
    addf (F := Ideal) (Host.dotGeneral dot_S16384x512_S512x128_S16384x128_1_0_0_1_n_n none x w)
      (broadcastInDim S16384x128 ![0, 1] bcast_S1x128_S16384x128_0_1 (broadcastInDim S1x128 ![1] bcast_S128_S1x128_1 b)) (ix2 r j)
      = Spec.dense (fun i => x (ix2 r i)) (fun i j => w (ix2 i j)) (fun j => b (ix1 j)) j := by
  unfold Spec.dense
  pointwise

theorem dense64 (x : FVec Ideal S16384x512 .f32) (w : FVec Ideal S512x64 .f32) (b : FVec Ideal S64 .f32) (r : Fin 16384) (j : Fin 64) :
    addf (F := Ideal) (Host.dotGeneral dot_S16384x512_S512x64_S16384x64_1_0_0_1_n_n none x w)
      (broadcastInDim S16384x64 ![0, 1] bcast_S1x64_S16384x64_0_1 (broadcastInDim S1x64 ![1] bcast_S64_S1x64_1 b)) (ix2 r j)
      = Spec.dense (fun i => x (ix2 r i)) (fun i j => w (ix2 i j)) (fun j => b (ix1 j)) j := by
  unfold Spec.dense
  pointwise

theorem dense1 (x : FVec Ideal S16384x64 .f32) (w : FVec Ideal S64x1 .f32) (b : FVec Ideal S1 .f32) (r : Fin 16384) (j : Fin 1) :
    addf (F := Ideal) (Host.dotGeneral dot_S16384x64_S64x1_S16384x1_1_0_0_1_n_n none x w)
      (broadcastInDim S16384x1 ![0, 1] bcast_S1x1_S16384x1_0_1 (broadcastInDim S1x1 ![1] bcast_S1_S1x1_1 b)) (ix2 r j)
      = Spec.dense (fun i => x (ix2 r i)) (fun i j => w (ix2 i j)) (fun j => b (ix1 j)) j := by
  rcases Subsingleton.elim j 0
  unfold Spec.dense
  pointwise

/-- The mixing layer's two products. -/
theorem mix_in (p : FVec Ideal S16384x2 .f32) (w : FVec Ideal S16384x128 .f32) (b : FVec Ideal S16384x64 .f32) (r : Fin 16384) (e : Fin 64) :
    addf (F := Ideal) (Host.dotGeneral dot_S16384x1x2_S16384x2x64_S16384x1x64_2_1_1_2_0_0 none
        (broadcastInDim S16384x1x2 ![0, 2] bcast_S16384x2_S16384x1x2_0_2 p) (shapeCast S16384x2x64 w shapeCasts_S16384x128_S16384x2x64))
      (shapeCast S16384x1x64 b shapeCasts_S16384x64_S16384x1x64) (ix3 r 0 e)
      = p (ix2 r 0) * w (ix2 r ⟨e.val, by omega⟩) + p (ix2 r 1) * w (ix2 r ⟨64 + e.val, by omega⟩) + b (ix2 r e) := by
  pointwise
  rw [Fin.sum_univ_two]
  have e0 : (⟨(0 : Fin 2).val * 64 + e.val, by omega⟩ : Fin 128) = ⟨e.val, by omega⟩ := Fin.ext (by simp)
  have e1 : (⟨(1 : Fin 2).val * 64 + e.val, by omega⟩ : Fin 128) = ⟨64 + e.val, by omega⟩ := Fin.ext (by simp)
  rw [e0, e1]

theorem mix_out (a : FVec Ideal S16384x1x64 .f32) (w : FVec Ideal S16384x64 .f32) (b : FVec Ideal S16384x1 .f32) (r : Fin 16384) :
    addf (F := Ideal) (Host.dotGeneral dot_S16384x1x64_S16384x64x1_S16384x1x1_2_1_1_2_0_0 none a (shapeCast S16384x64x1 w shapeCasts_S16384x64_S16384x64x1))
      (shapeCast S16384x1x1 b shapeCasts_S16384x1_S16384x1x1) (ix3 r 0 0)
      = (∑ e : Fin 64, a (ix3 r 0 e) * w (ix2 r e)) + b (ix2 r 0) := by
  pointwise

/-- The states, repeated. -/
theorem states (x : FVec Ideal S1024x512 .f32) (b : Fin 1024) (n : Fin 16) (i : Fin 512) :
    shapeCast S16384x512 (broadcastInDim S1024x16x512 ![0, 1, 2] bcast_S1024x1x512_S1024x16x512_0_1_2
      (broadcastInDim S1024x1x512 ![0, 2] bcast_S1024x512_S1024x1x512_0_2 x)) shapeCasts_S1024x16x512_S16384x512
        (ix2 (⟨b.val * 16 + n.val, by omega⟩ : Fin 16384) i) = x (ix2 b i) := by
  pointwise

/-- The two values side by side. -/
theorem pairs (p : FVec Ideal S1024x16 .f32) (q : FVec Ideal S1024x16x1 .f32) (b : Fin 1024) (n : Fin 16) :
    concatenate S16384x2 1 [⟨S16384x1, shapeCast S16384x1 p shapeCasts_S1024x16_S16384x1⟩,
        ⟨S16384x1, shapeCast S16384x1 q shapeCasts_S1024x16x1_S16384x1⟩] concatenates_S16384x1_S16384x1_S16384x2_d1
        (ix2 (⟨b.val * 16 + n.val, by omega⟩ : Fin 16384) 0) = p (ix2 b n)
    ∧ concatenate S16384x2 1 [⟨S16384x1, shapeCast S16384x1 p shapeCasts_S1024x16_S16384x1⟩,
        ⟨S16384x1, shapeCast S16384x1 q shapeCasts_S1024x16x1_S16384x1⟩] concatenates_S16384x1_S16384x1_S16384x2_d1
        (ix2 (⟨b.val * 16 + n.val, by omega⟩ : Fin 16384) 1) = q (ix3 b n 0) := by
  constructor <;> pointwise

/-- The results, back in rows. -/
theorem unstack (x : FVec Ideal S16384x1x1 .f32) (b : Fin 1024) (n : Fin 16) :
    shapeCast S1024x16 x shapeCasts_S16384x1x1_S1024x16 (ix2 b n) = x (ix3 (⟨b.val * 16 + n.val, by omega⟩ : Fin 16384) 0 0) := by
  pointwise

theorem dense_congr {k n : Nat} {x y : Fin k → EReal} (h : ∀ i, x i = y i) {w : Fin k → Fin n → EReal} {b : Fin n → EReal} {j : Fin n} :
    Spec.dense x w b j = Spec.dense y w b j := by
  rw [funext h]

end Cert.Tower

end
-- ==== Proof.RefValue.lean ====
/- The reference's value, read at an index from its operations' equations. -/
module

public import proofs.«01_k».proof.Proof.RefRun
public import proofs.«01_k».proof.Proof.Tower

@[expose] public section

set_option maxRecDepth 16384

noncomputable section

namespace Cert.RefValue

open Idealize.ShloMosaic Idealize.ShloMosaic.StableHlo Idealize.SL.Sem Cert.Settle Cert.ReferenceIdeal Cert.ReferenceIdeal.Facts₀ Cert.ReferenceIdeal.Facts

/-- All the equations of a list of records. -/
def All (W : Valuation τ sig (Elt Ideal)) : List (Step τ sig (Elt Ideal)) → Prop
  | [] => True
  | d :: ds => d.eqn W ∧ All W ds

theorem all {W : Valuation τ sig (Elt Ideal)} : ∀ {ds : List (Step τ sig (Elt Ideal))}, Settled W ds → All W ds
  | [], _ => trivial
  | _ :: _, h => ⟨((settled_cons ..).mp h).1, all ((settled_cons ..).mp h).2⟩

variable {W : Valuation τ sig (Elt Ideal)}

theorem left {ds es : List (Step τ sig (Elt Ideal))} (h : Settled W (ds ++ es)) : Settled W ds := h.left

theorem rest {d : Step τ sig (Elt Ideal)} {ds : List (Step τ sig (Elt Ideal))} (h : All W (d :: ds)) : All W ds := h.2

theorem right : ∀ {ds es : List (Step τ sig (Elt Ideal))}, All W (ds ++ es) → All W es
  | [], _, h => h
  | _ :: ds, _, h => right (ds := ds) h.2

theorem before : ∀ {ds es : List (Step τ sig (Elt Ideal))}, All W (ds ++ es) → All W ds
  | [], _, _ => trivial
  | _ :: ds, _, h => ⟨h.1, before (ds := ds) h.2⟩

/-- A row's states. -/
abbrev state (W : Valuation τ sig (Elt Ideal)) (b : Fin 1024) (i : Fin 512) : EReal := at' W main_arg0 (ix2 b i)

/-- One number of the reference's result, of the agent's coalition value `p`. -/
def result (W : Valuation τ sig (Elt Ideal)) (p : EReal) (b : Fin 1024) (n : Fin 16) : EReal :=
  Spec.result (state W b) (fun i j => at' W main_arg2 (ix2 i j)) (fun j => at' W main_arg3 (ix1 j))
    (fun i j => at' W main_arg4 (ix2 i j)) (fun j => at' W main_arg5 (ix1 j))
    (fun i j => at' W main_arg6 (ix2 i j)) (fun j => at' W main_arg7 (ix1 j))
    (fun i j => at' W main_arg8 (ix2 i j)) (fun j => at' W main_arg9 (ix1 j))
    (fun i j => at' W main_arg10 (ix2 i j)) (fun j => at' W main_arg11 (ix1 j))
    (fun i j => at' W main_arg12 (ix2 i j)) (fun j => at' W main_arg13 (ix1 j))
    (fun i j => at' W main_arg14 (ix2 i j)) (fun j => at' W main_arg15 (ix1 j)) p (at' W main_arg1 (ix3 b n 0))

theorem value (h0 : Settled W (Ref.main_p0 0).1) (h1 : Settled W (Ref.main_p1 0).1) (h2 : Settled W (Ref.main_p2 0).1)
    (b : Fin 1024) (n : Fin 16) : at' W main_v130 (ix2 b n) = result W (at' W main_v33 (ix2 b n)) b n := by
  obtain ⟨-, -, -, -, -, -, -, -, -, -, k0⟩ := all h0
  obtain ⟨-, k0⟩ := right k0
  obtain ⟨-, k0⟩ := right (right k0)
  obtain ⟨-, -, -, k0⟩ := right k0
  obtain ⟨-, -, -, -, -, k0⟩ := right k0
  obtain ⟨-, -, -, -, -, -, -, -, -, k0⟩ := right k0
  obtain ⟨-, -, -, -, -, -, -, -, e34, e35, e36, e37, e38, e39, e40, e41, e42, e43, e44, e45, e46, c8, e47, e48, -⟩ := right k0
  obtain ⟨e49, c9, e50, e51, e52, c10, e53, e54, c11, e55, e56, e57, e58, e59, e60, e61, e62, e63, e64, e65, e66, e67, e68, e69,
    e70, e71, c12, e72, e73, e74, c13, e75, e76, e77, c14, e78, e79, c15, e80, e81, e82, e83, e84, e85, e86, e87, e88, c16, e89,
    e90, e91, c17, e92, e93, e94, c18, e95, e96, c19, e97, -⟩ := all h1
  obtain ⟨e98, e99, e100, e101, e102, e103, e104, e105, e106, e107, e108, e109, e110, c20, e111, e112, e113, c21, e114, e115, e116,
    c22, e117, e118, c23, e119, e120, e121, e122, e123, e124, e125, e126, e127, e128, e129, e130, -⟩ := all h2
  have t57 : at' W main_v57 = Tower.act bcast_S_S16384x512 (at' W main_v44) := by
    rw [e57, e56, e55, c11, e54, e53, c10, e52, e51, e50, c9, e49, e48, e47, c8, e46, e45]; rfl
  have t82 : at' W main_v82 = Tower.act bcast_S_S16384x1x64 (at' W main_v69) := by
    rw [e82, e81, e80, c15, e79, e78, c14, e77, e76, e75, c13, e74, e73, e72, c12, e71, e70]; rfl
  have t99 : at' W main_v99 = Tower.act bcast_S_S16384x512 (at' W main_v86) := by
    rw [e99, e98, e97, c19, e96, e95, c18, e94, e93, e92, c17, e91, e90, e89, c16, e88, e87]; rfl
  have t121 : at' W main_v121 = Tower.act bcast_S_S16384x64 (at' W main_v108) := by
    rw [e121, e120, e119, c23, e118, e117, c22, e116, e115, e114, c21, e113, e112, e111, c20, e110, e109]; rfl
  have q34 : at' W main_v34 = shapeCast S16384x1 (at' W main_v33) shapeCasts_S1024x16_S16384x1 := e34
  have q35 : at' W main_v35 = shapeCast S16384x1 (at' W main_arg1) shapeCasts_S1024x16x1_S16384x1 := e35
  have q38 : at' W main_v38 = shapeCast S16384x512 (at' W main_v37) shapeCasts_S1024x16x512_S16384x512 := e38
  have q62 : at' W main_v62 = shapeCast S16384x2x64 (at' W main_v61) shapeCasts_S16384x128_S16384x2x64 := e62
  have q67 : at' W main_v67 = shapeCast S16384x1x64 (at' W main_v66) shapeCasts_S16384x64_S16384x1x64 := e67
  have q104 : at' W main_v104 = shapeCast S16384x64x1 (at' W main_v103) shapeCasts_S16384x64_S16384x64x1 := e104
  have q126 : at' W main_v126 = shapeCast S16384x1x1 (at' W main_v125) shapeCasts_S16384x1_S16384x1x1 := e126
  have q130 : at' W main_v130 = shapeCast S1024x16 (at' W main_v129) shapeCasts_S16384x1x1_S1024x16 := e130
  clear e34 e35 e38 e62 e67 e104 e126 e130
  obtain ⟨r, hr⟩ : ∃ r : Fin 16384, r = ⟨b.val * 16 + n.val, by omega⟩ := ⟨_, rfl⟩
  have s38 : ∀ i, at' W main_v38 (ix2 r i) = state W b i := fun i => by
    rw [hr, q38, e37, e36]; exact Tower.states _ b n i
  obtain ⟨P, hP⟩ : ∃ P : EReal, P = at' W main_v33 (ix2 b n) := ⟨_, rfl⟩
  obtain ⟨Q, hQ⟩ : ∃ Q : EReal, Q = at' W main_arg1 (ix3 b n 0) := ⟨_, rfl⟩
  have s39 : at' W main_v39 (ix2 r 0) = P ∧ at' W main_v39 (ix2 r 1) = Q := by
    rw [hP, hQ, hr, e39, q34, q35]; exact Tower.pairs _ _ b n
  have s44 : ∀ j, at' W main_v44 (ix2 r j) = Spec.dense (state W b) (fun i j => at' W main_arg2 (ix2 i j)) (fun j => at' W main_arg3 (ix1 j)) j := fun j => by
    rw [e44, e43, e42, e41]; exact (Tower.dense512 _ _ _ r j).trans (Tower.dense_congr s38)
  have s61 : ∀ j, at' W main_v61 (ix2 r j) = Spec.mlp (state W b) (fun i j => at' W main_arg2 (ix2 i j)) (fun j => at' W main_arg3 (ix1 j))
        (fun i j => at' W main_arg4 (ix2 i j)) (fun j => at' W main_arg5 (ix1 j)) j := fun j => by
    rw [e61, e60, e59, e58, t57]
    exact (Tower.dense128 _ _ _ r j).trans (Tower.dense_congr fun i => (Tower.act_apply _ _ _).trans (congrArg Spec.gelu (s44 i)))
  have s66 : ∀ j, at' W main_v66 (ix2 r j) = Spec.dense (state W b) (fun i j => at' W main_arg6 (ix2 i j)) (fun j => at' W main_arg7 (ix1 j)) j := fun j => by
    rw [e66, e65, e64, e63]; exact (Tower.dense64 _ _ _ r j).trans (Tower.dense_congr s38)
  have s86 : ∀ j, at' W main_v86 (ix2 r j) = Spec.dense (state W b) (fun i j => at' W main_arg8 (ix2 i j)) (fun j => at' W main_arg9 (ix1 j)) j := fun j => by
    rw [e86, e85, e84, e83]; exact (Tower.dense512 _ _ _ r j).trans (Tower.dense_congr s38)
  have s103 : ∀ j, at' W main_v103 (ix2 r j) = Spec.mlp (state W b) (fun i j => at' W main_arg8 (ix2 i j)) (fun j => at' W main_arg9 (ix1 j))
        (fun i j => at' W main_arg10 (ix2 i j)) (fun j => at' W main_arg11 (ix1 j)) j := fun j => by
    rw [e103, e102, e101, e100, t99]
    exact (Tower.dense64 _ _ _ r j).trans (Tower.dense_congr fun i => (Tower.act_apply _ _ _).trans (congrArg Spec.gelu (s86 i)))
  have s108 : ∀ j, at' W main_v108 (ix2 r j) = Spec.dense (state W b) (fun i j => at' W main_arg12 (ix2 i j)) (fun j => at' W main_arg13 (ix1 j)) j := fun j => by
    rw [e108, e107, e106, e105]; exact (Tower.dense64 _ _ _ r j).trans (Tower.dense_congr s38)
  have s125 : at' W main_v125 (ix2 r 0) = Spec.mlp (state W b) (fun i j => at' W main_arg12 (ix2 i j)) (fun j => at' W main_arg13 (ix1 j))
        (fun i j => at' W main_arg14 (ix2 i j)) (fun j => at' W main_arg15 (ix1 j)) 0 := by
    rw [e125, e124, e123, e122, t121]
    exact (Tower.dense1 _ _ _ r 0).trans (Tower.dense_congr fun i => (Tower.act_apply _ _ _).trans (congrArg Spec.gelu (s108 i)))
  have s69 : ∀ e, at' W main_v69 (ix3 r 0 e) = P * Spec.mlp (state W b) (fun i j => at' W main_arg2 (ix2 i j)) (fun j => at' W main_arg3 (ix1 j))
        (fun i j => at' W main_arg4 (ix2 i j)) (fun j => at' W main_arg5 (ix1 j)) ⟨e.val, by omega⟩
      + Q * Spec.mlp (state W b) (fun i j => at' W main_arg2 (ix2 i j)) (fun j => at' W main_arg3 (ix1 j))
        (fun i j => at' W main_arg4 (ix2 i j)) (fun j => at' W main_arg5 (ix1 j)) ⟨64 + e.val, by omega⟩ + Spec.dense (state W b) (fun i j => at' W main_arg6 (ix2 i j)) (fun j => at' W main_arg7 (ix1 j)) e := fun e => by
    rw [e69, e68, q67, q62, e40]
    exact (Tower.mix_in _ _ _ r e).trans (congrArg₂ (· + ·) (congrArg₂ (· + ·) (congrArg₂ (· * ·) s39.1 (s61 _)) (congrArg₂ (· * ·) s39.2 (s61 _))) (s66 e))
  unfold result Spec.result
  rw [← hP, ← hQ, q130]
  refine (Tower.unstack _ b n).trans ?_
  rw [← hr, e129]
  refine congrArg Spec.abs ?_
  rw [e128, e127, q104, q126]
  refine (Tower.mix_out _ _ _ r).trans (congrArg₂ (· + ·) (Finset.sum_congr rfl fun e _ => congrArg₂ (· * ·) ?_ (s103 e)) s125)
  rw [t82]
  exact (Tower.act_apply _ _ _).trans (congrArg Spec.gelu (s69 e))

end Cert.RefValue

end
-- ==== Proof.Body.lean ====
/- The kernel body's values, read at an index. -/
module

public import proofs.«01_k».proof.Proof.Gen.KernelIdeal.Frame
public import proofs.«01_k».proof.Proof.Spec
public import Idealize.ShloMosaic.Lib.Pointwise

@[expose] public section

set_option maxRecDepth 16384

noncomputable section

namespace Cert.Body

open Idealize.ShloMosaic Cert.KernelIdeal Cert.KernelIdeal.Gen

theorem pay4 (x : Vec Ideal S1024x512 .f32) (w : Vec Ideal S512x512 .f32) (b : Vec Ideal S1x512 .f32)
    (w' : Vec Ideal S512x128 .f32) (b' : Vec Ideal S1x128 .f32) (r : Fin 1024) (c : Fin 128) :
    k0_pay4 x w b w' b' (ix2 r c) = Spec.mlp (fun i => x (ix2 r i)) (fun i j => w (ix2 i j)) (fun j => b (ix2 0 j))
      (fun i j => w' (ix2 i j)) (fun j => b' (ix2 0 j)) c := by
  pointwise [k0_pay4, Spec.mlp, Spec.dense, Spec.gelu]

theorem pay6 (x : Vec Ideal S1024x512 .f32) (w : Vec Ideal S64x512 .f32) (b : Vec Ideal S1x64 .f32)
    (r : Fin 1024) (c : Fin 64) :
    k0_pay6 (k0_pay5 x w) b (ix2 r c) = Spec.dense (fun i => x (ix2 r i)) (fun i j => w (ix2 j i)) (fun j => b (ix2 0 j)) c := by
  pointwise [k0_pay6, k0_pay5, Spec.dense]

theorem pay7 (x : Vec Ideal S1024x512 .f32) (w : Vec Ideal S512x512 .f32) (b : Vec Ideal S1x512 .f32)
    (w' : Vec Ideal S64x512 .f32) (b' : Vec Ideal S1x64 .f32) (r : Fin 1024) (c : Fin 64) :
    k0_pay7 x (k0_pay2 w') w b b' (ix2 r c) = Spec.mlp (fun i => x (ix2 r i)) (fun i j => w (ix2 i j)) (fun j => b (ix2 0 j))
      (fun i j => w' (ix2 j i)) (fun j => b' (ix2 0 j)) c := by
  pointwise [k0_pay7, k0_pay2, Spec.mlp, Spec.dense, Spec.gelu]

theorem pay10 (x : Vec Ideal S1024x512 .f32) (w : Vec Ideal S64x512 .f32) (b : Vec Ideal S1x64 .f32)
    (w' : Vec Ideal S1x64 .f32) (b' : Vec Ideal S1x1 .f32) (r : Fin 1024) :
    k0_pay10 (k0_pay8 x (k0_pay3 w) b) (k0_pay9 x (k0_pay3 w) b) w' b' (ix2 r 0) =
      Spec.mlp (fun i => x (ix2 r i)) (fun i j => w (ix2 j i)) (fun j => b (ix2 0 j))
      (fun i (_ : Fin 1) => w' (ix2 0 i)) (fun _ => b' (ix2 0 0)) 0 := by
  pointwise [k0_pay10, k0_pay8, k0_pay9, k0_pay3, Spec.mlp, Spec.dense, Spec.gelu]

/-- A column's slice lies in the array. -/
theorem slices (o : Fin 16) : S1024x16.Slices ![0, (o : Nat)] S1024x1 := by
  revert o; decide +kernel

/-- The argument of agent `o`'s activation. -/
def pre (o : Fin 16) (w1 : FVec Ideal S1024x128 .f32) (b1 : FVec Ideal S1024x64 .f32) (q p : FVec Ideal S1024x16 .f32) :
    FVec Ideal S1024x64 .f32 :=
  addf (addf
    (mulf (broadcastTo S1024x64 (extractStridedSlice S1024x1 ![0, (o : Nat)] p (slices o)) broadcasts_S1024x1_S1024x64) (k0_pay16 w1))
    (mulf (broadcastTo S1024x64 (extractStridedSlice S1024x1 ![0, (o : Nat)] q (slices o)) broadcasts_S1024x1_S1024x64) (k0_pay17 w1))) b1

theorem pre_apply (o : Fin 16) (w1 : FVec Ideal S1024x128 .f32) (b1 : FVec Ideal S1024x64 .f32) (q p : FVec Ideal S1024x16 .f32)
    (r : Fin 1024) (e : Fin 64) : pre o w1 b1 q p (ix2 r e) =
      p (ix2 r o) * w1 (ix2 r ⟨e, by omega⟩) + q (ix2 r o) * w1 (ix2 r ⟨64 + e, by omega⟩) + b1 (ix2 r e) := by
  pointwise [pre, k0_pay16, k0_pay17]

/-- The activation, as the body spells it. -/
def act (x : FVec Ideal S1024x64 .f32) : FVec Ideal S1024x64 .f32 :=
  mulf x (mulf (broadcast S1024x64 (Scalar.ofBits .f32 0x3F000000#32)) (addf (broadcast S1024x64 (Scalar.ofBits .f32 0x3F800000#32))
    (tanh (mulf (broadcast S1024x64 (Scalar.ofBits .f32 0x3F4C422A#32)) (addf x (mulf (broadcast S1024x64 (Scalar.ofBits .f32 0x3D372713#32))
      (mulf x (mulf x x))))))))

theorem act_apply (x : FVec Ideal S1024x64 .f32) (r : Fin 1024) (e : Fin 64) : act x (ix2 r e) = Spec.gelu (x (ix2 r e)) := by
  pointwise [act, Spec.gelu]

/-- A row's sum, as a column. -/
theorem multiReduction_row (x : FVec Ideal S1024x64 .f32) (r : Fin 1024) :
    shapeCast S1024x1 (multiReduction .add [1] S1024 x 0x00000000#32 reduces_S1024x64_S1024 (.inl rfl) rfl)
      shapeCasts_S1024_S1024x1 (ix2 r 0) = ∑ e : Fin 64, x (ix2 r e) := by
  pointwise

/-- The body's value for agent `o`: one column of the result, before the last offset. -/
def column (o : Fin 16) (w1 : FVec Ideal S1024x128 .f32) (b1 wf : FVec Ideal S1024x64 .f32) (q p : FVec Ideal S1024x16 .f32) :
    FVec Ideal S1024x1 .f32 :=
  shapeCast S1024x1 (multiReduction .add [1] S1024 (mulf (act (pre o w1 b1 q p)) wf) 0x00000000#32 reduces_S1024x64_S1024 (.inl rfl) rfl)
    shapeCasts_S1024_S1024x1

/-- A column at a row. -/
theorem column_apply (o : Fin 16) (w1 : FVec Ideal S1024x128 .f32) (b1 wf : FVec Ideal S1024x64 .f32) (q p : FVec Ideal S1024x16 .f32)
    (r : Fin 1024) : column o w1 b1 wf q p (ix2 r 0) =
      Spec.mix (fun c => w1 (ix2 r c)) (fun e => b1 (ix2 r e)) (fun e => wf (ix2 r e)) (p (ix2 r o)) (q (ix2 r o)) := by
  have e := multiReduction_row (mulf (act (pre o w1 b1 q p)) wf) r
  refine e.trans (Finset.sum_congr rfl fun k _ => ?_)
  exact congrArg (· * wf (ix2 r k)) ((act_apply _ r k).trans (congrArg Spec.gelu (pre_apply o w1 b1 q p r k)))

/-- Sixteen columns side by side. -/
def columns (x : Fin 16 → FVec Ideal S1024x1 .f32) : FVec Ideal S1024x16 .f32 :=
  concatenate S1024x16 1 (List.ofFn fun o => (⟨S1024x1, x o⟩ : (s : Shape) × (s.Idx → Elt Ideal .f32))) concatenates_S1024x1_S1024x1_S1024x1_S1024x1_S1024x1_S1024x1_S1024x1_S1024x1_S1024x1_S1024x1_S1024x1_S1024x1_S1024x1_S1024x1_S1024x1_S1024x1_S1024x16_d1

theorem columns_apply (x : Fin 16 → FVec Ideal S1024x1 .f32) (r : Fin 1024) (n : Fin 16) :
    columns x (ix2 r n) = x n (ix2 r 0) := by
  refine concatenate_ofFn_unit_apply (s₁ := S1024x1) (t := S1024x16) 1 x _ rfl rfl (ix2 r n) n rfl (ix2 r 0) fun b hb => ?_
  match b with
  | ⟨0, _⟩ => rfl
  | ⟨1, _⟩ => exact absurd rfl hb

/-- The kernel's own weight for one term of the coalition sum, as a whole number. -/
def flag : IVec S256x16 32 :=
  extui 32 (cmpi .eq (select k0_pay14 (subi k0_pay13 (broadcast S256x16 1#32)) k0_pay13)
    (iota .tc S256x16 32 [1] iota_S256x16_d1_w32)) natLt_1_32

/-- It is one where the term belongs to the agent and zero elsewhere. -/
theorem flag_apply : ∀ (k : Fin 256) (j : Fin 16), flag (ix2 k j) = if (k : Nat) / 16 = j then 1#32 else 0#32 := by
  intro k j
  pointwise [flag, k0_pay13, k0_pay14]
  revert k j
  decide +kernel

/-- Sixteen copies side by side. -/
def tiled (q : FVec Ideal S1024x16 .f32) : FVec Ideal S1024x256 .f32 :=
  concatenate S1024x256 1 (List.replicate 16 (⟨S1024x16, q⟩ : (s : Shape) × (s.Idx → Elt Ideal .f32))) concatenates_S1024x16_S1024x16_S1024x16_S1024x16_S1024x16_S1024x16_S1024x16_S1024x16_S1024x16_S1024x16_S1024x16_S1024x16_S1024x16_S1024x16_S1024x16_S1024x16_S1024x256_d1

theorem tiled_apply (q : FVec Ideal S1024x16 .f32) (r : Fin 1024) (k : Fin 256) :
    tiled q (ix2 r k) = q (ix2 r ⟨k % 16, by omega⟩) := by
  refine concatenate_replicate_apply (s₁ := S1024x16) (t := S1024x256) 1 16 q _ rfl (ix2 r k) (ix2 r ⟨k % 16, by omega⟩) rfl fun b hb => ?_
  match b with
  | ⟨0, _⟩ => rfl
  | ⟨1, _⟩ => exact absurd rfl hb

/-- A sum over pairs of positions, of which one factor keeps only the pairs of one group. -/
theorem sum_group (f : Fin 256 → EReal) (j : Fin 16) :
    (∑ k : Fin 256, f k * (if (k : Nat) / 16 = j then 1 else 0)) = ∑ i : Fin 16, f ⟨16 * j + i, by omega⟩ := by
  rw [← (finProdFinEquiv (m := 16) (n := 16)).sum_comp, Fintype.sum_prod_type, Finset.sum_eq_single j]
  · refine Finset.sum_congr rfl fun i _ => ?_
    have e : ((finProdFinEquiv (j, i) : Fin (16 * 16)) : Nat) = i + 16 * j := rfl
    have e' : (finProdFinEquiv (j, i) : Fin (16 * 16)) = (⟨16 * j + i, by omega⟩ : Fin 256) := Fin.ext (by rw [e]; simp only; omega)
    rw [if_pos (by rw [e]; omega), mul_one, e']
  · intro a _ ha
    refine Finset.sum_eq_zero fun i _ => ?_
    have e : ((finProdFinEquiv (a, i) : Fin (16 * 16)) : Nat) = i + 16 * a := rfl
    have : (a : Nat) ≠ j := fun h => ha (Fin.ext h)
    rw [if_neg (by rw [e]; omega), mul_zero]
  · simp

/-- The body's coalition value. -/
theorem pay15 (q : FVec Ideal S1024x16 .f32) (w : FVec Ideal S1024x256 .f32) (r : Fin 1024) (j : Fin 16) :
    k0_pay15 q w k0_pay13 k0_pay14 1#32 (ix2 r j) = ∑ i : Fin 16, w (ix2 r ⟨16 * j + i, by omega⟩) * q (ix2 r i) := by
  have h : k0_pay15 q w k0_pay13 k0_pay14 1#32 (ix2 r j)
      = ∑ k : Fin 256, w (ix2 r k) * tiled q (ix2 r k) * (if (k : Nat) / 16 = j then 1 else 0) := by
    have e : k0_pay15 q w k0_pay13 k0_pay14 1#32 = matmul dot_S1024x256_S256x16_S1024x16_1_0_0_1_n_n none (mulf w (tiled q))
        (sitofp .f32 flag) (constant S1024x16 .f32 0x00000000#32) := rfl
    rw [e]
    pointwise
    refine Finset.sum_congr rfl fun k _ => ?_
    rw [flag_apply]
    split
    · rw [show (FloatOps.sitofp .f32 1#32 : Ideal .f32) = (1 : EReal) from by
        show (((1#32).toInt : ℝ) : EReal) = 1; norm_num]
    · rw [show (FloatOps.sitofp .f32 0#32 : Ideal .f32) = (0 : EReal) from by
        show (((0#32).toInt : ℝ) : EReal) = 0; norm_num]
  rw [h, sum_group (fun k => w (ix2 r k) * tiled q (ix2 r k)) j]
  refine Finset.sum_congr rfl fun i _ => ?_
  rw [tiled_apply]
  congr 3
  exact Fin.ext (by simp only; omega)

theorem hz : (![0, 0] : Fin 2 → Nat) = fun _ => 0 := funext fun a => by fin_cases a <;> rfl

/-- The result of the body: the columns, the last offset, the absolute value, turned. -/
def result (w1 : FVec Ideal S1024x128 .f32) (b1 wf : FVec Ideal S1024x64 .f32) (b2 : FVec Ideal S1024x1 .f32)
    (q p : FVec Ideal S1024x16 .f32) : FVec Ideal S16x1024 .f32 :=
  k0_pay1 (addf (columns fun o => column o w1 b1 wf q p) (broadcastTo S1024x16 b2 broadcasts_S1024x1_S1024x16))

theorem result_apply (w1 : FVec Ideal S1024x128 .f32) (b1 wf : FVec Ideal S1024x64 .f32) (b2 : FVec Ideal S1024x1 .f32)
    (q p : FVec Ideal S1024x16 .f32) (n : Fin 16) (r : Fin 1024) :
    result w1 b1 wf b2 q p (ix2 n r) = Spec.abs (Spec.mix (fun c => w1 (ix2 r c)) (fun e => b1 (ix2 r e)) (fun e => wf (ix2 r e))
      (p (ix2 r n)) (q (ix2 r n)) + b2 (ix2 r 0)) := by
  have e : ∀ (y : FVec Ideal S1024x16 .f32), k0_pay1 (addf y (broadcastTo S1024x16 b2 broadcasts_S1024x1_S1024x16)) (ix2 n r)
      = Spec.abs (y (ix2 r n) + b2 (ix2 r 0)) := by
    intro y
    pointwise [k0_pay1, Spec.abs]
  unfold result
  rw [e, columns_apply, column_apply]

/-- What the body leaves in the result's block. -/
theorem out_eq (x0 : Vec Ideal S1024x512 .f32) (x1 : Vec Ideal S16x1024 .f32) (x2 : Vec Ideal S1024x256 .f32) (x3 : Vec Ideal S512x512 .f32) (x4 : Vec Ideal S1x512 .f32) (x5 : Vec Ideal S512x128 .f32) (x6 : Vec Ideal S1x128 .f32) (x7 : Vec Ideal S64x512 .f32) (x8 : Vec Ideal S1x64 .f32) (x9 : Vec Ideal S512x512 .f32) (x10 : Vec Ideal S1x512 .f32) (x11 : Vec Ideal S64x512 .f32) (x12 : Vec Ideal S1x64 .f32) (x13 : Vec Ideal S64x512 .f32) (x14 : Vec Ideal S1x64 .f32) (x15 : Vec Ideal S1x64 .f32) (x16 : Vec Ideal S1x1 .f32) :
    out0_17 x0 x1 x2 x3 x4 x5 x6 x7 x8 x9 x10 x11 x12 x13 x14 x15 x16 = result (k0_pay4 x0 x3 x4 x5 x6) (k0_pay6 (k0_pay5 x0 x7) x8) (k0_pay7 x0 (k0_pay2 x11) x9 x10 x12)
      (k0_pay10 (k0_pay8 x0 (k0_pay3 x13) x14) (k0_pay9 x0 (k0_pay3 x13) x14) x15 x16) (k0_pay11 x1)
      (k0_pay15 (k0_pay11 x1) (k0_pay12 x2) k0_pay13 k0_pay14 1#32) := by
  unfold_out out0_17
  rw [View.canon_unit_zero hz]
  simp only [View.ld_unit_zero (S := S1024x512) hz, View.ld_unit_zero (S := S16x1024) hz, View.ld_unit_zero (S := S1024x256) hz, View.ld_unit_zero (S := S512x512) hz, View.ld_unit_zero (S := S1x512) hz, View.ld_unit_zero (S := S512x128) hz, View.ld_unit_zero (S := S1x128) hz, View.ld_unit_zero (S := S64x512) hz, View.ld_unit_zero (S := S1x64) hz, View.ld_unit_zero (S := S1x1) hz]
  rfl

end Cert.Body

end
-- ==== Proof.KerRun.lean ====
/- The kernel's run: what its result array holds at the end. -/
module

public import proofs.«01_k».proof.Proof.Body
public import Idealize.ShloMosaic.Lib.Pipeline.Value
public import Idealize.ShloMosaic.Lib.Pipeline.ValueKit

@[expose] public section

set_option maxRecDepth 16384

noncomputable section

namespace Cert.KerRun

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Every window's one block is the first along each axis. -/
theorem start : ∀ (w : Fin 18) a, (cfg0.win w).index t0_0 a = 0 := by decide +kernel

/-- Reading at indices of equal coordinates changes nothing. -/
theorem same {s : Shape} {α : Type} (f : s.Idx → s.Idx) (h : ∀ i a, (f i a).val = (i a).val) (X : s.Idx → α) :
    (fun i => X (f i)) = X :=
  funext fun i => congrArg X (funext fun a => Fin.ext (h i a))

variable (c : Dev nD)

/-! Every window's block is its array. -/

theorem blk0 (X : Buf (Elt Ideal) ((c : Thread nD τ).loc main_arg0)) :
    ((cfg0.win 0).blk t0_0).view.read (Elt Ideal) X = X :=
  same _ (fun i a => Pipeline.Window.rect_emb_val_of_index_zero win0_0 t0_0 a (start 0 a) i) X

theorem blk1 (X : Buf (Elt Ideal) ((c : Thread nD τ).loc main_v1)) :
    ((cfg0.win 1).blk t0_0).view.read (Elt Ideal) X = X :=
  same _ (fun i a => Pipeline.Window.rect_emb_val_of_index_zero win0_1 t0_0 a (start 1 a) i) X

theorem blk2 (X : Buf (Elt Ideal) ((c : Thread nD τ).loc main_v25)) :
    ((cfg0.win 2).blk t0_0).view.read (Elt Ideal) X = X :=
  same _ (fun i a => Pipeline.Window.rect_emb_val_of_index_zero win0_2 t0_0 a (start 2 a) i) X

theorem blk3 (X : Buf (Elt Ideal) ((c : Thread nD τ).loc main_arg2)) :
    ((cfg0.win 3).blk t0_0).view.read (Elt Ideal) X = X :=
  same _ (fun i a => Pipeline.Window.rect_emb_val_of_index_zero win0_3 t0_0 a (start 3 a) i) X

theorem blk4 (X : Buf (Elt Ideal) ((c : Thread nD τ).loc main_v26)) :
    ((cfg0.win 4).blk t0_0).view.read (Elt Ideal) X = X :=
  same _ (fun i a => Pipeline.Window.rect_emb_val_of_index_zero win0_4 t0_0 a (start 4 a) i) X

theorem blk5 (X : Buf (Elt Ideal) ((c : Thread nD τ).loc main_arg4)) :
    ((cfg0.win 5).blk t0_0).view.read (Elt Ideal) X = X :=
  same _ (fun i a => Pipeline.Window.rect_emb_val_of_index_zero win0_5 t0_0 a (start 5 a) i) X

theorem blk6 (X : Buf (Elt Ideal) ((c : Thread nD τ).loc main_v27)) :
    ((cfg0.win 6).blk t0_0).view.read (Elt Ideal) X = X :=
  same _ (fun i a => Pipeline.Window.rect_emb_val_of_index_zero win0_6 t0_0 a (start 6 a) i) X

theorem blk7 (X : Buf (Elt Ideal) ((c : Thread nD τ).loc main_v28)) :
    ((cfg0.win 7).blk t0_0).view.read (Elt Ideal) X = X :=
  same _ (fun i a => Pipeline.Window.rect_emb_val_of_index_zero win0_7 t0_0 a (start 7 a) i) X

theorem blk8 (X : Buf (Elt Ideal) ((c : Thread nD τ).loc main_v29)) :
    ((cfg0.win 8).blk t0_0).view.read (Elt Ideal) X = X :=
  same _ (fun i a => Pipeline.Window.rect_emb_val_of_index_zero win0_8 t0_0 a (start 8 a) i) X

theorem blk9 (X : Buf (Elt Ideal) ((c : Thread nD τ).loc main_arg8)) :
    ((cfg0.win 9).blk t0_0).view.read (Elt Ideal) X = X :=
  same _ (fun i a => Pipeline.Window.rect_emb_val_of_index_zero win0_9 t0_0 a (start 9 a) i) X

theorem blk10 (X : Buf (Elt Ideal) ((c : Thread nD τ).loc main_v30)) :
    ((cfg0.win 10).blk t0_0).view.read (Elt Ideal) X = X :=
  same _ (fun i a => Pipeline.Window.rect_emb_val_of_index_zero win0_10 t0_0 a (start 10 a) i) X

theorem blk11 (X : Buf (Elt Ideal) ((c : Thread nD τ).loc main_v31)) :
    ((cfg0.win 11).blk t0_0).view.read (Elt Ideal) X = X :=
  same _ (fun i a => Pipeline.Window.rect_emb_val_of_index_zero win0_11 t0_0 a (start 11 a) i) X

theorem blk12 (X : Buf (Elt Ideal) ((c : Thread nD τ).loc main_v32)) :
    ((cfg0.win 12).blk t0_0).view.read (Elt Ideal) X = X :=
  same _ (fun i a => Pipeline.Window.rect_emb_val_of_index_zero win0_12 t0_0 a (start 12 a) i) X

theorem blk13 (X : Buf (Elt Ideal) ((c : Thread nD τ).loc main_v33)) :
    ((cfg0.win 13).blk t0_0).view.read (Elt Ideal) X = X :=
  same _ (fun i a => Pipeline.Window.rect_emb_val_of_index_zero win0_13 t0_0 a (start 13 a) i) X

theorem blk14 (X : Buf (Elt Ideal) ((c : Thread nD τ).loc main_v34)) :
    ((cfg0.win 14).blk t0_0).view.read (Elt Ideal) X = X :=
  same _ (fun i a => Pipeline.Window.rect_emb_val_of_index_zero win0_14 t0_0 a (start 14 a) i) X

theorem blk15 (X : Buf (Elt Ideal) ((c : Thread nD τ).loc main_v35)) :
    ((cfg0.win 15).blk t0_0).view.read (Elt Ideal) X = X :=
  same _ (fun i a => Pipeline.Window.rect_emb_val_of_index_zero win0_15 t0_0 a (start 15 a) i) X

theorem blk16 (X : Buf (Elt Ideal) ((c : Thread nD τ).loc main_v36)) :
    ((cfg0.win 16).blk t0_0).view.read (Elt Ideal) X = X :=
  same _ (fun i a => Pipeline.Window.rect_emb_val_of_index_zero win0_16 t0_0 a (start 16 a) i) X

/-- The result, of the arrays the windows read. -/
def outOf (U : (b : Ref sig .tc) → Buf (Elt Ideal) ((c : Thread nD τ).loc b)) : Vec Ideal S16x1024 .f32 :=
  out0_17 (U main_arg0) (U main_v1) (U main_v25) (U main_arg2) (U main_v26) (U main_arg4) (U main_v27) (U main_v28) (U main_v29) (U main_arg8) (U main_v30) (U main_v31) (U main_v32) (U main_v33) (U main_v34) (U main_v35) (U main_v36)

theorem blks (U : (b : Ref sig .tc) → Buf (Elt Ideal) ((c : Thread nD τ).loc b)) :
    out0_17 (((cfg0.win 0).blk t0_0).view.read (Elt Ideal) (U (Pipeline.arrRef spec0 0)))
      (((cfg0.win 1).blk t0_0).view.read (Elt Ideal) (U (Pipeline.arrRef spec0 1)))
      (((cfg0.win 2).blk t0_0).view.read (Elt Ideal) (U (Pipeline.arrRef spec0 2)))
      (((cfg0.win 3).blk t0_0).view.read (Elt Ideal) (U (Pipeline.arrRef spec0 3)))
      (((cfg0.win 4).blk t0_0).view.read (Elt Ideal) (U (Pipeline.arrRef spec0 4)))
      (((cfg0.win 5).blk t0_0).view.read (Elt Ideal) (U (Pipeline.arrRef spec0 5)))
      (((cfg0.win 6).blk t0_0).view.read (Elt Ideal) (U (Pipeline.arrRef spec0 6)))
      (((cfg0.win 7).blk t0_0).view.read (Elt Ideal) (U (Pipeline.arrRef spec0 7)))
      (((cfg0.win 8).blk t0_0).view.read (Elt Ideal) (U (Pipeline.arrRef spec0 8)))
      (((cfg0.win 9).blk t0_0).view.read (Elt Ideal) (U (Pipeline.arrRef spec0 9)))
      (((cfg0.win 10).blk t0_0).view.read (Elt Ideal) (U (Pipeline.arrRef spec0 10)))
      (((cfg0.win 11).blk t0_0).view.read (Elt Ideal) (U (Pipeline.arrRef spec0 11)))
      (((cfg0.win 12).blk t0_0).view.read (Elt Ideal) (U (Pipeline.arrRef spec0 12)))
      (((cfg0.win 13).blk t0_0).view.read (Elt Ideal) (U (Pipeline.arrRef spec0 13)))
      (((cfg0.win 14).blk t0_0).view.read (Elt Ideal) (U (Pipeline.arrRef spec0 14)))
      (((cfg0.win 15).blk t0_0).view.read (Elt Ideal) (U (Pipeline.arrRef spec0 15)))
      (((cfg0.win 16).blk t0_0).view.read (Elt Ideal) (U (Pipeline.arrRef spec0 16)))
      = outOf c U := by
  unfold outOf
  congr 1
  · exact blk0 c _
  · exact blk1 c _
  · exact blk2 c _
  · exact blk3 c _
  · exact blk4 c _
  · exact blk5 c _
  · exact blk6 c _
  · exact blk7 c _
  · exact blk8 c _
  · exact blk9 c _
  · exact blk10 c _
  · exact blk11 c _
  · exact blk12 c _
  · exact blk13 c _
  · exact blk14 c _
  · exact blk15 c _
  · exact blk16 c _

/-- The result array after the region. -/
theorem final : (dats m 0 c).arrAt 17 cfg0.N = outOf c (V m c) := by
  refine (dats m 0 c).arrAt_eq_of_covers 17 _ (by decide +kernel) fun t hf y => ?_
  rcases fin_N0 t with rfl
  blk_simp
  rw [after0_17]
  exact (congrFun (blks c (V m c)) y).trans (congrFun (same _ (fun i a => Pipeline.Window.rect_emb_val_of_index_zero win0_17 t0_0 a (start 17 a) i) _) y).symm

/-- What the result's line leaves: the transpose of the region's result. -/
theorem tail : Pipeline.afterTail₀ cfgs (dats m) 0 (V0 m) [hostOps1] c main_v38
    = transpose S1024x16 [1, 0] (outOf c (V m c)) (by decide) := by
  rw [← final]
  unfold Pipeline.afterTail₀
  show transpose S1024x16 [1, 0] (Pipeline.withArrays spec0 c (V0 m c) (fun w => (dats m 0 c).arrAt w cfg0.N) (Proc.devRef .tc main_v37)) _ = _
  exact congrArg (fun x => transpose S1024x16 [1, 0] x _) (Pipeline.withArrays_arr spec0 (by decide +kernel) c (V0 m c) (fun w => (dats m 0 c).arrAt w cfg0.N) 17)

/-- The kernel's run: its result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v38) = transpose S1024x16 [1, 0] (outOf c (V m c)) (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨((h c).2 main_v38 (Pipeline.mem_restRefs_of main_v38 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩)
    (run_main m ρ)

end Cert.KerRun

end
-- ==== Proof.KerValue.lean ====
/- The kernel's value, read at an index from its host operations' equations. -/
module

public import proofs.«01_k».proof.Proof.Body
public import proofs.«01_k».proof.Proof.KerLine
public import proofs.«01_k».proof.Proof.KerRun

@[expose] public section

set_option maxRecDepth 16384

noncomputable section

namespace Cert.KerValue

open Idealize.ShloMosaic Idealize.ShloMosaic.StableHlo Idealize.SL.Sem Cert.Settle Cert.KernelIdeal Cert.KernelIdeal.Gen

/-- The body's result at an index, of the arrays it reads. -/
theorem out_apply (x0 : Vec Ideal S1024x512 .f32) (x1 : Vec Ideal S16x1024 .f32) (x2 : Vec Ideal S1024x256 .f32) (x3 : Vec Ideal S512x512 .f32) (x4 : Vec Ideal S1x512 .f32) (x5 : Vec Ideal S512x128 .f32) (x6 : Vec Ideal S1x128 .f32) (x7 : Vec Ideal S64x512 .f32) (x8 : Vec Ideal S1x64 .f32) (x9 : Vec Ideal S512x512 .f32) (x10 : Vec Ideal S1x512 .f32) (x11 : Vec Ideal S64x512 .f32) (x12 : Vec Ideal S1x64 .f32) (x13 : Vec Ideal S64x512 .f32) (x14 : Vec Ideal S1x64 .f32) (x15 : Vec Ideal S1x64 .f32) (x16 : Vec Ideal S1x1 .f32) (n : Fin 16) (b : Fin 1024) :
    out0_17 x0 x1 x2 x3 x4 x5 x6 x7 x8 x9 x10 x11 x12 x13 x14 x15 x16 (ix2 n b) =
      Spec.result (fun i => x0 (ix2 b i)) (fun i j => x3 (ix2 i j)) (fun j => x4 (ix2 0 j)) (fun i j => x5 (ix2 i j)) (fun j => x6 (ix2 0 j))
        (fun i j => x7 (ix2 j i)) (fun j => x8 (ix2 0 j)) (fun i j => x9 (ix2 i j)) (fun j => x10 (ix2 0 j))
        (fun i j => x11 (ix2 j i)) (fun j => x12 (ix2 0 j)) (fun i j => x13 (ix2 j i)) (fun j => x14 (ix2 0 j))
        (fun i _ => x15 (ix2 0 i)) (fun _ => x16 (ix2 0 0))
        (∑ i : Fin 16, x2 (ix2 b ⟨16 * n.val + i.val, by omega⟩) * x1 (ix2 i b)) (x1 (ix2 n b)) := by
  have h11 : ∀ n, k0_pay11 x1 (ix2 b n) = x1 (ix2 n b) := fun n => by pointwise [k0_pay11]
  have h12 : ∀ j, k0_pay12 x2 (ix2 b j) = x2 (ix2 b j) := fun j => by pointwise [k0_pay12]
  rw [Body.out_eq, Body.result_apply, Body.pay15, Body.pay10, h11]
  unfold Spec.result
  rw [funext (Body.pay4 x0 x3 x4 x5 x6 b), funext (Body.pay6 x0 x7 x8 b), funext (Body.pay7 x0 x9 x10 x11 x12 b)]
  refine congrArg (fun p => Spec.abs (Spec.mix _ _ _ p _ + _)) (Finset.sum_congr rfl fun i _ => ?_)
  rw [h11, h12]

theorem row512 (x : FVec Ideal S512 .f32) (j : Fin 512) : shapeCast S1x512 x shapeCasts_S512_S1x512 (ix2 0 j) = x (ix1 j) := by pointwise
theorem row128 (x : FVec Ideal S128 .f32) (j : Fin 128) : shapeCast S1x128 x shapeCasts_S128_S1x128 (ix2 0 j) = x (ix1 j) := by pointwise
theorem row64 (x : FVec Ideal S64 .f32) (j : Fin 64) : shapeCast S1x64 x shapeCasts_S64_S1x64 (ix2 0 j) = x (ix1 j) := by pointwise
theorem row1 (x : FVec Ideal S1 .f32) : shapeCast S1x1 x shapeCasts_S1_S1x1 (ix2 0 0) = x (ix1 0) := by pointwise
theorem col64 (x : FVec Ideal S64x1 .f32) (j : Fin 64) : shapeCast S1x64 x shapeCasts_S64x1_S1x64 (ix2 0 j) = x (ix2 j 0) := by pointwise
theorem flip (x : FVec Ideal S512x64 .f32) (i : Fin 64) (j : Fin 512) :
    transpose S64x512 [1, 0] x transposes_S512x64_S64x512_1_0 (ix2 i j) = x (ix2 j i) := by pointwise
theorem values (x : FVec Ideal S1024x16x1 .f32) (n : Fin 16) (b : Fin 1024) :
    transpose S16x1024 [1, 0] (shapeCast S1024x16 x shapeCasts_S1024x16x1_S1024x16) transposes_S1024x16_S16x1024_1_0 (ix2 n b) = x (ix3 b n 0) := by pointwise

/-- All the equations of a list of records. -/
def All (W : Valuation τ sig (Elt Ideal)) : List (Step τ sig (Elt Ideal)) → Prop
  | [] => True
  | d :: ds => d.eqn W ∧ All W ds

theorem all {W : Valuation τ sig (Elt Ideal)} : ∀ {ds : List (Step τ sig (Elt Ideal))}, Settled W ds → All W ds
  | [], _ => trivial
  | _ :: _, h => ⟨((settled_cons ..).mp h).1, all ((settled_cons ..).mp h).2⟩

variable {W : Valuation τ sig (Elt Ideal)}

/-- One number of the kernel's result, of the agent's coalition value `p`. -/
def result (W : Valuation τ sig (Elt Ideal)) (p : EReal) (b : Fin 1024) (n : Fin 16) : EReal :=
  Spec.result (fun i => at' W main_arg0 (ix2 b i)) (fun i j => at' W main_arg2 (ix2 i j)) (fun j => at' W main_arg3 (ix1 j))
    (fun i j => at' W main_arg4 (ix2 i j)) (fun j => at' W main_arg5 (ix1 j))
    (fun i j => at' W main_arg6 (ix2 i j)) (fun j => at' W main_arg7 (ix1 j))
    (fun i j => at' W main_arg8 (ix2 i j)) (fun j => at' W main_arg9 (ix1 j))
    (fun i j => at' W main_arg10 (ix2 i j)) (fun j => at' W main_arg11 (ix1 j))
    (fun i j => at' W main_arg12 (ix2 i j)) (fun j => at' W main_arg13 (ix1 j))
    (fun i j => at' W main_arg14 (ix2 i j)) (fun j => at' W main_arg15 (ix1 j)) p (at' W main_arg1 (ix3 b n 0))

/-- A row's values, weighted. -/
def weighted (w : FVec Ideal S1024x256 .f32) (q : FVec Ideal S1024x16x1 .f32) (b : Fin 1024) (n : Fin 16) : EReal :=
  ∑ i : Fin 16, w (ix2 b ⟨16 * n.val + i.val, by omega⟩) * q (ix3 b i 0)

/-- The coalition value as the kernel computes it. -/
def coal (W : Valuation τ sig (Elt Ideal)) (b : Fin 1024) (n : Fin 16) : EReal :=
  weighted (at' W main_v25) (at' W main_arg1) b n

theorem value (h0 : Settled W Ker.recs0.1) (h7 : Settled W Ker.recs7.1) (c : Dev nD) (b : Fin 1024) (n : Fin 16) :
    transpose S1024x16 [1, 0] (KerRun.outOf c fun b => at' W b) (by decide) (ix2 b n) = result W (coal W b n) b n := by
  obtain ⟨e0, e1, -⟩ := all h0
  obtain ⟨-, -, -, -, -, -, -, -, -, -, -, -, -, -, e26, e27, e28, e29, e30, e31, e32, e33, e34, e35, e36, -⟩ := all h7
  have s1 : ∀ n, at' W main_v1 (ix2 n b) = at' W main_arg1 (ix3 b n 0) := fun n =>
    (congrFun (e1.trans (congrArg (fun x => transpose S16x1024 [1, 0] x transposes_S1024x16_S16x1024_1_0) e0)) (ix2 n b)).trans (values _ n b)
  have s26 : (fun j => at' W main_v26 (ix2 0 j)) = fun j => at' W main_arg3 (ix1 j) := funext fun j => (congrFun e26 _).trans (row512 _ j)
  have s27 : (fun j => at' W main_v27 (ix2 0 j)) = fun j => at' W main_arg5 (ix1 j) := funext fun j => (congrFun e27 _).trans (row128 _ j)
  have s28 : (fun i j => at' W main_v28 (ix2 j i)) = fun i j => at' W main_arg6 (ix2 i j) := funext fun i => funext fun j => (congrFun e28 _).trans (flip _ j i)
  have s29 : (fun j => at' W main_v29 (ix2 0 j)) = fun j => at' W main_arg7 (ix1 j) := funext fun j => (congrFun e29 _).trans (row64 _ j)
  have s30 : (fun j => at' W main_v30 (ix2 0 j)) = fun j => at' W main_arg9 (ix1 j) := funext fun j => (congrFun e30 _).trans (row512 _ j)
  have s31 : (fun i j => at' W main_v31 (ix2 j i)) = fun i j => at' W main_arg10 (ix2 i j) := funext fun i => funext fun j => (congrFun e31 _).trans (flip _ j i)
  have s32 : (fun j => at' W main_v32 (ix2 0 j)) = fun j => at' W main_arg11 (ix1 j) := funext fun j => (congrFun e32 _).trans (row64 _ j)
  have s33 : (fun i j => at' W main_v33 (ix2 j i)) = fun i j => at' W main_arg12 (ix2 i j) := funext fun i => funext fun j => (congrFun e33 _).trans (flip _ j i)
  have s34 : (fun j => at' W main_v34 (ix2 0 j)) = fun j => at' W main_arg13 (ix1 j) := funext fun j => (congrFun e34 _).trans (row64 _ j)
  have s35 : (fun i (_ : Fin 1) => at' W main_v35 (ix2 0 i)) = fun i j => at' W main_arg14 (ix2 i j) := funext fun i => funext fun j => by
    rcases Subsingleton.elim j 0
    exact (congrFun e35 _).trans (col64 _ i)
  have s36 : (fun (_ : Fin 1) => at' W main_v36 (ix2 0 0)) = fun j => at' W main_arg15 (ix1 j) := funext fun j => by
    rcases Subsingleton.elim j 0
    exact (congrFun e36 _).trans (row1 _)
  refine (show _ = KerRun.outOf c (fun b => at' W b) (ix2 n b) by pointwise).trans ?_
  unfold KerRun.outOf
  refine (out_apply _ _ _ _ _ _ _ _ _ _ _ _ _ _ _ _ _ n b).trans ?_
  unfold result coal weighted
  beta_reduce
  rw [s26, s27, s28, s29, s30, s31, s32, s33, s34, s35, s36, s1]
  refine congrArg (fun p => Spec.result _ _ _ _ _ _ _ _ _ _ _ _ _ _ _ p _) (Finset.sum_congr rfl fun i _ => ?_)
  rw [s1]

end Cert.KerValue

end
-- ==== Proof.Draw.lean ====
/- Both programs draw the same positions. -/
module

public import proofs.«01_k».proof.Proof.Twin
public import proofs.«01_k».proof.Proof.RefValue
public import proofs.«01_k».proof.Proof.KerValue

@[expose] public section

set_option maxRecDepth 16384

noncomputable section

namespace Cert.Draw

open Idealize.ShloMosaic Idealize.ShloMosaic.StableHlo Idealize.SL.Sem Cert.Settle

variable {W : Valuation Cert.KernelIdeal.τ Cert.KernelIdeal.sig (Elt Ideal)} {W' : Valuation Cert.ReferenceIdeal.τ Cert.ReferenceIdeal.sig (Elt Ideal)}

theorem settled : ∀ {ds : List (Step Cert.ReferenceIdeal.τ Cert.ReferenceIdeal.sig (Elt Ideal))}, RefValue.All W' ds → Settled W' ds
  | [], _ => fun _ h => absurd h List.not_mem_nil
  | _ :: _, h => (settled_cons ..).mpr ⟨h.1, settled h.2⟩

theorem positions (g0 : Settled W Ker.recs0.1) (g1 : Settled W Ker.recs1.1) (g2 : Settled W Ker.recs2.1) (g3 : Settled W Ker.recs3.1) (g4 : Settled W Ker.recs4.1)
    (h0 : Settled W' (Ref.main_p0 0).1) : at' W Cert.KernelIdeal.main_v12 = at' W' Cert.ReferenceIdeal.main_v10 := by
  obtain ⟨-, -, c, c0, a2, a3, a4, c1, a5, a6, a7, a8, -⟩ := KerValue.all g0
  obtain ⟨a10, -⟩ := KerValue.all g2
  obtain ⟨d, d0, b0, b1, b2, d1, b3, b4, b5, b6, k0⟩ := RefValue.all h0
  have key : at' W Cert.KernelIdeal.main_v8 = at' W' Cert.ReferenceIdeal.main_v6 := by
    rw [a8, a7, a6, a5, c1, a4, a3, a2, c0, c, b6, b5, b4, b3, d1, b2, b1, b0, d0, d]
  have keys := Twin.split (W := W) (W' := W') (a := .of Cert.ReferenceIdeal.main_v6) (φ := Cert.ReferenceIdeal.main_call0) key g1 (settled (RefValue.before k0))
  obtain ⟨b8, k0⟩ := RefValue.right k0
  have shuffled := Twin.shuffle (W := W) (W' := W') (a := .of Cert.ReferenceIdeal.main_v7) (b := .of Cert.ReferenceIdeal.main_v8) (φ := Cert.ReferenceIdeal.main_call1) keys (a10.trans b8.symm) g3 (settled (RefValue.before k0))
  exact Twin.argsort (W := W) (W' := W') (a := .of Cert.ReferenceIdeal.main_v9) (φ := Cert.ReferenceIdeal.main_call2) shuffled g4 (settled (RefValue.before (RefValue.right k0)))

end Cert.Draw

end
-- ==== Proof.CoalMath.lean ====
/- Sums of extended reals with nonnegative weights: no finiteness of the summed values is used. -/
module

public import Idealize.ShloMosaic.PureOps.Ideal

@[expose] public section

noncomputable section

namespace Cert.CoalMath

theorem sum_nonneg {ι : Type} (s : Finset ι) {f : ι → EReal} (h : ∀ i, 0 ≤ f i) : 0 ≤ ∑ i ∈ s, f i :=
  Finset.sum_nonneg fun i _ => h i

/-- A sum of nonnegative numbers times any number. -/
theorem sum_mul {ι : Type} (s : Finset ι) {f : ι → EReal} (h : ∀ i, 0 ≤ f i) (q : EReal) :
    (∑ i ∈ s, f i) * q = ∑ i ∈ s, f i * q := by
  classical
  induction s using Finset.induction_on with
  | empty => simp
  | insert a s ha ih => rw [Finset.sum_insert ha, Finset.sum_insert ha, EReal.right_distrib_of_nonneg (h a) (sum_nonneg s h), ih]

/-- A nonnegative real times any sum. -/
theorem mul_sum {ι : Type} (s : Finset ι) (f : ι → EReal) {c : EReal} (hc : 0 ≤ c) (ht : c ≠ ⊤) :
    c * (∑ i ∈ s, f i) = ∑ i ∈ s, c * f i := by
  classical
  induction s using Finset.induction_on with
  | empty => simp
  | insert a s ha ih => rw [Finset.sum_insert ha, Finset.sum_insert ha, EReal.left_distrib_of_nonneg_of_ne_top hc ht, ih]

/-- Zero or one. -/
def bit (p : Prop) [Decidable p] : EReal := if p then 1 else 0

theorem bit_nonneg (p : Prop) [Decidable p] : 0 ≤ bit p := by
  unfold bit; split <;> norm_num

/-- Counting how often each place is drawn and weighting its value is summing the drawn values. -/
theorem count {n k : Nat} (I : Fin n → Fin k) (q : Fin k → EReal) {c : EReal} (hc : 0 ≤ c) (ht : c ≠ ⊤) (p : Prop) [Decidable p] :
    ∑ i, (((∑ s, bit (I s = i)) * c) * bit p) * q i = (∑ s, q (I s) * bit p) * c := by
  by_cases hp : p
  · have e : bit p = 1 := if_pos hp
    simp only [e, mul_one]
    rw [mul_comm, mul_sum _ _ hc ht]
    have e1 : ∀ i, (∑ s, bit (I s = i)) * c * q i = ∑ s, bit (I s = i) * (c * q i) := fun i => by
      rw [mul_assoc, sum_mul _ (fun s => bit_nonneg _)]
    rw [Finset.sum_congr rfl fun i _ => e1 i, Finset.sum_comm]
    refine Finset.sum_congr rfl fun s _ => ?_
    rw [Finset.sum_eq_single (I s)]
    · rw [bit, if_pos rfl, one_mul]
    · intro b _ hb
      rw [bit, if_neg (Ne.symm hb), zero_mul]
    · exact fun h => absurd (Finset.mem_univ _) h
  · have e : bit p = 0 := if_neg hp
    simp [e]

/-- A value times a count, divided by the count unless it is zero. -/
theorem share {n : Nat} (P : Fin n → Prop) [DecidablePred P] (q : EReal) :
    (∑ k, q * bit (P k)) * (if (∑ k, bit (P k)) = 0 then 1 else ∑ k, bit (P k))⁻¹ = q * bit (∃ k, P k) := by
  have hN : (∑ k, bit (P k)) = (((Finset.univ.filter P).card : ℝ) : EReal) := by
    unfold bit
    rw [Finset.sum_ite]
    simp
  have h1 : (∑ k, q * bit (P k)) = q * ∑ k, bit (P k) := by
    rw [mul_comm q, sum_mul _ fun k => bit_nonneg _]
    exact Finset.sum_congr rfl fun k _ => mul_comm _ _
  rw [h1, hN]
  by_cases h : ∃ k, P k
  · have hc : ((Finset.univ.filter P).card : ℝ) ≠ 0 := by
      obtain ⟨k, hk⟩ := h
      exact_mod_cast Finset.card_ne_zero_of_mem (Finset.mem_filter.mpr ⟨Finset.mem_univ k, hk⟩)
    rw [if_neg (by exact_mod_cast hc), bit, if_pos h, mul_assoc, ← EReal.coe_inv, ← EReal.coe_mul, mul_inv_cancel₀ hc, EReal.coe_one]
  · have hc : (Finset.univ.filter P).card = 0 := by
      rw [Finset.card_eq_zero, Finset.filter_eq_empty_iff]
      exact fun k _ hk => h ⟨k, hk⟩
    rw [bit, if_neg h, hc]
    simp

end Cert.CoalMath

end
-- ==== Proof.CoalRef.lean ====
/- The coalition values: of the reference's expressions, read at an index. -/
module

public import proofs.«01_k».proof.Proof.CoalMath
public import proofs.«01_k».proof.Proof.Gen.ReferenceIdeal
public import Idealize.ShloMosaic.Lib.Pointwise
public import Idealize.ShloMosaic.Lib.SortFacts

@[expose] public section

set_option maxRecDepth 16384

noncomputable section

namespace Cert.CoalRef

open Idealize.ShloMosaic Cert.ReferenceIdeal Cert.ReferenceIdeal.Facts₀ Cert.ReferenceIdeal.Facts Cert.CoalMath

/-- A place as the machine's word. -/
abbrev word (i : Fin 16) : BitVec 32 := BitVec.ofNat 32 i.val

theorem flag (b : BitVec 1) (p : Prop) [Decidable p] (h : b = 1#1 ↔ p) : (FloatOps.uitofp (F := Ideal) .f32 b : EReal) = bit p := by
  show ((b.toNat : ℝ) : EReal) = bit p
  unfold bit
  by_cases hp : p
  · rw [if_pos hp, h.mpr hp]; simp
  · rw [if_neg hp]
    have : b ≠ 1#1 := fun e => hp (h.mp e)
    have e : b = 0#1 := by
      clear h; revert this; revert b; decide
    rw [e]; simp

theorem eq_word : ∀ i j : Fin 16, IntOp.cmpi .eq (word i) (word j) = 1#1 ↔ i = j := by decide +kernel

theorem lt_word : ∀ i : Fin 16, IntOp.cmpi .slt (word i) 15#32 = 1#1 ↔ i < 15 := by decide +kernel

theorem hot (x : IVec S32768x16 32) (b : Fin 1024) (s : Fin 32) (n i : Fin 16) (k : Fin 16) (h : x (ix2 (⟨b.val * 32 + s.val, by omega⟩ : Fin 32768) n) = word k) :
    shapeCast S1024x32x16x16 (uitofp (F := Ideal) .f32 (cmpi .eq (broadcastInDim S32768x16x16 ![0, 1, 2] bcast_S32768x16x1_S32768x16x16_0_1_2 (broadcastInDim S32768x16x1 ![0, 1] bcast_S32768x16_S32768x16x1_0_1 x))
      (broadcastInDim S32768x16x16 ![0, 1, 2] bcast_S1x1x16_S32768x16x16_0_1_2 (iotaInDim S1x1x16 32 2)))) shapeCasts_S32768x16x16_S1024x32x16x16 (ix4 b s n i) = bit (k = i) := by
  refine (show _ = FloatOps.uitofp (F := Ideal) .f32 (IntOp.cmpi .eq (x (ix2 (⟨b.val * 32 + s.val, by omega⟩ : Fin 32768) n)) (word i)) by pointwise).trans ?_
  rw [h]
  exact flag _ _ (eq_word k i)

theorem lower : ∀ l j : Fin 16, IntOp.cmpi .sge (IntOp.addi (word l) 0#32) (word j) = if j ≤ l then 1#1 else 0#1 := by decide +kernel

/-- The triangle of ones on and below the diagonal. -/
def triangle : FVec Ideal S16x16 .f32 :=
  select (cmpi .sge (addi (iotaInDim S16x16 32 0) (broadcastInDim S16x16 ![] bcast_S_S16x16 (constantI S_ 32 0#32))) (iotaInDim S16x16 32 1))
    (broadcastInDim S16x16 ![] bcast_S_S16x16 (constant (F := Ideal) S_ .f32 0x3F800000#32)) (broadcastInDim S16x16 ![] bcast_S_S16x16 (constant (F := Ideal) S_ .f32 0x00000000#32))

theorem triangle_apply (l j : Fin 16) : triangle (ix2 l j) = bit (j ≤ l) := by
  refine (show _ = Scalar.select (IntOp.cmpi .sge (IntOp.addi (word l) 0#32) (word j)) (1 : EReal) 0 by pointwise [triangle]).trans ?_
  rw [lower]
  unfold bit
  by_cases h : j ≤ l
  · rw [if_pos h, if_pos h]; rfl
  · rw [if_neg h, if_neg h]; rfl

/-- One place's row of the triangle without the place itself. -/
theorem above (h : FVec Ideal S1024x32x16x16 .f32) (b : Fin 1024) (s : Fin 32) (k j : Fin 16) (p : Fin 16)
    (hp : ∀ l, h (ix4 b s k l) = bit (p = l)) :
    subf (F := Ideal) (Host.dotGeneral (φ₁ := .f32) (φ₂ := .f32) dot_S1024x32x16x16_S16x16_S1024x32x16x16_3_0_012_1_n_n none h triangle) h (ix4 b s k j) = bit (j < p) := by
  refine (show _ = (∑ l : Fin 16, h (ix4 b s k l) * triangle (ix2 l j)) - h (ix4 b s k j) by pointwise).trans ?_
  rw [Finset.sum_congr rfl fun l _ => congrArg₂ (· * ·) (hp l) (triangle_apply l j), Finset.sum_eq_single p, hp]
  · unfold bit
    rw [if_pos rfl, one_mul]
    rcases lt_trichotomy j p with h | h | h
    · rw [if_pos h.le, if_neg h.ne', if_pos h]; simp
    · subst h; simp [← EReal.coe_one, ← EReal.coe_sub]
    · rw [if_neg (not_le.mpr h), if_neg h.ne, if_neg (not_lt.mpr h.le)]; simp
  · intro l _ hl
    show bit (p = l) * _ = 0
    rw [bit, if_neg (Ne.symm hl), zero_mul]
  · exact fun h => absurd (Finset.mem_univ _) h

theorem mean (q : FVec Ideal S1024x32x16 .f32) (t : FVec Ideal S1024x32x16x16 .f32) (b : Fin 1024) (j : Fin 16) (T : Fin 32 → Fin 16 → Prop) [∀ s, DecidablePred (T s)]
    (ht : ∀ s k, t (ix4 b s k j) = bit (T s k)) :
    Host.divf (Host.reduceAdd (Host.divf (Host.reduceAdd (mulf (F := Ideal) (broadcastInDim S1024x32x16x16 ![0, 1, 2, 3] bcast_S1024x32x1x16_S1024x32x16x16_0_1_2_3 (broadcastInDim S1024x32x1x16 ![0, 1, 3] bcast_S1024x32x16_S1024x32x1x16_0_1_3 q)) t)
         (constant (F := Ideal) S_ .f32 0x00000000#32) reducesTo_S1024x32x16x16_S1024x32x16_d2 h_S_)
       (select (cmpf .oeq (Host.reduceAdd t (constant (F := Ideal) S_ .f32 0x00000000#32) reducesTo_S1024x32x16x16_S1024x32x16_d2 h_S_) (broadcastInDim S1024x32x16 ![] bcast_S_S1024x32x16 (constant (F := Ideal) S_ .f32 0x00000000#32)))
         (broadcastInDim S1024x32x16 ![] bcast_S_S1024x32x16 (constant (F := Ideal) S_ .f32 0x3F800000#32))
         (Host.reduceAdd t (constant (F := Ideal) S_ .f32 0x00000000#32) reducesTo_S1024x32x16x16_S1024x32x16_d2 h_S_)))
       (constant (F := Ideal) S_ .f32 0x00000000#32) reducesTo_S1024x32x16_S1024x16_d1 h_S_)
      (broadcastInDim S1024x16 ![] bcast_S_S1024x16 (constant (F := Ideal) S_ .f32 0x42000000#32)) (ix2 b j)
    = Ideal.div (∑ s : Fin 32, q (ix3 b s j) * bit (∃ k, T s k)) (Ideal.ofBits .f32 0x42000000#32) := by
  refine (show _ = Ideal.div (∑ s : Fin 32, Ideal.div (∑ k : Fin 16, q (ix3 b s j) * t (ix4 b s k j))
    (if (∑ k : Fin 16, t (ix4 b s k j)) = 0 then 1 else ∑ k : Fin 16, t (ix4 b s k j))) (Ideal.ofBits .f32 0x42000000#32) by pointwise).trans ?_
  refine congrArg (fun x => Ideal.div x _) (Finset.sum_congr rfl fun s _ => ?_)
  simp only [ht]
  refine Eq.trans ?_ ((share (T s) (q (ix3 b s j))).trans (by unfold bit; congr))
  unfold Ideal.div
  rw [if_neg (by split <;> simp_all)]

theorem gather (x : FVec Ideal S1024x32x16 .f32) (i : IVec S1024x32x16x1 32) (b : Fin 1024) (s : Fin 32) (j k : Fin 16) (h : i (ix4 b s j 0) = word k) :
    Host.gather gather_S1024x32x16_S1024x32x16x1_S1024x32x16_n_2_01_01_2_3_111 x i (ix3 b s j) = x (ix3 b s k) := by
  have e (c) : gather_S1024x32x16_S1024x32x16x1_S1024x32x16_n_2_01_01_2_3_111.siIdx (ix3 b s j) c = ix4 b s j 0 := by
    funext a
    fin_cases a <;> first | rfl | exact Subsingleton.elim (α := Fin 1) _ _
  unfold Host.gather
  refine congrArg x (funext fun a => Fin.ext ?_)
  fin_cases a
  · exact (Nat.zero_add _).trans rfl
  · exact (Nat.zero_add _).trans rfl
  · show min (i (gather_S1024x32x16_S1024x32x16x1_S1024x32x16_n_2_01_01_2_3_111.siIdx (ix3 b s j) _)).toInt.toNat 15 + 0 + 0 = k.val
    rw [e, h]
    clear h e
    revert k; decide

/-- The sort's positions along a row. -/
theorem sort_row (cmp : BitVec 32 × BitVec 32 → BitVec 32 × BitVec 32 → BitVec 1) (x y : IVec S32768x16 32)
    (hy : ∀ r k, y (ix2 r k) = word k) (r : Fin 32768) :
    ∃ σ : Fin 16 → Fin 16, Function.Surjective σ ∧ ∀ k, (Host.sort2 S32768x16 1 cmp x y).2 (ix2 r k) = word (σ k) := by
  let i1 : Fin S32768x16.rank := (1 : Fin 2)
  let al (k k' : Fin 16) : S32768x16.Idx := Shape.Idx.along (s := S32768x16) (ix2 r k) i1 k'
  have ha (k k' : Fin 16) : al k k' = ix2 r k' := by
    funext a
    fin_cases a <;> rfl
  let before (k : Fin 16) (a b : Fin 16) : Bool := cmp (x (al k a), y (al k a)) (x (al k b), y (al k b)) == 1#1
  have hb (k) : before k = before 0 := by
    funext a b
    simp only [before, ha]
  refine ⟨sortedFrom (before 0), sortedFrom_surjective _, fun k => ?_⟩
  rw [← hb k]
  exact (show (Host.sort2 S32768x16 1 cmp x y).2 (ix2 r k) = y (al k (sortedFrom (before k) k)) from rfl).trans ((congrArg y (ha k _)).trans (hy r _))

theorem wrap : ∀ k : Fin 16, Scalar.select (IntOp.cmpi .slt (word k) 0#32) (IntOp.addi (word k) 16#32) (word k) = word k := by decide +kernel

theorem within : ∀ k : Fin 16, IntOp.andi (IntOp.cmpi .sge (word k) 0#32) (IntOp.cmpi .sle (word k) 15#32) = 1#1 := by decide +kernel

/-- The wrapped positions. -/
def wrapped (x : IVec S1024x32x16 32) : IVec S1024x32x16x1 32 :=
  shapeCast S1024x32x16x1 (select (cmpi .slt x (broadcastInDim S1024x32x16 ![] bcast_S_S1024x32x16 (constantI S_ 32 0#32)))
    (addi x (broadcastInDim S1024x32x16 ![] bcast_S_S1024x32x16 (constantI S_ 32 16#32))) x) shapeCasts_S1024x32x16_S1024x32x16x1

theorem wrapped_apply (x : IVec S1024x32x16 32) (b : Fin 1024) (s : Fin 32) (j k : Fin 16) (h : x (ix3 b s j) = word k) :
    wrapped x (ix4 b s j 0) = word k := by
  refine (show _ = Scalar.select (IntOp.cmpi .slt (x (ix3 b s j)) 0#32) (IntOp.addi (x (ix3 b s j)) 16#32) (x (ix3 b s j)) by pointwise [wrapped]).trans ?_
  rw [h]
  exact wrap k

/-- Values taken along the last axis at positions that lie within it. -/
theorem taken (v : FVec Ideal S1024x32x16 .f32) (x : IVec S1024x32x16 32) (b : Fin 1024) (s : Fin 32) (j k : Fin 16) (h : x (ix3 b s j) = word k) :
    select (Host.reduce IntOp.andi (andi (cmpi .sge (wrapped x) (broadcastInDim S1024x32x16x1 ![] bcast_S_S1024x32x16x1 (constantI S_ 32 0#32)))
        (cmpi .sle (wrapped x) (broadcastInDim S1024x32x16x1 ![0, 1, 2, 3] bcast_S1x1x1x1_S1024x32x16x1_0_1_2_3 (broadcastInDim S1x1x1x1 ![3] bcast_S1_S1x1x1x1_3 (constantI S1 32 15#32)))))
      (constantI S_ 1 1#1) reducesTo_S1024x32x16x1_S1024x32x16_d3 h_S_)
      (Host.gather gather_S1024x32x16_S1024x32x16x1_S1024x32x16_n_2_01_01_2_3_111 v (wrapped x))
      (broadcastInDim S1024x32x16 ![] bcast_S_S1024x32x16 (constant (F := Ideal) S_ .f32 0x7FC00000#32)) (ix3 b s j) = v (ix3 b s k) := by
  refine Eq.trans ?_ (gather v (wrapped x) b s j k (wrapped_apply x b s j k h))
  generalize Host.gather gather_S1024x32x16_S1024x32x16x1_S1024x32x16_n_2_01_01_2_3_111 v (wrapped x) = g
  have hw := wrapped_apply x b s j k h
  generalize wrapped x = w at hw ⊢
  have hm : Host.reduce IntOp.andi (andi (cmpi .sge w (broadcastInDim S1024x32x16x1 ![] bcast_S_S1024x32x16x1 (constantI S_ 32 0#32)))
        (cmpi .sle w (broadcastInDim S1024x32x16x1 ![0, 1, 2, 3] bcast_S1x1x1x1_S1024x32x16x1_0_1_2_3 (broadcastInDim S1x1x1x1 ![3] bcast_S1_S1x1x1x1_3 (constantI S1 32 15#32)))))
      (constantI S_ 1 1#1) reducesTo_S1024x32x16x1_S1024x32x16_d3 h_S_ (ix3 b s j) = 1#1 := by
    refine (show _ = Finset.fold IntOp.andi 1#1 (fun z : Fin 1 => IntOp.andi (IntOp.cmpi .sge (w (ix4 b s j z)) 0#32) (IntOp.cmpi .sle (w (ix4 b s j z)) 15#32)) Finset.univ by pointwise).trans ?_
    rw [show (Finset.univ : Finset (Fin 1)) = {0} from rfl, Finset.fold_singleton, hw, within]
    rfl
  show Scalar.select _ _ _ = _
  rw [hm]
  rfl

/-- A number per agent, the same for every permutation. -/
theorem spread (q : FVec Ideal S1024x16x1 .f32) (b : Fin 1024) (s : Fin 32) (j : Fin 16) :
    broadcastInDim S1024x32x16 ![0, 1, 2] bcast_S1024x1x16_S1024x32x16_0_1_2 (broadcastInDim S1024x1x16 ![0, 2] bcast_S1024x16_S1024x1x16_0_2
      (shapeCast S1024x16 q shapeCasts_S1024x16x1_S1024x16)) (ix3 b s j) = q (ix3 b j 0) := by
  pointwise

/-- A row per permutation. -/
theorem rows (x : IVec S32768x16 32) (b : Fin 1024) (s : Fin 32) (j : Fin 16) :
    shapeCast S1024x32x16 x shapeCasts_S32768x16_S1024x32x16 (ix3 b s j) = x (ix2 (⟨b.val * 32 + s.val, by omega⟩ : Fin 32768) j) := by
  pointwise

/-- The places as words. -/
theorem places (r : Fin 32768) (k : Fin 16) :
    broadcastInDim S32768x16 ![1] bcast_S16_S32768x16_1 (iotaInDim S16 32 0) (ix2 r k) = word k := by
  pointwise

theorem places' (r : Fin 32768) (k : Fin 16) : iotaInDim S32768x16 32 1 (ix2 r k) = word k := by
  pointwise

end Cert.CoalRef

end
-- ==== Proof.Coal.lean ====
/- The reference's coalition values: means, over the drawn permutations, of the masked values. -/
module

public import proofs.«01_k».proof.Proof.CoalRef
public import proofs.«01_k».proof.Proof.RefValue

@[expose] public section

set_option maxRecDepth 16384

noncomputable section

namespace Cert.Coal

open Idealize.ShloMosaic Idealize.ShloMosaic.StableHlo Idealize.SL.Sem Cert.Settle Cert.ReferenceIdeal Cert.ReferenceIdeal.Facts₀ Cert.ReferenceIdeal.Facts Cert.CoalMath Cert.RefValue

variable {W : Valuation τ sig (Elt Ideal)}

/-- What the shuffle sorts along with its keys. -/
theorem shuffled {a : TRef sig ⟨S32768x2, .i32⟩} {p : TRef sig ⟨S16, .i32⟩} {φ : fn_shuffle.Bufs} (h : All W (Ref.shuffle a p φ).1)
    (hp : get p W = iotaInDim S16 32 0) (r : Fin 32768) :
    ∃ σ : Fin 16 → Fin 16, Function.Surjective σ ∧ ∀ k, get φ.v23_1 W (ix2 r k) = CoalRef.word (σ k) := by
  obtain ⟨-, -, -, -, -, -, -, -, -, -, -, -, -, -, -, -, -, -, -, -, -, k0⟩ := right h
  obtain ⟨-, e22, -, e23, -⟩ := right k0
  have e : get φ.v23_1 W = (Host.sort2 S32768x16 1 comparator_i32_i32_d1 (get φ.v21 W) (get φ.v22 W)).2 := e23
  have e' : get φ.v22 W = broadcastInDim S32768x16 ![1] bcast_S16_S32768x16_1 (get p W) := e22
  rw [e, e', hp]
  exact CoalRef.sort_row _ _ _ CoalRef.places r

theorem sorted {a : TRef sig ⟨S32768x16, .i32⟩} {φ : fn_argsort.Bufs} (h : All W (Ref.argsort a φ).1) (r : Fin 32768) :
    ∃ σ : Fin 16 → Fin 16, Function.Surjective σ ∧ ∀ k, get φ.v1_1 W (ix2 r k) = CoalRef.word (σ k) := by
  obtain ⟨e0, -, e1, -⟩ := h
  have e : get φ.v1_1 W = (Host.sort2 S32768x16 1 comparator_i32_i32_d1_2 (get a W) (get φ.v0 W)).2 := e1
  have e' : get φ.v0 W = iotaInDim S32768x16 32 1 := e0
  rw [e, e']
  exact CoalRef.sort_row _ _ _ CoalRef.places' r

theorem one_hot {a : TRef sig ⟨S32768x16, .i32⟩} {φ : fn_one_hot.Bufs} (h : All W (Ref.one_hot a φ).1) :
    get φ.v5 W = uitofp (F := Ideal) .f32 (cmpi .eq (broadcastInDim S32768x16x16 ![0, 1, 2] bcast_S32768x16x1_S32768x16x16_0_1_2 (broadcastInDim S32768x16x1 ![0, 1] bcast_S32768x16_S32768x16x1_0_1 (get a W)))
      (broadcastInDim S32768x16x16 ![0, 1, 2] bcast_S1x1x16_S32768x16x16_0_1_2 (iotaInDim S1x1x16 32 2))) := by
  obtain ⟨e0, e1, e2, e3, e4, e5, -⟩ := h
  rw [e5, e4, e3, e2, e1, e0]

theorem tril {a : TRef sig ⟨S16x16, .f32⟩} {φ : fn_tril.Bufs} (h : All W (Ref.tril a φ).1)
    (ha : get a W = broadcastInDim S16x16 ![] bcast_S_S16x16 (constant (F := Ideal) S_ .f32 0x3F800000#32)) :
    get φ.v6 W = CoalRef.triangle := by
  obtain ⟨e0, c0, e1, e2, e3, e4, c1, e5, e6, -⟩ := h
  rw [e6, e5, c1, e4, e3, e2, e1, c0, e0, ha]
  rfl

theorem taken {v : TRef sig ⟨S1024x32x16, .f32⟩} {x : TRef sig ⟨S1024x32x16, .i32⟩} {φ : fn_take_along_axis.Bufs} (h : All W (Ref.take_along_axis v x φ).1)
    (b : Fin 1024) (s : Fin 32) (j k : Fin 16) (hx : get x W (ix3 b s j) = CoalRef.word k) :
    get φ.v15 W (ix3 b s j) = get v W (ix3 b s k) := by
  obtain ⟨c0, e0, e1, c1, e2, e3, e4, e5, c2, c3, e6, e7, e8, e9, e10, e11, c4, e12, e13, c5, e14, e15, -⟩ := h
  have q5 : get φ.v5 W = CoalRef.wrapped (get x W) := by
    refine Eq.trans e5 ?_
    rw [e4, e3, e2, c1, e1, e0, c0]
    rfl
  rw [e15, e14, c5, e13, e12, c4, e11, e10, e9, e8, c2, e7, e6, c3, q5]
  exact CoalRef.taken _ _ b s j k hx

theorem guarded {c : TRef sig ⟨S1024x32x16, .i1⟩} {o : TRef sig ⟨S_, .f32⟩} {x : TRef sig ⟨S1024x32x16, .f32⟩} {φ : fn_where.Bufs} (h : All W (Ref.where_ c o x φ).1) :
    get φ.v2 W = select (get c W) (broadcastInDim S1024x32x16 ![] bcast_S_S1024x32x16 (get o W)) (get x W) := by
  obtain ⟨e0, e1, e2, -⟩ := h
  rw [e2, e1, e0]
  rfl

/-- The mean over the permutations of the values at the drawn positions; the last agent's is empty. -/
def masked (q : FVec Ideal S1024x16x1 .f32) (inv : Fin 32768 → Fin 16 → Fin 16) (b : Fin 1024) (n : Fin 16) : EReal :=
  Ideal.div (∑ s : Fin 32, q (ix3 b (inv ⟨b.val * 32 + s.val, by omega⟩ n) 0) * bit (n < 15)) (Ideal.ofBits .f32 0x42000000#32)

theorem masks {σ : Fin 16 → Fin 16} (h : Function.Surjective σ) (n : Fin 16) : (∃ k, n < σ k) ↔ n < 15 := by
  constructor
  · rintro ⟨k, hk⟩
    omega
  · intro hn
    obtain ⟨k, hk⟩ := h 15
    exact ⟨k, hk ▸ hn⟩

theorem positions (h0 : Settled W (Ref.main_p0 0).1) : ∃ inv : Fin 32768 → Fin 16 → Fin 16, ∀ r k, at' W main_v10 (ix2 r k) = CoalRef.word (inv r k) := by
  obtain ⟨-, -, -, -, -, -, -, -, -, -, k0⟩ := all h0
  obtain ⟨-, k0⟩ := right k0
  have k := sorted (before (right k0))
  choose σ _ hσ using k
  exact ⟨σ, hσ⟩

theorem value (h0 : Settled W (Ref.main_p0 0).1) (inv : Fin 32768 → Fin 16 → Fin 16) (hinv : ∀ r k, at' W main_v10 (ix2 r k) = CoalRef.word (inv r k))
    (b : Fin 1024) (n : Fin 16) : at' W main_v33 (ix2 b n) = masked (at' W main_arg1) inv b n := by
  obtain ⟨-, -, -, -, -, -, -, -, -, -, k0⟩ := all h0
  obtain ⟨e8, k0⟩ := right k0
  have kperm := shuffled (before k0) e8
  obtain ⟨e11, k0⟩ := right (right k0)
  have k12 := one_hot (before k0)
  obtain ⟨e13, cst, e14, k0⟩ := right k0
  have k15 := tril (before k0) (by refine Eq.trans e14 ?_; rw [cst])
  obtain ⟨e16, e17, e18, e19, e20, k0⟩ := right k0
  have k21 := taken (before k0)
  obtain ⟨e22, e23, e24, c2, e25, c3, e26, e27, c4, k0⟩ := right k0
  have k28 := guarded (before k0)
  obtain ⟨c5, e29, e30, c6, e31, c7, e32, e33, -⟩ := right k0
  choose σ hσ hperm using kperm
  have q11 : at' W main_v11 = shapeCast S1024x32x16 (at' W main_v10) shapeCasts_S32768x16_S1024x32x16 := e11
  have q12 : at' W main_v12 = _ := k12
  have q13 : at' W main_v13 = shapeCast S1024x32x16x16 (at' W main_v12) shapeCasts_S32768x16x16_S1024x32x16x16 := e13
  have q15 : at' W main_v15 = CoalRef.triangle := k15
  have q18 : at' W main_v18 = shapeCast S1024x16 (at' W main_arg1) shapeCasts_S1024x16x1_S1024x16 := e18
  have q28 : at' W main_v28 = select (at' W main_v27) (broadcastInDim S1024x32x16 ![] bcast_S_S1024x32x16 (at' W main_cst_4)) (at' W main_v25) := k28
  have t13 (s : Fin 32) (k l : Fin 16) : at' W main_v13 (ix4 b s k l) = bit (σ ⟨b.val * 32 + s.val, by omega⟩ k = l) := by
    rw [q13, q12]
    exact CoalRef.hot _ b s k l _ (hperm _ k)
  have t17 (s : Fin 32) (k j : Fin 16) : at' W main_v17 (ix4 b s k j) = bit (j < σ ⟨b.val * 32 + s.val, by omega⟩ k) := by
    rw [e17, e16, q15]
    exact CoalRef.above _ b s k j _ (t13 s k)
  have t21 (s : Fin 32) : at' W main_v21 (ix3 b s n) = at' W main_arg1 (ix3 b (inv ⟨b.val * 32 + s.val, by omega⟩ n) 0) := by
    refine (k21 b s n (inv ⟨b.val * 32 + s.val, by omega⟩ n) ?_).trans ?_
    · show at' W main_v11 _ = _
      rw [q11]
      exact (CoalRef.rows _ b s n).trans (hinv _ n)
    · show at' W main_v20 _ = _
      rw [e20, e19, q18]
      exact CoalRef.spread _ b s _
  rw [e33, e32, c7, e31, c6, e30, q28, e29, c5, c4, e27, e26, c3, e25, c2, e24, e23, e22]
  refine (CoalRef.mean _ _ b n (fun s k => n < σ ⟨b.val * 32 + s.val, by omega⟩ k) fun s k => t17 s k n).trans ?_
  unfold masked
  refine congrArg (fun x => Ideal.div x _) (Finset.sum_congr rfl fun s _ => congrArg₂ (· * ·) (t21 s) ?_)
  unfold bit
  simp only [masks (hσ _)]

end Cert.Coal

end
-- ==== Proof.KerCoal.lean ====
/- The kernel's coalition values: the weights its host part counts, against the values. -/
module

public import proofs.«01_k».proof.Proof.Coal
public import proofs.«01_k».proof.Proof.KerValue

@[expose] public section

set_option maxRecDepth 16384

noncomputable section

namespace Cert.KerCoal

open Idealize.ShloMosaic Idealize.ShloMosaic.StableHlo Idealize.SL.Sem Cert.Settle Cert.KernelIdeal Cert.KernelIdeal.Gen Cert.CoalMath Cert.KerValue

variable {W : Valuation τ sig (Elt Ideal)}

/-- Where each agent stands in each permutation. -/
theorem hot (x : IVec S32768x16 32) (b : Fin 1024) (s : Fin 32) (n i : Fin 16) (k : Fin 16) (h : x (ix2 (⟨b.val * 32 + s.val, by omega⟩ : Fin 32768) n) = CoalRef.word k) :
    uitofp (F := Ideal) .f32 (cmpi .eq (broadcastInDim S1024x32x16x16 ![0, 1, 2, 3] bcast_S1024x32x16x1_S1024x32x16x16_0_1_2_3
      (broadcastInDim S1024x32x16x1 ![0, 1, 2] bcast_S1024x32x16_S1024x32x16x1_0_1_2 (shapeCast S1024x32x16 x shapeCasts_S32768x16_S1024x32x16)))
      (broadcastInDim S1024x32x16x16 ![0, 1, 2, 3] bcast_S1x1x1x16_S1024x32x16x16_0_1_2_3 (iotaInDim S1x1x1x16 32 3))) (ix4 b s n i) = bit (k = i) := by
  refine (show _ = FloatOps.uitofp (F := Ideal) .f32 (IntOp.cmpi .eq (x (ix2 (⟨b.val * 32 + s.val, by omega⟩ : Fin 32768) n)) (CoalRef.word i)) by pointwise).trans ?_
  rw [h]
  exact CoalRef.flag _ _ (CoalRef.eq_word k i)

theorem weight (x : FVec Ideal S1024x32x16x16 .f32) (b : Fin 1024) (n i : Fin 16) :
    shapeCast S1024x256 (mulf (F := Ideal) (Host.divf (Host.reduceAdd x (constant (F := Ideal) S_ .f32 0x00000000#32) reducesTo_S1024x32x16x16_S1024x16x16_d1 h_S_)
        (broadcastInDim S1024x16x16 ![] bcast_S_S1024x16x16 (constant (F := Ideal) S_ .f32 0x42000000#32)))
      (broadcastInDim S1024x16x16 ![0, 1, 2] bcast_S1x16x1_S1024x16x16_0_1_2 (broadcastInDim S1x16x1 ![1] bcast_S16_S1x16x1_1
        (uitofp (F := Ideal) .f32 (cmpi .slt (iotaInDim S16 32 0) (broadcastInDim S16 ![] bcast_S_S16 (constantI S_ 32 15#32)))))))
      shapeCasts_S1024x16x16_S1024x256 (ix2 b ⟨16 * n.val + i.val, by omega⟩) =
    Ideal.div (∑ s : Fin 32, x (ix4 b s n i)) (Ideal.ofBits .f32 0x42000000#32) * bit (n < 15) := by
  have e : (⟨16 * n.val + i.val, by omega⟩ : Fin 256) = ⟨n.val * 16 + i.val, by omega⟩ := Fin.ext (by simp [mul_comm])
  rw [e]
  refine (show _ = Ideal.div (∑ s : Fin 32, x (ix4 b s n i)) (Ideal.ofBits .f32 0x42000000#32) * FloatOps.uitofp (F := Ideal) .f32 (IntOp.cmpi .slt (CoalRef.word n) 15#32) by pointwise).trans ?_
  rw [CoalRef.flag _ _ (CoalRef.lt_word n)]

theorem thirtytwo : Ideal.ofBits .f32 0x42000000#32 = ((32 : ℝ) : EReal) := by
  simp [Ideal.ofBits, Ideal.ieee, -EReal.coe_mul]
  norm_num

theorem div_thirtytwo (x : EReal) : Ideal.div x (Ideal.ofBits .f32 0x42000000#32) = x * (((32 : ℝ)⁻¹ : ℝ) : EReal) := by
  rw [thirtytwo]
  unfold Ideal.div
  rw [if_neg (by norm_num), EReal.coe_inv]

/-- Weights that count the drawn positions, against the values, are the means of the drawn values. -/
theorem summed (w : FVec Ideal S1024x256 .f32) (q : FVec Ideal S1024x16x1 .f32) (inv : Fin 32768 → Fin 16 → Fin 16) (b : Fin 1024) (n : Fin 16)
    (h : ∀ i : Fin 16, w (ix2 b ⟨16 * n.val + i.val, by omega⟩) =
      Ideal.div (∑ s : Fin 32, bit (inv ⟨b.val * 32 + s.val, by omega⟩ n = i)) (Ideal.ofBits .f32 0x42000000#32) * bit (n < 15)) :
    weighted w q b n = Coal.masked q inv b n := by
  unfold weighted Coal.masked
  simp only [h, div_thirtytwo]
  exact count (fun s : Fin 32 => inv ⟨b.val * 32 + s.val, by omega⟩ n) (fun i => q (ix3 b i 0))
    (by rw [← EReal.coe_zero]; exact EReal.coe_le_coe_iff.mpr (by norm_num)) (EReal.coe_ne_top _) _

/-- The weights against the values: the reference's masked means. -/
theorem value (h5 : Settled W Ker.recs5.1) (h6 : Settled W Ker.recs6.1) (h7 : Settled W Ker.recs7.1) (inv : Fin 32768 → Fin 16 → Fin 16)
    (hinv : ∀ r k, at' W main_v12 (ix2 r k) = CoalRef.word (inv r k)) (b : Fin 1024) (n : Fin 16) :
    coal W b n = Coal.masked (at' W main_arg1) inv b n := by
  obtain ⟨e13, -⟩ := all h5
  obtain ⟨o0, o1, o2, o3, o4, o5, -⟩ := all h6
  obtain ⟨cst, e15, c2, e16, e17, e18, c3, e19, e20, e21, e22, e23, e24, e25, -⟩ := all h7
  have q13 : at' W main_v13 = shapeCast S1024x32x16 (at' W main_v12) shapeCasts_S32768x16_S1024x32x16 := e13
  have q25 : at' W main_v25 = shapeCast S1024x256 (at' W main_v24) shapeCasts_S1024x16x16_S1024x256 := e25
  have q14 (s : Fin 32) (i : Fin 16) : at' W main_v14 (ix4 b s n i) = bit (inv ⟨b.val * 32 + s.val, by omega⟩ n = i) := by
    refine (congrFun (show at' W main_v14 = _ from o5) _).trans ?_
    rw [o4, o3, o2, o1, o0]
    refine Eq.trans ?_ (hot (at' W main_v12) b s n i _ (hinv _ n))
    rw [← q13]
    rfl
  refine summed _ _ inv b n fun i => ?_
  rw [q25, e24, e23, e22, e21, e20, e19, c3, e18, e17, e16, c2, e15, cst]
  refine (weight _ b n i).trans ?_
  exact congrArg (fun x => Ideal.div x _ * _) (Finset.sum_congr rfl fun s _ => q14 s i)

end Cert.KerCoal

end
-- ==== Proof.Equal.lean ====
/- The value claim: both programs run, and end with equal results. -/
module

public import proofs.«01_k».proof.Proof.Draw
public import proofs.«01_k».proof.Proof.KerCoal

@[expose] public section

set_option maxRecDepth 16384

noncomputable section

namespace Cert.Equal

open Idealize.ShloMosaic Idealize.ShloMosaic.StableHlo Idealize.SL.Sem Cert.Settle

variable {W : Valuation Cert.KernelIdeal.τ Cert.KernelIdeal.sig (Elt Ideal)} {W' : Valuation Cert.ReferenceIdeal.τ Cert.ReferenceIdeal.sig (Elt Ideal)}

/-- Both programs' arguments are the same. -/
structure Same (W : Valuation Cert.KernelIdeal.τ Cert.KernelIdeal.sig (Elt Ideal)) (W' : Valuation Cert.ReferenceIdeal.τ Cert.ReferenceIdeal.sig (Elt Ideal)) : Prop where
  a0 : at' W' Cert.ReferenceIdeal.main_arg0 = at' W Cert.KernelIdeal.main_arg0
  a1 : at' W' Cert.ReferenceIdeal.main_arg1 = at' W Cert.KernelIdeal.main_arg1
  a2 : at' W' Cert.ReferenceIdeal.main_arg2 = at' W Cert.KernelIdeal.main_arg2
  a3 : at' W' Cert.ReferenceIdeal.main_arg3 = at' W Cert.KernelIdeal.main_arg3
  a4 : at' W' Cert.ReferenceIdeal.main_arg4 = at' W Cert.KernelIdeal.main_arg4
  a5 : at' W' Cert.ReferenceIdeal.main_arg5 = at' W Cert.KernelIdeal.main_arg5
  a6 : at' W' Cert.ReferenceIdeal.main_arg6 = at' W Cert.KernelIdeal.main_arg6
  a7 : at' W' Cert.ReferenceIdeal.main_arg7 = at' W Cert.KernelIdeal.main_arg7
  a8 : at' W' Cert.ReferenceIdeal.main_arg8 = at' W Cert.KernelIdeal.main_arg8
  a9 : at' W' Cert.ReferenceIdeal.main_arg9 = at' W Cert.KernelIdeal.main_arg9
  a10 : at' W' Cert.ReferenceIdeal.main_arg10 = at' W Cert.KernelIdeal.main_arg10
  a11 : at' W' Cert.ReferenceIdeal.main_arg11 = at' W Cert.KernelIdeal.main_arg11
  a12 : at' W' Cert.ReferenceIdeal.main_arg12 = at' W Cert.KernelIdeal.main_arg12
  a13 : at' W' Cert.ReferenceIdeal.main_arg13 = at' W Cert.KernelIdeal.main_arg13
  a14 : at' W' Cert.ReferenceIdeal.main_arg14 = at' W Cert.KernelIdeal.main_arg14
  a15 : at' W' Cert.ReferenceIdeal.main_arg15 = at' W Cert.KernelIdeal.main_arg15

/-- The two values, from the equations of both programs and equal arguments. -/
theorem values (g : Settled W Ker.recs) (h : Settled W' Ref.steps) (e : Same W W') (c : Dev Cert.KernelIdeal.nD) :
    at' W' Cert.ReferenceIdeal.main_v130 = transpose Cert.KernelIdeal.S1024x16 [1, 0] (KerRun.outOf c fun b => at' W b) (by decide) := by
  have g0 := g.left
  have g1 := g.right.left
  have g2 := g.right.right.left
  have g3 := g.right.right.right.left
  have g4 := g.right.right.right.right.left
  have g5 := g.right.right.right.right.right.left
  have g6 := g.right.right.right.right.right.right.left
  have g7 := g.right.right.right.right.right.right.right.left
  have h0 : Settled W' (Ref.main_p0 0).1 := Settled.left h
  have h1 : Settled W' (Ref.main_p1 0).1 := Settled.left (Settled.right h)
  have h2 : Settled W' (Ref.main_p2 0).1 := Settled.right (Settled.right h)
  obtain ⟨inv, hinv⟩ := Coal.positions h0
  have draw := Draw.positions g0 g1 g2 g3 g4 h0
  funext j
  obtain ⟨b, n, rfl⟩ : ∃ (b : Fin 1024) (n : Fin 16), j = ix2 b n := ⟨j 0, j 1, by funext a; fin_cases a <;> rfl⟩
  refine (RefValue.value h0 h1 h2 b n).trans (Eq.trans ?_ (KerValue.value g0 g7 c b n).symm)
  rw [Coal.value h0 inv hinv b n, KerCoal.value g5 g6 g7 inv (fun r k => (congrFun draw (ix2 r k)).trans (hinv r k)) b n]
  unfold RefValue.result KerValue.result RefValue.state
  rw [e.a0, e.a1, e.a2, e.a3, e.a4, e.a5, e.a6, e.a7, e.a8, e.a9, e.a10, e.a11, e.a12, e.a13, e.a14, e.a15]

theorem algebraic : Cert.algebraic_KernelIdeal_ReferenceIdeal (hKernelIdeal := Cert.KernelIdeal.Gen.facts) (hReferenceIdeal := Cert.ReferenceIdeal.Gen.facts) := by
  intro m g m' g' _ args
  refine ⟨fun c => transpose Cert.KernelIdeal.S1024x16 [1, 0] (KerRun.outOf c (Cert.KernelIdeal.Gen.V m c)) (by decide), KerRun.run m g, ?_⟩
  refine (θ_run Cert.ReferenceIdeal.defs _ _).mono (fun r h c => ?_) (Ref.run_main m' g')
  obtain ⟨W', h1, h2, h3⟩ := h c
  obtain ⟨k1, k2⟩ := Ker.settled m c
  have k : ∀ b : Ref Cert.ReferenceIdeal.sig .tc, lvl b < 16 → r.2.mem ((c.tc : Thread Cert.ReferenceIdeal.nD Cert.ReferenceIdeal.τ).loc b) = m' ((c.tc : Thread Cert.ReferenceIdeal.nD Cert.ReferenceIdeal.τ).loc b) :=
    fun b hb => (h1 b).trans (h2 b hb)
  obtain ⟨a0, a1, a2, a3, a4, a5, a6, a7, a8, a9, a10, a11, a12, a13, a14, a15⟩ := args c
  have e : Same (Cert.KernelIdeal.Gen.V0 m c) W' := ⟨
    (h2 _ (by decide)).trans (a0.trans (k1 Cert.KernelIdeal.main_arg0 (by decide)).symm),
    (h2 _ (by decide)).trans (a1.trans (k1 Cert.KernelIdeal.main_arg1 (by decide)).symm),
    (h2 _ (by decide)).trans (a2.trans (k1 Cert.KernelIdeal.main_arg2 (by decide)).symm),
    (h2 _ (by decide)).trans (a3.trans (k1 Cert.KernelIdeal.main_arg3 (by decide)).symm),
    (h2 _ (by decide)).trans (a4.trans (k1 Cert.KernelIdeal.main_arg4 (by decide)).symm),
    (h2 _ (by decide)).trans (a5.trans (k1 Cert.KernelIdeal.main_arg5 (by decide)).symm),
    (h2 _ (by decide)).trans (a6.trans (k1 Cert.KernelIdeal.main_arg6 (by decide)).symm),
    (h2 _ (by decide)).trans (a7.trans (k1 Cert.KernelIdeal.main_arg7 (by decide)).symm),
    (h2 _ (by decide)).trans (a8.trans (k1 Cert.KernelIdeal.main_arg8 (by decide)).symm),
    (h2 _ (by decide)).trans (a9.trans (k1 Cert.KernelIdeal.main_arg9 (by decide)).symm),
    (h2 _ (by decide)).trans (a10.trans (k1 Cert.KernelIdeal.main_arg10 (by decide)).symm),
    (h2 _ (by decide)).trans (a11.trans (k1 Cert.KernelIdeal.main_arg11 (by decide)).symm),
    (h2 _ (by decide)).trans (a12.trans (k1 Cert.KernelIdeal.main_arg12 (by decide)).symm),
    (h2 _ (by decide)).trans (a13.trans (k1 Cert.KernelIdeal.main_arg13 (by decide)).symm),
    (h2 _ (by decide)).trans (a14.trans (k1 Cert.KernelIdeal.main_arg14 (by decide)).symm),
    (h2 _ (by decide)).trans (a15.trans (k1 Cert.KernelIdeal.main_arg15 (by decide)).symm)⟩
  refine ⟨(h1 _).trans (values k2 h3 e c), k _ ?_, k _ ?_, k _ ?_, k _ ?_, k _ ?_, k _ ?_, k _ ?_, k _ ?_, k _ ?_, k _ ?_, k _ ?_, k _ ?_, k _ ?_, k _ ?_,
    k _ ?_, k _ ?_⟩ <;> decide

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Ref.frame, trivial, Cert.Equal.algebraic⟩

end Cert.Proof

end
